-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384 : Shape := ⟨1, ![16384]⟩
abbrev S1000000x64 : Shape := ⟨2, ![1000000, 64]⟩
abbrev S100000x64 : Shape := ⟨2, ![100000, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x64 .f32) (main_arg3 : FVec F S100000x64 .f32) (main_arg4 : FVec F S128x128 .f32) (main_arg5 : FVec F S128 .f32) (main_arg6 : FVec F S64x128 .f32) (main_arg7 : FVec F S64 .f32) (main_arg8 : FVec F S32x64 .f32) (main_arg9 : FVec F S32 .f32) (main_arg10 : FVec F S16x32 .f32) (main_arg11 : FVec F S16 .f32) (main_arg12 : FVec F S8x16 .f32) (main_arg13 : FVec F S8 .f32) (main_arg14 : FVec F S1x8 .f32) (main_arg15 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S1000000x64 : Shape := ⟨2, ![1000000, 64]⟩
abbrev S100000x64 : Shape := ⟨2, ![100000, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S64x64 : Shape := ⟨2, ![64, 64]⟩
abbrev S_ : Shape := ⟨0, ![]⟩
abbrev S64x1000000 : Shape := ⟨2, ![64, 1000000]⟩
abbrev S64x32768 : Shape := ⟨2, ![64, 32768]⟩
abbrev S32768x64 : Shape := ⟨2, ![32768, 64]⟩
abbrev S64x100000 : Shape := ⟨2, ![64, 100000]⟩
abbrev S16384x64 : Shape := ⟨2, ![16384, 64]⟩
abbrev S512 : Shape := ⟨1, ![512]⟩
abbrev S16x64 : Shape := ⟨2, ![16, 64]⟩
abbrev S1x64 : Shape := ⟨2, ![1, 64]⟩
abbrev S1x128 : Shape := ⟨2, ![1, 128]⟩
abbrev S128x64 : Shape := ⟨2, ![128, 64]⟩
abbrev S64x32 : Shape := ⟨2, ![64, 32]⟩
abbrev S1x32 : Shape := ⟨2, ![1, 32]⟩
abbrev S32x16 : Shape := ⟨2, ![32, 16]⟩
abbrev S1x16 : Shape := ⟨2, ![1, 16]⟩
abbrev S16x8 : Shape := ⟨2, ![16, 8]⟩
abbrev S8x1 : Shape := ⟨2, ![8, 1]⟩
abbrev S1x1 : Shape := ⟨2, ![1, 1]⟩
abbrev S16384x1 : Shape := ⟨2, ![16384, 1]⟩
abbrev S1024x64 : Shape := ⟨2, ![1024, 64]⟩
abbrev S1024x1 : Shape := ⟨2, ![1024, 1]⟩
abbrev S1024x128 : Shape := ⟨2, ![1024, 128]⟩
abbrev S1024x32 : Shape := ⟨2, ![1024, 32]⟩
abbrev S1024x16 : Shape := ⟨2, ![1024, 16]⟩
abbrev S1024x8 : Shape := ⟨2, ![1024, 8]⟩

abbrev nBuf : Table → Nat
  | .hbm => 45
  | .local .tc .vmem => 29
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S32x64, .f32⟩
  | .hbm, ⟨9, _⟩ => ⟨S32, .f32⟩
  | .hbm, ⟨10, _⟩ => ⟨S16x32, .f32⟩
  | .hbm, ⟨11, _⟩ => ⟨S16, .f32⟩
  | .hbm, ⟨12, _⟩ => ⟨S8x16, .f32⟩
  | .hbm, ⟨13, _⟩ => ⟨S8, .f32⟩
  | .hbm, ⟨14, _⟩ => ⟨S1x8, .f32⟩
  | .hbm, ⟨15, _⟩ => ⟨S1, .f32⟩
  | .hbm, ⟨16, _⟩ => ⟨S64x64, .i32⟩
  | .hbm, ⟨17, _⟩ => ⟨S64x64, .i32⟩
  | .hbm, ⟨18, _⟩ => ⟨S_, .i32⟩
  | .hbm, ⟨19, _⟩ => ⟨S64x64, .i32⟩
  | .hbm, ⟨20, _⟩ => ⟨S64x64, .i32⟩
  | .hbm, ⟨21, _⟩ => ⟨S64x64, .i1⟩
  | .hbm, ⟨22, _⟩ => ⟨S64x64, .f32⟩
  | .hbm, ⟨23, _⟩ => ⟨S64x1000000, .f32⟩
  | .hbm, ⟨24, _⟩ => ⟨S1000000x64, .f32⟩
  | .hbm, ⟨25, _⟩ => ⟨S64x100000, .f32⟩
  | .hbm, ⟨26, _⟩ => ⟨S100000x64, .f32⟩
  | .hbm, ⟨27, _⟩ => ⟨S16384x64, .f32⟩
  | .hbm, ⟨28, _⟩ => ⟨S16384x64, .f32⟩
  | .hbm, ⟨29, _⟩ => ⟨S128x128, .f32⟩
  | .hbm, ⟨30, _⟩ => ⟨S64x128, .f32⟩
  | .hbm, ⟨31, _⟩ => ⟨S64x128, .f32⟩
  | .hbm, ⟨32, _⟩ => ⟨S1x128, .f32⟩
  | .hbm, ⟨33, _⟩ => ⟨S128x64, .f32⟩
  | .hbm, ⟨34, _⟩ => ⟨S1x64, .f32⟩
  | .hbm, ⟨35, _⟩ => ⟨S64x32, .f32⟩
  | .hbm, ⟨36, _⟩ => ⟨S1x32, .f32⟩
  | .hbm, ⟨37, _⟩ => ⟨S32x16, .f32⟩
  | .hbm, ⟨38, _⟩ => ⟨S1x16, .f32⟩
  | .hbm, ⟨39, _⟩ => ⟨S16x8, .f32⟩
  | .hbm, ⟨40, _⟩ => ⟨S1x8, .f32⟩
  | .hbm, ⟨41, _⟩ => ⟨S8x1, .f32⟩
  | .hbm, ⟨42, _⟩ => ⟨S1x1, .f32⟩
  | .hbm, ⟨43, _⟩ => ⟨S16384x1, .f32⟩
  | .hbm, ⟨44, _⟩ => ⟨S16384, .f32⟩
  | .local .tc .vmem, ⟨0, _⟩ => ⟨S64x32768, .f32⟩
  | .local .tc .vmem, ⟨1, _⟩ => ⟨S64x32768, .f32⟩
  | .local .tc .vmem, ⟨2, _⟩ => ⟨S64x64, .f32⟩
  | .local .tc .vmem, ⟨3, _⟩ => ⟨S32768x64, .f32⟩
  | .local .tc .vmem, ⟨4, _⟩ => ⟨S32768x64, .f32⟩
  | .local .tc .vmem, ⟨5, _⟩ => ⟨S64x32768, .f32⟩
  | .local .tc .vmem, ⟨6, _⟩ => ⟨S64x32768, .f32⟩
  | .local .tc .vmem, ⟨7, _⟩ => ⟨S64x64, .f32⟩
  | .local .tc .vmem, ⟨8, _⟩ => ⟨S32768x64, .f32⟩
  | .local .tc .vmem, ⟨9, _⟩ => ⟨S32768x64, .f32⟩
  | .local .tc .vmem, ⟨10, _⟩ => ⟨S1024x64, .f32⟩
  | .local .tc .vmem, ⟨11, _⟩ => ⟨S1024x64, .f32⟩
  | .local .tc .vmem, ⟨12, _⟩ => ⟨S1024x64, .f32⟩
  | .local .tc .vmem, ⟨13, _⟩ => ⟨S1024x64, .f32⟩
  | .local .tc .vmem, ⟨14, _⟩ => ⟨S64x128, .f32⟩
  | .local .tc .vmem, ⟨15, _⟩ => ⟨S64x128, .f32⟩
  | .local .tc .vmem, ⟨16, _⟩ => ⟨S1x128, .f32⟩
  | .local .tc .vmem, ⟨17, _⟩ => ⟨S128x64, .f32⟩
  | .local .tc .vmem, ⟨18, _⟩ => ⟨S1x64, .f32⟩
  | .local .tc .vmem, ⟨19, _⟩ => ⟨S64x32, .f32⟩
  | .local .tc .vmem, ⟨20, _⟩ => ⟨S1x32, .f32⟩
  | .local .tc .vmem, ⟨21, _⟩ => ⟨S32x16, .f32⟩
  | .local .tc .vmem, ⟨22, _⟩ => ⟨S1x16, .f32⟩
  | .local .tc .vmem, ⟨23, _⟩ => ⟨S16x8, .f32⟩
  | .local .tc .vmem, ⟨24, _⟩ => ⟨S1x8, .f32⟩
  | .local .tc .vmem, ⟨25, _⟩ => ⟨S8x1, .f32⟩
  | .local .tc .vmem, ⟨26, _⟩ => ⟨S1x1, .f32⟩
  | .local .tc .vmem, ⟨27, _⟩ => ⟨S1024x1, .f32⟩
  | .local .tc .vmem, ⟨28, _⟩ => ⟨S1024x1, .f32⟩
  | .local .scVector .vmem, ⟨0, _⟩ => ⟨S512, .i32⟩
  | .local .scVector .vmem, ⟨1, _⟩ => ⟨S512, .i32⟩
  | .local .scVector .vmem, ⟨2, _⟩ => ⟨S16x64, .f32⟩
  | .local .scVector .vmem, ⟨3, _⟩ => ⟨S16x64, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_arg0_scv : Ref sig .scVector := ⟨.hbm, 0, rfl⟩
abbrev main_arg1_scv : Ref sig .scVector := ⟨.hbm, 1, rfl⟩
abbrev main_v7_scv : Ref sig .scVector := ⟨.hbm, 24, rfl⟩
abbrev main_v9_scv : Ref sig .scVector := ⟨.hbm, 26, rfl⟩
abbrev main_v10_0_scv : Ref sig .scVector := ⟨.hbm, 27, rfl⟩
abbrev main_v10_1_scv : Ref sig .scVector := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg7_0 : Ref sig .tc := ⟨.vmem, 19, rfl⟩
abbrev cc3_stg8_0 : Ref sig .tc := ⟨.vmem, 20, rfl⟩
abbrev cc3_stg9_0 : Ref sig .tc := ⟨.vmem, 21, rfl⟩
abbrev cc3_stg10_0 : Ref sig .tc := ⟨.vmem, 22, rfl⟩
abbrev cc3_stg11_0 : Ref sig .tc := ⟨.vmem, 23, rfl⟩
abbrev cc3_stg12_0 : Ref sig .tc := ⟨.vmem, 24, rfl⟩
abbrev cc3_stg13_0 : Ref sig .tc := ⟨.vmem, 25, rfl⟩
abbrev cc3_stg14_0 : Ref sig .tc := ⟨.vmem, 26, rfl⟩
abbrev cc3_stg15_0 : Ref sig .tc := ⟨.vmem, 27, rfl⟩
abbrev cc3_stg15_1 : Ref sig .tc := ⟨.vmem, 28, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem7_0 : DmaSem sig := 24
abbrev cc3_sem8_0 : DmaSem sig := 25
abbrev cc3_sem9_0 : DmaSem sig := 26
abbrev cc3_sem10_0 : DmaSem sig := 27
abbrev cc3_sem11_0 : DmaSem sig := 28
abbrev cc3_sem12_0 : DmaSem sig := 29
abbrev cc3_sem13_0 : DmaSem sig := 30
abbrev cc3_sem14_0 : DmaSem sig := 31
abbrev cc3_sem15_0 : DmaSem sig := 32
abbrev cc3_sem15_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32768x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32768x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k2_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k2_off2 (k2_t1 : Fin k2_t1_loop.trips) : Fin 1 → Nat :=
  let c0_i32_0 : BitVec 32 := 0#32
  let c1_i32 : BitVec 32 := 1#32
  let arg13 : BitVec 32 := Scf.iv c0_i32_0 c1_i32 k2_t1
  let c16_i32 : BitVec 32 := 16#32
  let v5 : BitVec 32 := Scalar.muli arg13 c16_i32
  let v6 : Index := Scalar.indexCast v5
  ![v6.toNat]
def k2_off3 (v16 : BitVec 32) : Fin 2 → Nat :=
  let c0_i32_8 : BitVec 32 := 0#32
  ![v16.toNat, 0]

def k2_off4 (v21 : BitVec 32) : Fin 2 → Nat :=
  let c0_i32_13 : BitVec 32 := 0#32
  ![v21.toNat, 0]

def k2_off5 (v44 : BitVec 32) : Fin 2 → Nat :=
  let c0_i32_23 : BitVec 32 := 0#32
  ![v44.toNat, 0]

def k2_off6 (v49 : BitVec 32) : Fin 2 → Nat :=
  let c0_i32_28 : BitVec 32 := 0#32
  ![v49.toNat, 0]

def k2_off7 (v72 : BitVec 32) : Fin 2 → Nat :=
  let c0_i32_38 : BitVec 32 := 0#32
  ![v72.toNat, 0]

def k2_off8 (v77 : BitVec 32) : Fin 2 → Nat :=
  let c0_i32_43 : BitVec 32 := 0#32
  ![v77.toNat, 0]

def k2_off9 (v100 : BitVec 32) : Fin 2 → Nat :=
  let c0_i32_52 : BitVec 32 := 0#32
  ![v100.toNat, 0]

def k2_off10 (v105 : BitVec 32) : Fin 2 → Nat :=
  let c0_i32_57 : BitVec 32 := 0#32
  ![v105.toNat, 0]

def k2_off11 (v128 : BitVec 32) : Fin 2 → Nat :=
  let c0_i32_66 : BitVec 32 := 0#32
  ![v128.toNat, 0]

def k2_off12 (v133 : BitVec 32) : Fin 2 → Nat :=
  let c0_i32_71 : BitVec 32 := 0#32
  ![v133.toNat, 0]

def k2_off13 (v156 : BitVec 32) : Fin 2 → Nat :=
  let c0_i32_80 : BitVec 32 := 0#32
  ![v156.toNat, 0]

def k2_off14 (v161 : BitVec 32) : Fin 2 → Nat :=
  let c0_i32_85 : BitVec 32 := 0#32
  ![v161.toNat, 0]

def k2_off15 (v184 : BitVec 32) : Fin 2 → Nat :=
  let c0_i32_94 : BitVec 32 := 0#32
  ![v184.toNat, 0]

def k2_off16 (v189 : BitVec 32) : Fin 2 → Nat :=
  let c0_i32_99 : BitVec 32 := 0#32
  ![v189.toNat, 0]

def k2_off17 (v212 : BitVec 32) : Fin 2 → Nat :=
  let c0_i32_108 : BitVec 32 := 0#32
  ![v212.toNat, 0]

def k2_off18 (v217 : BitVec 32) : Fin 2 → Nat :=
  let c0_i32_113 : BitVec 32 := 0#32
  ![v217.toNat, 0]

def k2_off19 (v240 : BitVec 32) : Fin 2 → Nat :=
  let c0_i32_122 : BitVec 32 := 0#32
  ![v240.toNat, 0]

def k2_off20 (v245 : BitVec 32) : Fin 2 → Nat :=
  let c0_i32_127 : BitVec 32 := 0#32
  ![v245.toNat, 0]

def k2_off21 (v268 : BitVec 32) : Fin 2 → Nat :=
  let c0_i32_136 : BitVec 32 := 0#32
  ![v268.toNat, 0]

def k2_off22 (v273 : BitVec 32) : Fin 2 → Nat :=
  let c0_i32_141 : BitVec 32 := 0#32
  ![v273.toNat, 0]

def k2_off23 (v296 : BitVec 32) : Fin 2 → Nat :=
  let c0_i32_150 : BitVec 32 := 0#32
  ![v296.toNat, 0]

def k2_off24 (v301 : BitVec 32) : Fin 2 → Nat :=
  let c0_i32_155 : BitVec 32 := 0#32
  ![v301.toNat, 0]

def k2_off25 (v324 : BitVec 32) : Fin 2 → Nat :=
  let c0_i32_164 : BitVec 32 := 0#32
  ![v324.toNat, 0]

def k2_off26 (v329 : BitVec 32) : Fin 2 → Nat :=
  let c0_i32_169 : BitVec 32 := 0#32
  ![v329.toNat, 0]

def k2_off27 (v352 : BitVec 32) : Fin 2 → Nat :=
  let c0_i32_178 : BitVec 32 := 0#32
  ![v352.toNat, 0]

def k2_off28 (v357 : BitVec 32) : Fin 2 → Nat :=
  let c0_i32_183 : BitVec 32 := 0#32
  ![v357.toNat, 0]

def k2_off29 (v380 : BitVec 32) : Fin 2 → Nat :=
  let c0_i32_192 : BitVec 32 := 0#32
  ![v380.toNat, 0]

def k2_off30 (v385 : BitVec 32) : Fin 2 → Nat :=
  let c0_i32_197 : BitVec 32 := 0#32
  ![v385.toNat, 0]

def k2_off31 (v408 : BitVec 32) : Fin 2 → Nat :=
  let c0_i32_206 : BitVec 32 := 0#32
  ![v408.toNat, 0]

def k2_off32 (v413 : BitVec 32) : Fin 2 → Nat :=
  let c0_i32_211 : BitVec 32 := 0#32
  ![v413.toNat, 0]

def k2_off33 (v436 : BitVec 32) : Fin 2 → Nat :=
  let c0_i32_220 : BitVec 32 := 0#32
  ![v436.toNat, 0]

def k2_off34 (v441 : BitVec 32) : Fin 2 → Nat :=
  let c0_i32_225 : BitVec 32 := 0#32
  ![v441.toNat, 0]

def k2_chk32 (v441 : BitVec 32) : Prop :=
  (∀ a, (k2_off34 v441) a + S1x64.size a ≤ S100000x64.size a)
theorem k2_off34_inb : ∀ (v441 : BitVec 32) (k2_hw32 : k2_chk32 v441), ∀ a, (k2_off34 v441) a + S1x64.size a ≤ S100000x64.size a := fun v441 k2_hw32 => k2_hw32

def k2_off35 (v16 : BitVec 32) : Fin 2 → Nat :=
  let c0_i32_230 : BitVec 32 := 0#32
  ![v16.toNat, 0]

def k2_chk1 (v16 : BitVec 32) : Prop :=
  (∀ a, (k2_off3 v16) a + S1x64.size a ≤ S1000000x64.size a) ∧
  (∀ a, (k2_off35 v16) a + S1x64.size a ≤ S1000000x64.size a)
theorem k2_off3_inb : ∀ (v16 : BitVec 32) (k2_hw1 : k2_chk1 v16), ∀ a, (k2_off3 v16) a + S1x64.size a ≤ S1000000x64.size a := fun v16 k2_hw1 => k2_hw1.1
theorem k2_off35_inb : ∀ (v16 : BitVec 32) (k2_hw1 : k2_chk1 v16), ∀ a, (k2_off35 v16) a + S1x64.size a ≤ S1000000x64.size a := fun v16 k2_hw1 => k2_hw1.2

def k2_off36 (v21 : BitVec 32) : Fin 2 → Nat :=
  let c0_i32_235 : BitVec 32 := 0#32
  ![v21.toNat, 0]

def k2_chk2 (v21 : BitVec 32) : Prop :=
  (∀ a, (k2_off4 v21) a + S1x64.size a ≤ S100000x64.size a) ∧
  (∀ a, (k2_off36 v21) a + S1x64.size a ≤ S100000x64.size a)
theorem k2_off4_inb : ∀ (v21 : BitVec 32) (k2_hw2 : k2_chk2 v21), ∀ a, (k2_off4 v21) a + S1x64.size a ≤ S100000x64.size a := fun v21 k2_hw2 => k2_hw2.1
theorem k2_off36_inb : ∀ (v21 : BitVec 32) (k2_hw2 : k2_chk2 v21), ∀ a, (k2_off36 v21) a + S1x64.size a ≤ S100000x64.size a := fun v21 k2_hw2 => k2_hw2.2

def k2_off37 (v44 : BitVec 32) : Fin 2 → Nat :=
  let c0_i32_240 : BitVec 32 := 0#32
  ![v44.toNat, 0]

def k2_chk3 (v44 : BitVec 32) : Prop :=
  (∀ a, (k2_off5 v44) a + S1x64.size a ≤ S1000000x64.size a) ∧
  (∀ a, (k2_off37 v44) a + S1x64.size a ≤ S1000000x64.size a)
theorem k2_off5_inb : ∀ (v44 : BitVec 32) (k2_hw3 : k2_chk3 v44), ∀ a, (k2_off5 v44) a + S1x64.size a ≤ S1000000x64.size a := fun v44 k2_hw3 => k2_hw3.1
theorem k2_off37_inb : ∀ (v44 : BitVec 32) (k2_hw3 : k2_chk3 v44), ∀ a, (k2_off37 v44) a + S1x64.size a ≤ S1000000x64.size a := fun v44 k2_hw3 => k2_hw3.2

def k2_off38 (v49 : BitVec 32) : Fin 2 → Nat :=
  let c0_i32_245 : BitVec 32 := 0#32
  ![v49.toNat, 0]

def k2_chk4 (v49 : BitVec 32) : Prop :=
  (∀ a, (k2_off6 v49) a + S1x64.size a ≤ S100000x64.size a) ∧
  (∀ a, (k2_off38 v49) a + S1x64.size a ≤ S100000x64.size a)
theorem k2_off6_inb : ∀ (v49 : BitVec 32) (k2_hw4 : k2_chk4 v49), ∀ a, (k2_off6 v49) a + S1x64.size a ≤ S100000x64.size a := fun v49 k2_hw4 => k2_hw4.1
theorem k2_off38_inb : ∀ (v49 : BitVec 32) (k2_hw4 : k2_chk4 v49), ∀ a, (k2_off38 v49) a + S1x64.size a ≤ S100000x64.size a := fun v49 k2_hw4 => k2_hw4.2

def k2_off39 (v72 : BitVec 32) : Fin 2 → Nat :=
  let c0_i32_250 : BitVec 32 := 0#32
  ![v72.toNat, 0]

def k2_chk5 (v72 : BitVec 32) : Prop :=
  (∀ a, (k2_off7 v72) a + S1x64.size a ≤ S1000000x64.size a) ∧
  (∀ a, (k2_off39 v72) a + S1x64.size a ≤ S1000000x64.size a)
theorem k2_off7_inb : ∀ (v72 : BitVec 32) (k2_hw5 : k2_chk5 v72), ∀ a, (k2_off7 v72) a + S1x64.size a ≤ S1000000x64.size a := fun v72 k2_hw5 => k2_hw5.1
theorem k2_off39_inb : ∀ (v72 : BitVec 32) (k2_hw5 : k2_chk5 v72), ∀ a, (k2_off39 v72) a + S1x64.size a ≤ S1000000x64.size a := fun v72 k2_hw5 => k2_hw5.2

def k2_off40 (v77 : BitVec 32) : Fin 2 → Nat :=
  let c0_i32_255 : BitVec 32 := 0#32
  ![v77.toNat, 0]

def k2_chk6 (v77 : BitVec 32) : Prop :=
  (∀ a, (k2_off8 v77) a + S1x64.size a ≤ S100000x64.size a) ∧
  (∀ a, (k2_off40 v77) a + S1x64.size a ≤ S100000x64.size a)
theorem k2_off8_inb : ∀ (v77 : BitVec 32) (k2_hw6 : k2_chk6 v77), ∀ a, (k2_off8 v77) a + S1x64.size a ≤ S100000x64.size a := fun v77 k2_hw6 => k2_hw6.1
theorem k2_off40_inb : ∀ (v77 : BitVec 32) (k2_hw6 : k2_chk6 v77), ∀ a, (k2_off40 v77) a + S1x64.size a ≤ S100000x64.size a := fun v77 k2_hw6 => k2_hw6.2

def k2_off41 (v100 : BitVec 32) : Fin 2 → Nat :=
  let c0_i32_260 : BitVec 32 := 0#32
  ![v100.toNat, 0]

def k2_chk7 (v100 : BitVec 32) : Prop :=
  (∀ a, (k2_off9 v100) a + S1x64.size a ≤ S1000000x64.size a) ∧
  (∀ a, (k2_off41 v100) a + S1x64.size a ≤ S1000000x64.size a)
theorem k2_off9_inb : ∀ (v100 : BitVec 32) (k2_hw7 : k2_chk7 v100), ∀ a, (k2_off9 v100) a + S1x64.size a ≤ S1000000x64.size a := fun v100 k2_hw7 => k2_hw7.1
theorem k2_off41_inb : ∀ (v100 : BitVec 32) (k2_hw7 : k2_chk7 v100), ∀ a, (k2_off41 v100) a + S1x64.size a ≤ S1000000x64.size a := fun v100 k2_hw7 => k2_hw7.2

def k2_off42 (v105 : BitVec 32) : Fin 2 → Nat :=
  let c0_i32_265 : BitVec 32 := 0#32
  ![v105.toNat, 0]

def k2_chk8 (v105 : BitVec 32) : Prop :=
  (∀ a, (k2_off10 v105) a + S1x64.size a ≤ S100000x64.size a) ∧
  (∀ a, (k2_off42 v105) a + S1x64.size a ≤ S100000x64.size a)
theorem k2_off10_inb : ∀ (v105 : BitVec 32) (k2_hw8 : k2_chk8 v105), ∀ a, (k2_off10 v105) a + S1x64.size a ≤ S100000x64.size a := fun v105 k2_hw8 => k2_hw8.1
theorem k2_off42_inb : ∀ (v105 : BitVec 32) (k2_hw8 : k2_chk8 v105), ∀ a, (k2_off42 v105) a + S1x64.size a ≤ S100000x64.size a := fun v105 k2_hw8 => k2_hw8.2

def k2_off43 (v128 : BitVec 32) : Fin 2 → Nat :=
  let c0_i32_270 : BitVec 32 := 0#32
  ![v128.toNat, 0]

def k2_chk9 (v128 : BitVec 32) : Prop :=
  (∀ a, (k2_off11 v128) a + S1x64.size a ≤ S1000000x64.size a) ∧
  (∀ a, (k2_off43 v128) a + S1x64.size a ≤ S1000000x64.size a)
theorem k2_off11_inb : ∀ (v128 : BitVec 32) (k2_hw9 : k2_chk9 v128), ∀ a, (k2_off11 v128) a + S1x64.size a ≤ S1000000x64.size a := fun v128 k2_hw9 => k2_hw9.1
theorem k2_off43_inb : ∀ (v128 : BitVec 32) (k2_hw9 : k2_chk9 v128), ∀ a, (k2_off43 v128) a + S1x64.size a ≤ S1000000x64.size a := fun v128 k2_hw9 => k2_hw9.2

def k2_off44 (v133 : BitVec 32) : Fin 2 → Nat :=
  let c0_i32_275 : BitVec 32 := 0#32
  ![v133.toNat, 0]

def k2_chk10 (v133 : BitVec 32) : Prop :=
  (∀ a, (k2_off12 v133) a + S1x64.size a ≤ S100000x64.size a) ∧
  (∀ a, (k2_off44 v133) a + S1x64.size a ≤ S100000x64.size a)
theorem k2_off12_inb : ∀ (v133 : BitVec 32) (k2_hw10 : k2_chk10 v133), ∀ a, (k2_off12 v133) a + S1x64.size a ≤ S100000x64.size a := fun v133 k2_hw10 => k2_hw10.1
theorem k2_off44_inb : ∀ (v133 : BitVec 32) (k2_hw10 : k2_chk10 v133), ∀ a, (k2_off44 v133) a + S1x64.size a ≤ S100000x64.size a := fun v133 k2_hw10 => k2_hw10.2

def k2_off45 (v156 : BitVec 32) : Fin 2 → Nat :=
  let c0_i32_280 : BitVec 32 := 0#32
  ![v156.toNat, 0]

def k2_chk11 (v156 : BitVec 32) : Prop :=
  (∀ a, (k2_off13 v156) a + S1x64.size a ≤ S1000000x64.size a) ∧
  (∀ a, (k2_off45 v156) a + S1x64.size a ≤ S1000000x64.size a)
theorem k2_off13_inb : ∀ (v156 : BitVec 32) (k2_hw11 : k2_chk11 v156), ∀ a, (k2_off13 v156) a + S1x64.size a ≤ S1000000x64.size a := fun v156 k2_hw11 => k2_hw11.1
theorem k2_off45_inb : ∀ (v156 : BitVec 32) (k2_hw11 : k2_chk11 v156), ∀ a, (k2_off45 v156) a + S1x64.size a ≤ S1000000x64.size a := fun v156 k2_hw11 => k2_hw11.2

def k2_off46 (v161 : BitVec 32) : Fin 2 → Nat :=
  let c0_i32_285 : BitVec 32 := 0#32
  ![v161.toNat, 0]

def k2_chk12 (v161 : BitVec 32) : Prop :=
  (∀ a, (k2_off14 v161) a + S1x64.size a ≤ S100000x64.size a) ∧
  (∀ a, (k2_off46 v161) a + S1x64.size a ≤ S100000x64.size a)
theorem k2_off14_inb : ∀ (v161 : BitVec 32) (k2_hw12 : k2_chk12 v161), ∀ a, (k2_off14 v161) a + S1x64.size a ≤ S100000x64.size a := fun v161 k2_hw12 => k2_hw12.1
theorem k2_off46_inb : ∀ (v161 : BitVec 32) (k2_hw12 : k2_chk12 v161), ∀ a, (k2_off46 v161) a + S1x64.size a ≤ S100000x64.size a := fun v161 k2_hw12 => k2_hw12.2

def k2_off47 (v184 : BitVec 32) : Fin 2 → Nat :=
  let c0_i32_290 : BitVec 32 := 0#32
  ![v184.toNat, 0]

def k2_chk13 (v184 : BitVec 32) : Prop :=
  (∀ a, (k2_off15 v184) a + S1x64.size a ≤ S1000000x64.size a) ∧
  (∀ a, (k2_off47 v184) a + S1x64.size a ≤ S1000000x64.size a)
theorem k2_off15_inb : ∀ (v184 : BitVec 32) (k2_hw13 : k2_chk13 v184), ∀ a, (k2_off15 v184) a + S1x64.size a ≤ S1000000x64.size a := fun v184 k2_hw13 => k2_hw13.1
theorem k2_off47_inb : ∀ (v184 : BitVec 32) (k2_hw13 : k2_chk13 v184), ∀ a, (k2_off47 v184) a + S1x64.size a ≤ S1000000x64.size a := fun v184 k2_hw13 => k2_hw13.2

def k2_off48 (v189 : BitVec 32) : Fin 2 → Nat :=
  let c0_i32_295 : BitVec 32 := 0#32
  ![v189.toNat, 0]

def k2_chk14 (v189 : BitVec 32) : Prop :=
  (∀ a, (k2_off16 v189) a + S1x64.size a ≤ S100000x64.size a) ∧
  (∀ a, (k2_off48 v189) a + S1x64.size a ≤ S100000x64.size a)
theorem k2_off16_inb : ∀ (v189 : BitVec 32) (k2_hw14 : k2_chk14 v189), ∀ a, (k2_off16 v189) a + S1x64.size a ≤ S100000x64.size a := fun v189 k2_hw14 => k2_hw14.1
theorem k2_off48_inb : ∀ (v189 : BitVec 32) (k2_hw14 : k2_chk14 v189), ∀ a, (k2_off48 v189) a + S1x64.size a ≤ S100000x64.size a := fun v189 k2_hw14 => k2_hw14.2

def k2_off49 (v212 : BitVec 32) : Fin 2 → Nat :=
  let c0_i32_300 : BitVec 32 := 0#32
  ![v212.toNat, 0]

def k2_chk15 (v212 : BitVec 32) : Prop :=
  (∀ a, (k2_off17 v212) a + S1x64.size a ≤ S1000000x64.size a) ∧
  (∀ a, (k2_off49 v212) a + S1x64.size a ≤ S1000000x64.size a)
theorem k2_off17_inb : ∀ (v212 : BitVec 32) (k2_hw15 : k2_chk15 v212), ∀ a, (k2_off17 v212) a + S1x64.size a ≤ S1000000x64.size a := fun v212 k2_hw15 => k2_hw15.1
theorem k2_off49_inb : ∀ (v212 : BitVec 32) (k2_hw15 : k2_chk15 v212), ∀ a, (k2_off49 v212) a + S1x64.size a ≤ S1000000x64.size a := fun v212 k2_hw15 => k2_hw15.2

def k2_off50 (v217 : BitVec 32) : Fin 2 → Nat :=
  let c0_i32_305 : BitVec 32 := 0#32
  ![v217.toNat, 0]

def k2_chk16 (v217 : BitVec 32) : Prop :=
  (∀ a, (k2_off18 v217) a + S1x64.size a ≤ S100000x64.size a) ∧
  (∀ a, (k2_off50 v217) a + S1x64.size a ≤ S100000x64.size a)
theorem k2_off18_inb : ∀ (v217 : BitVec 32) (k2_hw16 : k2_chk16 v217), ∀ a, (k2_off18 v217) a + S1x64.size a ≤ S100000x64.size a := fun v217 k2_hw16 => k2_hw16.1
theorem k2_off50_inb : ∀ (v217 : BitVec 32) (k2_hw16 : k2_chk16 v217), ∀ a, (k2_off50 v217) a + S1x64.size a ≤ S100000x64.size a := fun v217 k2_hw16 => k2_hw16.2

def k2_off51 (v240 : BitVec 32) : Fin 2 → Nat :=
  let c0_i32_310 : BitVec 32 := 0#32
  ![v240.toNat, 0]

def k2_chk17 (v240 : BitVec 32) : Prop :=
  (∀ a, (k2_off19 v240) a + S1x64.size a ≤ S1000000x64.size a) ∧
  (∀ a, (k2_off51 v240) a + S1x64.size a ≤ S1000000x64.size a)
theorem k2_off19_inb : ∀ (v240 : BitVec 32) (k2_hw17 : k2_chk17 v240), ∀ a, (k2_off19 v240) a + S1x64.size a ≤ S1000000x64.size a := fun v240 k2_hw17 => k2_hw17.1
theorem k2_off51_inb : ∀ (v240 : BitVec 32) (k2_hw17 : k2_chk17 v240), ∀ a, (k2_off51 v240) a + S1x64.size a ≤ S1000000x64.size a := fun v240 k2_hw17 => k2_hw17.2

def k2_off52 (v245 : BitVec 32) : Fin 2 → Nat :=
  let c0_i32_315 : BitVec 32 := 0#32
  ![v245.toNat, 0]

def k2_chk18 (v245 : BitVec 32) : Prop :=
  (∀ a, (k2_off20 v245) a + S1x64.size a ≤ S100000x64.size a) ∧
  (∀ a, (k2_off52 v245) a + S1x64.size a ≤ S100000x64.size a)
theorem k2_off20_inb : ∀ (v245 : BitVec 32) (k2_hw18 : k2_chk18 v245), ∀ a, (k2_off20 v245) a + S1x64.size a ≤ S100000x64.size a := fun v245 k2_hw18 => k2_hw18.1
theorem k2_off52_inb : ∀ (v245 : BitVec 32) (k2_hw18 : k2_chk18 v245), ∀ a, (k2_off52 v245) a + S1x64.size a ≤ S100000x64.size a := fun v245 k2_hw18 => k2_hw18.2

def k2_off53 (v268 : BitVec 32) : Fin 2 → Nat :=
  let c0_i32_320 : BitVec 32 := 0#32
  ![v268.toNat, 0]

def k2_chk19 (v268 : BitVec 32) : Prop :=
  (∀ a, (k2_off21 v268) a + S1x64.size a ≤ S1000000x64.size a) ∧
  (∀ a, (k2_off53 v268) a + S1x64.size a ≤ S1000000x64.size a)
theorem k2_off21_inb : ∀ (v268 : BitVec 32) (k2_hw19 : k2_chk19 v268), ∀ a, (k2_off21 v268) a + S1x64.size a ≤ S1000000x64.size a := fun v268 k2_hw19 => k2_hw19.1
theorem k2_off53_inb : ∀ (v268 : BitVec 32) (k2_hw19 : k2_chk19 v268), ∀ a, (k2_off53 v268) a + S1x64.size a ≤ S1000000x64.size a := fun v268 k2_hw19 => k2_hw19.2

def k2_off54 (v273 : BitVec 32) : Fin 2 → Nat :=
  let c0_i32_325 : BitVec 32 := 0#32
  ![v273.toNat, 0]

def k2_chk20 (v273 : BitVec 32) : Prop :=
  (∀ a, (k2_off22 v273) a + S1x64.size a ≤ S100000x64.size a) ∧
  (∀ a, (k2_off54 v273) a + S1x64.size a ≤ S100000x64.size a)
theorem k2_off22_inb : ∀ (v273 : BitVec 32) (k2_hw20 : k2_chk20 v273), ∀ a, (k2_off22 v273) a + S1x64.size a ≤ S100000x64.size a := fun v273 k2_hw20 => k2_hw20.1
theorem k2_off54_inb : ∀ (v273 : BitVec 32) (k2_hw20 : k2_chk20 v273), ∀ a, (k2_off54 v273) a + S1x64.size a ≤ S100000x64.size a := fun v273 k2_hw20 => k2_hw20.2

def k2_off55 (v296 : BitVec 32) : Fin 2 → Nat :=
  let c0_i32_330 : BitVec 32 := 0#32
  ![v296.toNat, 0]

def k2_chk21 (v296 : BitVec 32) : Prop :=
  (∀ a, (k2_off23 v296) a + S1x64.size a ≤ S1000000x64.size a) ∧
  (∀ a, (k2_off55 v296) a + S1x64.size a ≤ S1000000x64.size a)
theorem k2_off23_inb : ∀ (v296 : BitVec 32) (k2_hw21 : k2_chk21 v296), ∀ a, (k2_off23 v296) a + S1x64.size a ≤ S1000000x64.size a := fun v296 k2_hw21 => k2_hw21.1
theorem k2_off55_inb : ∀ (v296 : BitVec 32) (k2_hw21 : k2_chk21 v296), ∀ a, (k2_off55 v296) a + S1x64.size a ≤ S1000000x64.size a := fun v296 k2_hw21 => k2_hw21.2

def k2_off56 (v301 : BitVec 32) : Fin 2 → Nat :=
  let c0_i32_335 : BitVec 32 := 0#32
  ![v301.toNat, 0]

def k2_chk22 (v301 : BitVec 32) : Prop :=
  (∀ a, (k2_off24 v301) a + S1x64.size a ≤ S100000x64.size a) ∧
  (∀ a, (k2_off56 v301) a + S1x64.size a ≤ S100000x64.size a)
theorem k2_off24_inb : ∀ (v301 : BitVec 32) (k2_hw22 : k2_chk22 v301), ∀ a, (k2_off24 v301) a + S1x64.size a ≤ S100000x64.size a := fun v301 k2_hw22 => k2_hw22.1
theorem k2_off56_inb : ∀ (v301 : BitVec 32) (k2_hw22 : k2_chk22 v301), ∀ a, (k2_off56 v301) a + S1x64.size a ≤ S100000x64.size a := fun v301 k2_hw22 => k2_hw22.2

def k2_off57 (v324 : BitVec 32) : Fin 2 → Nat :=
  let c0_i32_340 : BitVec 32 := 0#32
  ![v324.toNat, 0]

def k2_chk23 (v324 : BitVec 32) : Prop :=
  (∀ a, (k2_off25 v324) a + S1x64.size a ≤ S1000000x64.size a) ∧
  (∀ a, (k2_off57 v324) a + S1x64.size a ≤ S1000000x64.size a)
theorem k2_off25_inb : ∀ (v324 : BitVec 32) (k2_hw23 : k2_chk23 v324), ∀ a, (k2_off25 v324) a + S1x64.size a ≤ S1000000x64.size a := fun v324 k2_hw23 => k2_hw23.1
theorem k2_off57_inb : ∀ (v324 : BitVec 32) (k2_hw23 : k2_chk23 v324), ∀ a, (k2_off57 v324) a + S1x64.size a ≤ S1000000x64.size a := fun v324 k2_hw23 => k2_hw23.2

def k2_off58 (v329 : BitVec 32) : Fin 2 → Nat :=
  let c0_i32_345 : BitVec 32 := 0#32
  ![v329.toNat, 0]

def k2_chk24 (v329 : BitVec 32) : Prop :=
  (∀ a, (k2_off26 v329) a + S1x64.size a ≤ S100000x64.size a) ∧
  (∀ a, (k2_off58 v329) a + S1x64.size a ≤ S100000x64.size a)
theorem k2_off26_inb : ∀ (v329 : BitVec 32) (k2_hw24 : k2_chk24 v329), ∀ a, (k2_off26 v329) a + S1x64.size a ≤ S100000x64.size a := fun v329 k2_hw24 => k2_hw24.1
theorem k2_off58_inb : ∀ (v329 : BitVec 32) (k2_hw24 : k2_chk24 v329), ∀ a, (k2_off58 v329) a + S1x64.size a ≤ S100000x64.size a := fun v329 k2_hw24 => k2_hw24.2

def k2_off59 (v352 : BitVec 32) : Fin 2 → Nat :=
  let c0_i32_350 : BitVec 32 := 0#32
  ![v352.toNat, 0]

def k2_chk25 (v352 : BitVec 32) : Prop :=
  (∀ a, (k2_off27 v352) a + S1x64.size a ≤ S1000000x64.size a) ∧
  (∀ a, (k2_off59 v352) a + S1x64.size a ≤ S1000000x64.size a)
theorem k2_off27_inb : ∀ (v352 : BitVec 32) (k2_hw25 : k2_chk25 v352), ∀ a, (k2_off27 v352) a + S1x64.size a ≤ S1000000x64.size a := fun v352 k2_hw25 => k2_hw25.1
theorem k2_off59_inb : ∀ (v352 : BitVec 32) (k2_hw25 : k2_chk25 v352), ∀ a, (k2_off59 v352) a + S1x64.size a ≤ S1000000x64.size a := fun v352 k2_hw25 => k2_hw25.2

def k2_off60 (v357 : BitVec 32) : Fin 2 → Nat :=
  let c0_i32_355 : BitVec 32 := 0#32
  ![v357.toNat, 0]

def k2_chk26 (v357 : BitVec 32) : Prop :=
  (∀ a, (k2_off28 v357) a + S1x64.size a ≤ S100000x64.size a) ∧
  (∀ a, (k2_off60 v357) a + S1x64.size a ≤ S100000x64.size a)
theorem k2_off28_inb : ∀ (v357 : BitVec 32) (k2_hw26 : k2_chk26 v357), ∀ a, (k2_off28 v357) a + S1x64.size a ≤ S100000x64.size a := fun v357 k2_hw26 => k2_hw26.1
theorem k2_off60_inb : ∀ (v357 : BitVec 32) (k2_hw26 : k2_chk26 v357), ∀ a, (k2_off60 v357) a + S1x64.size a ≤ S100000x64.size a := fun v357 k2_hw26 => k2_hw26.2

def k2_off61 (v380 : BitVec 32) : Fin 2 → Nat :=
  let c0_i32_360 : BitVec 32 := 0#32
  ![v380.toNat, 0]

def k2_chk27 (v380 : BitVec 32) : Prop :=
  (∀ a, (k2_off29 v380) a + S1x64.size a ≤ S1000000x64.size a) ∧
  (∀ a, (k2_off61 v380) a + S1x64.size a ≤ S1000000x64.size a)
theorem k2_off29_inb : ∀ (v380 : BitVec 32) (k2_hw27 : k2_chk27 v380), ∀ a, (k2_off29 v380) a + S1x64.size a ≤ S1000000x64.size a := fun v380 k2_hw27 => k2_hw27.1
theorem k2_off61_inb : ∀ (v380 : BitVec 32) (k2_hw27 : k2_chk27 v380), ∀ a, (k2_off61 v380) a + S1x64.size a ≤ S1000000x64.size a := fun v380 k2_hw27 => k2_hw27.2

def k2_off62 (v385 : BitVec 32) : Fin 2 → Nat :=
  let c0_i32_365 : BitVec 32 := 0#32
  ![v385.toNat, 0]

def k2_chk28 (v385 : BitVec 32) : Prop :=
  (∀ a, (k2_off30 v385) a + S1x64.size a ≤ S100000x64.size a) ∧
  (∀ a, (k2_off62 v385) a + S1x64.size a ≤ S100000x64.size a)
theorem k2_off30_inb : ∀ (v385 : BitVec 32) (k2_hw28 : k2_chk28 v385), ∀ a, (k2_off30 v385) a + S1x64.size a ≤ S100000x64.size a := fun v385 k2_hw28 => k2_hw28.1
theorem k2_off62_inb : ∀ (v385 : BitVec 32) (k2_hw28 : k2_chk28 v385), ∀ a, (k2_off62 v385) a + S1x64.size a ≤ S100000x64.size a := fun v385 k2_hw28 => k2_hw28.2

def k2_off63 (v408 : BitVec 32) : Fin 2 → Nat :=
  let c0_i32_370 : BitVec 32 := 0#32
  ![v408.toNat, 0]

def k2_chk29 (v408 : BitVec 32) : Prop :=
  (∀ a, (k2_off31 v408) a + S1x64.size a ≤ S1000000x64.size a) ∧
  (∀ a, (k2_off63 v408) a + S1x64.size a ≤ S1000000x64.size a)
theorem k2_off31_inb : ∀ (v408 : BitVec 32) (k2_hw29 : k2_chk29 v408), ∀ a, (k2_off31 v408) a + S1x64.size a ≤ S1000000x64.size a := fun v408 k2_hw29 => k2_hw29.1
theorem k2_off63_inb : ∀ (v408 : BitVec 32) (k2_hw29 : k2_chk29 v408), ∀ a, (k2_off63 v408) a + S1x64.size a ≤ S1000000x64.size a := fun v408 k2_hw29 => k2_hw29.2

def k2_off64 (v413 : BitVec 32) : Fin 2 → Nat :=
  let c0_i32_375 : BitVec 32 := 0#32
  ![v413.toNat, 0]

def k2_chk30 (v413 : BitVec 32) : Prop :=
  (∀ a, (k2_off32 v413) a + S1x64.size a ≤ S100000x64.size a) ∧
  (∀ a, (k2_off64 v413) a + S1x64.size a ≤ S100000x64.size a)
theorem k2_off32_inb : ∀ (v413 : BitVec 32) (k2_hw30 : k2_chk30 v413), ∀ a, (k2_off32 v413) a + S1x64.size a ≤ S100000x64.size a := fun v413 k2_hw30 => k2_hw30.1
theorem k2_off64_inb : ∀ (v413 : BitVec 32) (k2_hw30 : k2_chk30 v413), ∀ a, (k2_off64 v413) a + S1x64.size a ≤ S100000x64.size a := fun v413 k2_hw30 => k2_hw30.2

def k2_off65 (v436 : BitVec 32) : Fin 2 → Nat :=
  let c0_i32_380 : BitVec 32 := 0#32
  ![v436.toNat, 0]

def k2_chk31 (v436 : BitVec 32) : Prop :=
  (∀ a, (k2_off33 v436) a + S1x64.size a ≤ S1000000x64.size a) ∧
  (∀ a, (k2_off65 v436) a + S1x64.size a ≤ S1000000x64.size a)
theorem k2_off33_inb : ∀ (v436 : BitVec 32) (k2_hw31 : k2_chk31 v436), ∀ a, (k2_off33 v436) a + S1x64.size a ≤ S1000000x64.size a := fun v436 k2_hw31 => k2_hw31.1
theorem k2_off65_inb : ∀ (v436 : BitVec 32) (k2_hw31 : k2_chk31 v436), ∀ a, (k2_off65 v436) a + S1x64.size a ≤ S1000000x64.size a := fun v436 k2_hw31 => k2_hw31.2

def k2_off66 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg13 : BitVec 32 := Scf.iv c0_i32_0 c1_i32 k2_t1
  let c16_i32 : BitVec 32 := 16#32
  let v5 : BitVec 32 := Scalar.muli arg13 c16_i32
  let v714 : BitVec 32 := Scalar.addi v2 v5
  let c0_i32_388_r2 : BitVec 32 := 0#32
  ![v714.toNat, 0]
abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S32x16 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x16 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S16x8 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x8 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S8x1 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x1 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S1024x1 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x64 : Shape := ⟨2, ![1000000, 64]⟩
abbrev S100000x64 : Shape := ⟨2, ![100000, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x128 : Shape := ⟨2, ![16384, 128]⟩
abbrev S1x128 : Shape := ⟨2, ![1, 128]⟩
abbrev S128x64 : Shape := ⟨2, ![128, 64]⟩
abbrev S1x64 : Shape := ⟨2, ![1, 64]⟩
abbrev S64x32 : Shape := ⟨2, ![64, 32]⟩
abbrev S16384x32 : Shape := ⟨2, ![16384, 32]⟩
abbrev S1x32 : Shape := ⟨2, ![1, 32]⟩
abbrev S32x16 : Shape := ⟨2, ![32, 16]⟩
abbrev S16384x16 : Shape := ⟨2, ![16384, 16]⟩
abbrev S1x16 : Shape := ⟨2, ![1, 16]⟩
abbrev S16x8 : Shape := ⟨2, ![16, 8]⟩
abbrev S16384x8 : Shape := ⟨2, ![16384, 8]⟩
abbrev S8x1 : Shape := ⟨2, ![8, 1]⟩

abbrev nBuf : Space → Nat
  | .hbm => 112
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S32x64, .f32⟩
  | .hbm, ⟨9, _⟩ => ⟨S32, .f32⟩
  | .hbm, ⟨10, _⟩ => ⟨S16x32, .f32⟩
  | .hbm, ⟨11, _⟩ => ⟨S16, .f32⟩
  | .hbm, ⟨12, _⟩ => ⟨S8x16, .f32⟩
  | .hbm, ⟨13, _⟩ => ⟨S8, .f32⟩
  | .hbm, ⟨14, _⟩ => ⟨S1x8, .f32⟩
  | .hbm, ⟨15, _⟩ => ⟨S1, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S1x1, .i32⟩
  | .hbm, ⟨29, _⟩ => ⟨S16384x1, .i32⟩
  | .hbm, ⟨30, _⟩ => ⟨S16384x1, .i1⟩
  | .hbm, ⟨31, _⟩ => ⟨S16384x1, .i1⟩
  | .hbm, ⟨32, _⟩ => ⟨S_, .i1⟩
  | .hbm, ⟨33, _⟩ => ⟨S16384, .i1⟩
  | .hbm, ⟨34, _⟩ => ⟨S16384x64, .f32⟩
  | .hbm, ⟨35, _⟩ => ⟨S16384x64, .i1⟩
  | .hbm, ⟨36, _⟩ => ⟨S_, .f32⟩
  | .hbm, ⟨37, _⟩ => ⟨S16384x64, .f32⟩
  | .hbm, ⟨38, _⟩ => ⟨S16384x64, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S1, .i32⟩
  | .hbm, ⟨48, _⟩ => ⟨S_, .i32⟩
  | .hbm, ⟨49, _⟩ => ⟨S16384x1, .i32⟩
  | .hbm, ⟨50, _⟩ => ⟨S16384x1, .i1⟩
  | .hbm, ⟨51, _⟩ => ⟨S1x1, .i32⟩
  | .hbm, ⟨52, _⟩ => ⟨S16384x1, .i32⟩
  | .hbm, ⟨53, _⟩ => ⟨S16384x1, .i1⟩
  | .hbm, ⟨54, _⟩ => ⟨S16384x1, .i1⟩
  | .hbm, ⟨55, _⟩ => ⟨S_, .i1⟩
  | .hbm, ⟨56, _⟩ => ⟨S16384, .i1⟩
  | .hbm, ⟨57, _⟩ => ⟨S16384x64, .f32⟩
  | .hbm, ⟨58, _⟩ => ⟨S16384x64, .i1⟩
  | .hbm, ⟨59, _⟩ => ⟨S_, .f32⟩
  | .hbm, ⟨60, _⟩ => ⟨S16384x64, .f32⟩
  | .hbm, ⟨61, _⟩ => ⟨S16384x64, .f32⟩
  | .hbm, ⟨62, _⟩ => ⟨S16384x128, .f32⟩
  | .hbm, ⟨63, _⟩ => ⟨S128x128, .f32⟩
  | .hbm, ⟨64, _⟩ => ⟨S16384x128, .f32⟩
  | .hbm, ⟨65, _⟩ => ⟨S1x128, .f32⟩
  | .hbm, ⟨66, _⟩ => ⟨S16384x128, .f32⟩
  | .hbm, ⟨67, _⟩ => ⟨S16384x128, .f32⟩
  | .hbm, ⟨68, _⟩ => ⟨S_, .f32⟩
  | .hbm, ⟨69, _⟩ => ⟨S16384x128, .f32⟩
  | .hbm, ⟨70, _⟩ => ⟨S16384x128, .f32⟩
  | .hbm, ⟨71, _⟩ => ⟨S128x64, .f32⟩
  | .hbm, ⟨72, _⟩ => ⟨S16384x64, .f32⟩
  | .hbm, ⟨73, _⟩ => ⟨S1x64, .f32⟩
  | .hbm, ⟨74, _⟩ => ⟨S16384x64, .f32⟩
  | .hbm, ⟨75, _⟩ => ⟨S16384x64, .f32⟩
  | .hbm, ⟨76, _⟩ => ⟨S_, .f32⟩
  | .hbm, ⟨77, _⟩ => ⟨S16384x64, .f32⟩
  | .hbm, ⟨78, _⟩ => ⟨S16384x64, .f32⟩
  | .hbm, ⟨79, _⟩ => ⟨S64x32, .f32⟩
  | .hbm, ⟨80, _⟩ => ⟨S16384x32, .f32⟩
  | .hbm, ⟨81, _⟩ => ⟨S1x32, .f32⟩
  | .hbm, ⟨82, _⟩ => ⟨S16384x32, .f32⟩
  | .hbm, ⟨83, _⟩ => ⟨S16384x32, .f32⟩
  | .hbm, ⟨84, _⟩ => ⟨S_, .f32⟩
  | .hbm, ⟨85, _⟩ => ⟨S16384x32, .f32⟩
  | .hbm, ⟨86, _⟩ => ⟨S16384x32, .f32⟩
  | .hbm, ⟨87, _⟩ => ⟨S32x16, .f32⟩
  | .hbm, ⟨88, _⟩ => ⟨S16384x16, .f32⟩
  | .hbm, ⟨89, _⟩ => ⟨S1x16, .f32⟩
  | .hbm, ⟨90, _⟩ => ⟨S16384x16, .f32⟩
  | .hbm, ⟨91, _⟩ => ⟨S16384x16, .f32⟩
  | .hbm, ⟨92, _⟩ => ⟨S_, .f32⟩
  | .hbm, ⟨93, _⟩ => ⟨S16384x16, .f32⟩
  | .hbm, ⟨94, _⟩ => ⟨S16384x16, .f32⟩
  | .hbm, ⟨95, _⟩ => ⟨S16x8, .f32⟩
  | .hbm, ⟨96, _⟩ => ⟨S16384x8, .f32⟩
  | .hbm, ⟨97, _⟩ => ⟨S1x8, .f32⟩
  | .hbm, ⟨98, _⟩ => ⟨S16384x8, .f32⟩
  | .hbm, ⟨99, _⟩ => ⟨S16384x8, .f32⟩
  | .hbm, ⟨100, _⟩ => ⟨S_, .f32⟩
  | .hbm, ⟨101, _⟩ => ⟨S16384x8, .f32⟩
  | .hbm, ⟨102, _⟩ => ⟨S16384x8, .f32⟩
  | .hbm, ⟨103, _⟩ => ⟨S8x1, .f32⟩
  | .hbm, ⟨104, _⟩ => ⟨S16384x1, .f32⟩
  | .hbm, ⟨105, _⟩ => ⟨S1x1, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384x1, .f32⟩
  | .hbm, ⟨110, _⟩ => ⟨S16384x1, .f32⟩
  | .hbm, ⟨111, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_cst : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_cst_0 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_cst_1 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_2 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_cst_3 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_4 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩

abbrev nD : Nat := 1
abbrev τ : Topo := Topo.v7x

variable {F : FTy → Type} [FloatOps F]
-- ==== Proof.IBase.lean ====
/-
  The set-up of the kernel's launch: the program as the launch theorem sees it, the resource algebra (the handshakes'
  rounds, the pipelines' rounds and the exclusive counters of the local copies), and the names of the buffers the
  SparseCore part works on.
-/
module

public import proofs.«01_k».proof.Kernel
public import Idealize.ShloMosaic.PureOps.BitExact
public import Idealize.ShloMosaic.PureOps.Ideal
public import Idealize.ShloMosaic.PureOps.IdealRules
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Batch
public import Idealize.ShloMosaic.Lib.Transfers
public import Idealize.ShloMosaic.Lib.ValueIdxCoords
public import proofs.«01_k».proof.Proof.Gen.KernelIdeal
public import proofs.«01_k».proof.Proof.Gen.KernelIdeal.Skeleton

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

abbrev EC : UEmb Counters (MM F) := countersEmb (U := UU)
instance EC_landsIn : (EC : UEmb Counters (MM F)).LandsIn (upEmb : UEmb _ (MM F)) := by infer_instance

/-! ## The buffers of the SparseCore part -/

abbrev a0M : Memref sig .scVector .hbm S16384 .i32 := Memref.whole main_arg0_scv
abbrev a1M : Memref sig .scVector .hbm S16384 .i32 := Memref.whole main_arg1_scv
abbrev t7M : Memref sig .scVector .hbm S1000000x64 .f32 := Memref.whole main_v7_scv
abbrev t9M : Memref sig .scVector .hbm S100000x64 .f32 := Memref.whole main_v9_scv
abbrev o0M : Memref sig .scVector .hbm S16384x64 .f32 := Memref.whole main_v10_0_scv
abbrev o1M : Memref sig .scVector .hbm S16384x64 .f32 := Memref.whole main_v10_1_scv
abbrev i0M : Memref sig .scVector .vmem S512 .i32 := Memref.whole cc2_scratch0
abbrev i1M : Memref sig .scVector .vmem S512 .i32 := Memref.whole cc2_scratch1
abbrev r0M : Memref sig .scVector .vmem S16x64 .f32 := Memref.whole cc2_scratch2
abbrev r1M : Memref sig .scVector .vmem S16x64 .f32 := Memref.whole cc2_scratch3

/-- The task's place on the device. -/
abbrev cV (L : grid2.Coords) : Fin τ.nSC := (L 0).castLE hcore2
abbrev jV (L : grid2.Coords) : Fin τ.nSub := (L 1).castLE hsub2
abbrev tV (d : Dev nD) (L : grid2.Coords) : Thread nD τ := V d (cV L) (jV L)

end Cert.KernelIdeal.Pf

end
end
-- ==== Proof.IRow.lean ====
/-
  The pieces of one trip of the SparseCore gather: the word the kernel reads off a lane, the rows a row copy moves
  between, and one step lemma for each kind of operation.
-/
module

public import proofs.«01_k».proof.Proof.IBase

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

/-! ## The word read off a lane -/

/-- Masking all but lane `l` of a vector to zero. -/
def maskLane (l : Fin 16) (v : S16.Idx → BitVec 32) : S16.Idx → BitVec 32 :=
  select (cmpi .eq (iota .scVector S16 32 [0] iota_S16_d0_w32_scVector) (broadcast S16 (BitVec.ofNat 32 l.val))) v (broadcast S16 0#32)

theorem maskLane_at (l k : Fin 16) (v : S16.Idx → BitVec 32) :
    maskLane l v (Shape.ofLane (d := ![16]) k) = if k = l then v (Shape.ofLane (d := ![16]) l) else 0#32 := by
  by_cases h : k = l
  · subst h
    rw [if_pos rfl]
    show Scalar.select (BitVec.ofBool (BitVec.ofNat 32 (0 * 16 + k.val) == BitVec.ofNat 32 k.val)) _ _ = _
    simp [Scalar.select]
  · rw [if_neg h]
    show Scalar.select (BitVec.ofBool (BitVec.ofNat 32 (0 * 16 + k.val) == BitVec.ofNat 32 l.val)) _ _ = _
    have hne : (BitVec.ofNat 32 (0 * 16 + k.val) == BitVec.ofNat 32 l.val) = false := by
      rw [beq_eq_false_iff_ne]
      intro e
      have e' := congrArg BitVec.toNat e
      simp only [BitVec.toNat_ofNat] at e'
      exact h (Fin.ext (by omega))
    rw [hne]
    rfl

/-- The sum of sixteen words at the last lane, in the scan's order. -/
theorem scan_last (u : S16.Idx → BitVec 32) (z : Fin 16 → BitVec 32) (hz : ∀ k : Fin 16, u (Shape.ofLane (d := ![16]) k) = z k) :
    scan (d := ![16]) .sum u (fun a => ⟨![15] a, inpos_S16_p15 a⟩)
      = z 0 + z 1 + z 2 + z 3 + z 4 + z 5 + z 6 + z 7 + z 8 + z 9 + z 10 + z 11 + z 12 + z 13 + z 14 + z 15 := by
  obtain rfl : (fun k => u (Shape.ofLane (d := ![16]) k)) = z := funext hz
  unfold scan
  dsimp only
  rw [show (List.finRange (![16] 0)).filter (fun k : Fin (![16] 0) => decide (0 < k.val ∧ k.val ≤ ![15] 0)) = ([1,2,3,4,5,6,7,8,9,10,11,12,13,14,15] : List (Fin 16)) from (by decide : (List.finRange 16).filter (fun k : Fin 16 => decide (0 < k.val ∧ k.val ≤ 15)) = [1,2,3,4,5,6,7,8,9,10,11,12,13,14,15])]
  simp only [List.foldl, ScanKind.step, IntOp.addi]
  rfl

/-- A lane's word: masking all but lane `l` to zero and summing leaves the word of lane `l`. -/
theorem lane_word (l : Fin 16) (v : S16.Idx → BitVec 32) :
    extractAt ![15] (scan (d := ![16]) .sum (maskLane l v)) inpos_S16_p15 = v (Shape.ofLane (d := ![16]) l) := by
  refine (scan_last _ _ fun k => maskLane_at l k v).trans ?_
  generalize v (Shape.ofLane (d := ![16]) l) = x
  fin_cases l <;> simp [Fin.ext_iff]

/-! ## The rows -/

/-- A word below the table's number of rows names a row of it. -/
theorem inb7 (v : BitVec 32) (h : v.toNat < 1000000) : ∀ a, (![v.toNat, 0] : Fin 2 → Nat) a + S1x64.size a ≤ S1000000x64.size a := by
  intro a; fin_cases a <;> simp; omega
theorem inb9 (v : BitVec 32) (h : v.toNat < 100000) : ∀ a, (![v.toNat, 0] : Fin 2 → Nat) a + S1x64.size a ≤ S100000x64.size a := by
  intro a; fin_cases a <;> simp; omega

/-- Row `l` of a 16-row buffer. -/
def rs (l : ℕ) : Finset S16x64.Idx := Finset.univ.filter fun p => (p 0).val = l

theorem mem_rs {l : ℕ} {p : S16x64.Idx} : p ∈ rs l ↔ (p 0).val = l := by simp [rs]

theorem squeeze_row (y : S64.Idx) : Shape.reshapeEquiv (squeezes_S1x64_S64).numel_eq y = (ix2 (0 : Fin 1) (y 0) : S1x64.Idx) := by
  have h := Shape.reshapeEquiv_cons_one (d := ![64]) (squeezes_S1x64_S64).numel_eq y
  refine h.trans ?_
  funext a
  fin_cases a <;> rfl

abbrev r0Row (l : ℕ) (h : ∀ a, (![l, 0] : Fin 2 → Nat) a + S1x64.size a ≤ S16x64.size a) : Memref sig .scVector .vmem S64 .f32 :=
  (r0M.slice (Rect.unit (s := S16x64) ![l, 0] S1x64.size h) (fun _ => rfl)).squeeze S64 squeezes_S1x64_S64
abbrev r1Row (l : ℕ) (h : ∀ a, (![l, 0] : Fin 2 → Nat) a + S1x64.size a ≤ S16x64.size a) : Memref sig .scVector .vmem S64 .f32 :=
  (r1M.slice (Rect.unit (s := S16x64) ![l, 0] S1x64.size h) (fun _ => rfl)).squeeze S64 squeezes_S1x64_S64
abbrev t7Row (r : ℕ) (h : ∀ a, (![r, 0] : Fin 2 → Nat) a + S1x64.size a ≤ S1000000x64.size a) : Memref sig .scVector .hbm S64 .f32 :=
  (t7M.slice (Rect.unit (s := S1000000x64) ![r, 0] S1x64.size h) (fun _ => rfl)).squeeze S64 squeezes_S1x64_S64
abbrev t9Row (r : ℕ) (h : ∀ a, (![r, 0] : Fin 2 → Nat) a + S1x64.size a ≤ S100000x64.size a) : Memref sig .scVector .hbm S64 .f32 :=
  (t9M.slice (Rect.unit (s := S100000x64) ![r, 0] S1x64.size h) (fun _ => rfl)).squeeze S64 squeezes_S1x64_S64

theorem emb_r0Row (l : ℕ) (h) (y : S64.Idx) (a) : ((r0Row l h).view.emb y a).val = (![l, (y 0).val] : Fin 2 → Nat) a := by
  show ((Rect.unit (s := S16x64) ![l, 0] S1x64.size h).idx (Shape.reshapeEquiv (squeezes_S1x64_S64).numel_eq y) a).val = _
  rw [squeeze_row]
  fin_cases a
  · show l + 1 * 0 = l; omega
  · show 0 + 1 * (y 0).val = (y 0).val; omega
theorem emb_r1Row (l : ℕ) (h) (y : S64.Idx) (a) : ((r1Row l h).view.emb y a).val = (![l, (y 0).val] : Fin 2 → Nat) a := by
  show ((Rect.unit (s := S16x64) ![l, 0] S1x64.size h).idx (Shape.reshapeEquiv (squeezes_S1x64_S64).numel_eq y) a).val = _
  rw [squeeze_row]
  fin_cases a
  · show l + 1 * 0 = l; omega
  · show 0 + 1 * (y 0).val = (y 0).val; omega
theorem emb_t7Row (r : ℕ) (h) (y : S64.Idx) (a) : ((t7Row r h).view.emb y a).val = (![r, (y 0).val] : Fin 2 → Nat) a := by
  show ((Rect.unit (s := S1000000x64) ![r, 0] S1x64.size h).idx (Shape.reshapeEquiv (squeezes_S1x64_S64).numel_eq y) a).val = _
  rw [squeeze_row]
  fin_cases a
  · show r + 1 * 0 = r; omega
  · show 0 + 1 * (y 0).val = (y 0).val; omega
theorem emb_t9Row (r : ℕ) (h) (y : S64.Idx) (a) : ((t9Row r h).view.emb y a).val = (![r, (y 0).val] : Fin 2 → Nat) a := by
  show ((Rect.unit (s := S100000x64) ![r, 0] S1x64.size h).idx (Shape.reshapeEquiv (squeezes_S1x64_S64).numel_eq y) a).val = _
  rw [squeeze_row]
  fin_cases a
  · show r + 1 * 0 = r; omega
  · show 0 + 1 * (y 0).val = (y 0).val; omega

theorem set_r0Row (l : ℕ) (h) : (r0Row l h).view.set = rs l := by
  ext p
  rw [mem_rs]
  constructor
  · intro hp
    obtain ⟨y, -, rfl⟩ := Finset.mem_map.mp hp
    exact emb_r0Row l h y 0
  · intro hp
    refine Finset.mem_map.mpr ⟨ix1 (p 1 : Fin 64), Finset.mem_univ _, ?_⟩
    funext a
    apply Fin.ext
    rw [emb_r0Row l h]
    fin_cases a
    · exact hp.symm
    · rfl
theorem set_r1Row (l : ℕ) (h) : (r1Row l h).view.set = rs l := by
  ext p
  rw [mem_rs]
  constructor
  · intro hp
    obtain ⟨y, -, rfl⟩ := Finset.mem_map.mp hp
    exact emb_r1Row l h y 0
  · intro hp
    refine Finset.mem_map.mpr ⟨ix1 (p 1 : Fin 64), Finset.mem_univ _, ?_⟩
    funext a
    apply Fin.ext
    rw [emb_r1Row l h]
    fin_cases a
    · exact hp.symm
    · rfl

/-- The units of one row copy. -/
abbrev NR : ℕ := (r0Row 0 inb_S16x64_S1x64_0_0).view.dmaCredit
theorem NR_pos : 0 < NR := View.dmaCredit_pos _ (by decide)
theorem amount_r0 (l : ℕ) (h) : (r0Row l h).view.dmaCredit = NR := rfl
theorem amount_r1 (l : ℕ) (h) : (r1Row l h).view.dmaCredit = NR := rfl

/-- The rows a list of words names, of a table. -/
def pick7 (f : S1000000x64.Idx → Elt F .f32) (w : ℕ → BitVec 32) (n : ℕ) (c : Fin 64) : Elt F .f32 :=
  f (ix2 ⟨min (w n).toNat 999999, by omega⟩ c)
def pick9 (f : S100000x64.Idx → Elt F .f32) (w : ℕ → BitVec 32) (n : ℕ) (c : Fin 64) : Elt F .f32 :=
  f (ix2 ⟨min (w n).toNat 99999, by omega⟩ c)

theorem land_r0 (l : ℕ) (hl) (w : ℕ → BitVec 32) (v : BitVec 32) (hv : v = w l) (hb : (w l).toNat < 1000000) (hr)
    (fd : S16x64.Idx → Elt F .f32) (f : S1000000x64.Idx → Elt F .f32) (p : S16x64.Idx) (hp : p ∈ rs l) :
    (r0Row l hl).view.write (Elt F) fd ((t7Row v.toNat hr).view.read (Elt F) f) Finset.univ p = pick7 f w (p 0).val (p 1) := by
  have hp' := hp
  rw [← set_r0Row l hl] at hp
  obtain ⟨y, -, rfl⟩ := Finset.mem_map.mp hp
  subst hv
  rw [View.write_emb_of_mem _ _ (Finset.mem_univ _)]
  simp only [View.read_apply]
  unfold pick7
  show f ((t7Row (w l).toNat hr).view.emb y) = _
  congr 1
  funext a
  apply Fin.ext
  rw [emb_t7Row]
  have e0 := emb_r0Row l hl y 0
  have e1 := emb_r0Row l hl y 1
  fin_cases a
  · show (w l).toNat = min (w _).toNat 999999
    rw [e0]; show (w l).toNat = min (w l).toNat 999999; omega
  · exact e1.symm
theorem land_r1 (l : ℕ) (hl) (w : ℕ → BitVec 32) (v : BitVec 32) (hv : v = w l) (hb : (w l).toNat < 100000) (hr)
    (fd : S16x64.Idx → Elt F .f32) (f : S100000x64.Idx → Elt F .f32) (p : S16x64.Idx) (hp : p ∈ rs l) :
    (r1Row l hl).view.write (Elt F) fd ((t9Row v.toNat hr).view.read (Elt F) f) Finset.univ p = pick9 f w (p 0).val (p 1) := by
  have hp' := hp
  rw [← set_r1Row l hl] at hp
  obtain ⟨y, -, rfl⟩ := Finset.mem_map.mp hp
  subst hv
  rw [View.write_emb_of_mem _ _ (Finset.mem_univ _)]
  simp only [View.read_apply]
  unfold pick9
  show f ((t9Row (w l).toNat hr).view.emb y) = _
  congr 1
  funext a
  apply Fin.ext
  rw [emb_t9Row]
  have e0 := emb_r1Row l hl y 0
  have e1 := emb_r1Row l hl y 1
  fin_cases a
  · show (w l).toNat = min (w _).toNat 99999
    rw [e0]; show (w l).toNat = min (w l).toNat 99999; omega
  · exact e1.symm

end Cert.KernelIdeal.Pf

end
end
-- ==== Proof.IStep.lean ====
/-
  One step lemma for each kind of operation of a trip of the gather: the read of a register of ids, a check, a row copy
  from either table, a wait, the last wait.
-/
module

public import proofs.«01_k».proof.Proof.IRow

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
variable [FloatOps F]

/-- Word `n` of a register. -/
def wOf (x : S16.Idx → BitVec 32) (n : ℕ) : BitVec 32 := x (Shape.ofLane (d := ![16]) ⟨n % 16, by show n % 16 < 16; omega⟩)

theorem lane_eq (x : S16.Idx → BitVec 32) (l : ℕ) (h : l < 16) :
    extractAt ![15] (scan (d := ![16]) .sum (maskLane ⟨l, h⟩ x)) inpos_S16_p15 = wOf x l := by
  rw [lane_word]
  unfold wOf
  congr 2
  exact Fin.ext (Nat.mod_eq_of_lt h).symm

section Steps

variable (d : Dev nD) (L : grid2.Coords)
variable (f7 : S1000000x64.Idx → Elt F .f32) (f9 : S100000x64.Idx → Elt F .f32)
variable (x0 x1 : S16.Idx → BitVec 32) (s0 s1 : S512.Idx → BitVec 32)
variable (O : CellTallies nD τ sig (HIx 1)) (W : Waits sig (HIx 1)) (R : sProp (MM F))

abbrev rLoc0 : Loc nD τ sig := (tV d L).loc cc2_scratch2
abbrev rLoc1 : Loc nD τ sig := (tV d L).loc cc2_scratch3

/-- The rows a register's words name, laid out in the 16-row buffer. -/
def g0 : S16x64.Idx → Elt F .f32 := fun p => pick7 f7 (wOf x0) (p 0).val (p 1)
def g1 : S16x64.Idx → Elt F .f32 := fun p => pick9 f9 (wOf x1) (p 0).val (p 1)

/-- The destination of copy `t` of the trip: row `t / 2` of one of the two 16-row buffers. -/
def dstP (t : Fin 32) : sProp (MM F) :=
  if t.val % 2 = 0 then iprop(∃ f, rLoc0 d L ↦[rs (t.val / 2)]{fullShare} f) else iprop(∃ f, rLoc1 d L ↦[rs (t.val / 2)]{fullShare} f)
/-- What copy `t` delivers. -/
def dlvP (t : Fin 32) : sProp (MM F) :=
  if t.val % 2 = 0 then iprop(rLoc0 d L ↦[rs (t.val / 2)]{fullShare} g0 f7 x0) else iprop(rLoc1 d L ↦[rs (t.val / 2)]{fullShare} g1 f9 x1)

instance dlvP_storable (t : Fin 32) : BI.Storable (upEmb : UEmb _ (MM F)) (dlvP d L f7 f9 x0 x1 t) := by
  unfold dlvP; split <;> infer_instance

theorem dstP_even (l : ℕ) (h : 2 * l < 32) : dstP (F := F) d L ⟨2 * l, h⟩ = iprop(∃ f, rLoc0 d L ↦[rs l]{fullShare} f) := by
  unfold dstP
  rw [if_pos (by show 2 * l % 2 = 0; omega)]
  simp only [show (2 * l) / 2 = l from by omega]
theorem dstP_odd (l : ℕ) (h : 2 * l + 1 < 32) : dstP (F := F) d L ⟨2 * l + 1, h⟩ = iprop(∃ f, rLoc1 d L ↦[rs l]{fullShare} f) := by
  unfold dstP
  rw [if_neg (by show ¬ (2 * l + 1) % 2 = 0; omega)]
  simp only [show (2 * l + 1) / 2 = l from by omega]
theorem dlvP_even (l : ℕ) (h : 2 * l < 32) : dlvP d L f7 f9 x0 x1 ⟨2 * l, h⟩ = iprop(rLoc0 d L ↦[rs l]{fullShare} g0 f7 x0) := by
  unfold dlvP
  rw [if_pos (by show 2 * l % 2 = 0; omega)]
  simp only [show (2 * l) / 2 = l from by omega]
theorem dlvP_odd (l : ℕ) (h : 2 * l + 1 < 32) : dlvP d L f7 f9 x0 x1 ⟨2 * l + 1, h⟩ = iprop(rLoc1 d L ↦[rs l]{fullShare} g1 f9 x1) := by
  unfold dlvP
  rw [if_neg (by show ¬ (2 * l + 1) % 2 = 0; omega)]
  simp only [show (2 * l + 1) / 2 = l from by omega]

/-- A read share of an array. -/
abbrev rd {ℓ : Loc nD τ sig} (f : Buf (Elt F) ℓ) : sProp (MM F) := iprop(∃ q, ℓ ↦{q} f)

/-- What stays as it is through a trip: the tables, the ids, the levels, the debts, and a frame. -/
def keepP : sProp (MM F) :=
  iprop(rd (ℓ := (tV d L).loc main_v7_scv) f7 ∗ rd (ℓ := (tV d L).loc main_v9_scv) f9
    ∗ ((tV d L).loc cc2_scratch0 ↦{fullShare} s0) ∗ ((tV d L).loc cc2_scratch1 ↦{fullShare} s1)
    ∗ levAts (K (F := F)).L (K (F := F)).lev
    ∗ (∃ W', ⌜∀ p ∈ W', p ∈ W ∨ p.2 = none⌝ ∗ owes (tV d L) O W') ∗ R)

/-- The state of a trip with `j` copies issued and `n` waits done. -/
def tripP (j n : ℕ) : sProp (MM F) :=
  iprop(Transfers.Batch (EC (F := F)) (tV d L) (.dma cc2_scratch4.sem) (none : HIx 1) NR (dlvP d L f7 f9 x0 x1) j (n * NR)
    ∗ bigSep (Transfers.pending j) (dstP (F := F) d L) ∗ keepP d L f7 f9 s0 s1 O W R)

/-- The state after a trip's last wait. -/
def doneP : sProp (MM F) :=
  iprop(semVal ((tV d L), .dma cc2_scratch4.sem) 0 ∗ (rLoc0 d L ↦{fullShare} g0 f7 x0) ∗ (rLoc1 d L ↦{fullShare} g1 f9 x1)
    ∗ keepP d L f7 f9 s0 s1 O W R)

abbrev wpT {α : Type} (p : Prog (TpuEff nD τ sig (Elt F) Λ₀ (tV d L).2) α) (Q : α → sProp (MM F)) : sProp (MM F) :=
  wp frame (wpE (defs₀ (F := F)) 𝒱₀ (tV d L) none) Set.univ p Q

variable {d L f7 f9 x0 x1 s0 s1 O W R}

theorem step_ret {α : Type} {A : sProp (MM F)} {x : α} {Φ : α → sProp (MM F)} (h : A ⊢ Φ x) : A ⊢ wpT d L (.ret x) Φ := by
  unfold wpT
  rw [wp_ret]
  iintro H
  imodintro
  iapply h $$ H

theorem step_assume {α : Type} {A : sProp (MM F)} {P : Prop} {dd : Decidable P} {k : PLift P → Prog (TpuEff nD τ sig (Elt F) Λ₀ (tV d L).2) α}
    {Q : α → sProp (MM F)} (h : P) (hk : A ⊢ wpT d L (k ⟨h⟩) Q) : A ⊢ wpT d L (.op (.assume P dd) k) Q := by
  unfold wpT
  rw [wp_assume_of 𝒱₀ (tV d L) none Set.univ h]
  exact hk

/-- A read share halves, and the second half narrows to a subset of the elements. -/
theorem rd_take {ℓ : Loc nD τ sig} (f : Buf (Elt F) ℓ) (I : Finset (Idx ℓ)) : rd (F := F) f ⊢ iprop((∃ q, ℓ ↦[I]{q} f) ∗ rd f) := by
  iintro ⟨%q, H⟩
  ihave H2 := (pointsTo_share (PosShare.mem_left_op_right q)).1 $$ H
  icases H2 with ⟨Ha, Hb⟩
  ihave H3 := (pointsTo_split_subset (Finset.subset_univ I)).1 $$ Hb
  icases H3 with ⟨Hc, -⟩
  isplitl [Hc]
  · iexists _; iexact Hc
  · iexists _; iexact Ha

theorem step_load0 {α : Type} {r : LoadRect S512} {hl : i0M.view.LoadsAt r} {k : (r.shape.Idx → BitVec 32) → Prog (TpuEff nD τ sig (Elt F) Λ₀ (tV d L).2) α}
    {Q : α → sProp (MM F)} {j n : ℕ}
    (hk : tripP d L f7 f9 x0 x1 s0 s1 O W R j n ⊢ wpT d L (k (i0M.view.readAt (Elt F) r s0)) Q) :
    tripP d L f7 f9 x0 x1 s0 s1 O W R j n ⊢ wpT d L (.op (.load i0M r hl) k) Q := by
  iintro H
  unfold tripP keepP
  icases H with ⟨HB, HP, Ht7, Ht9, Hi0, Hrest⟩
  iapply (wp_load (m := i0M) 𝒱₀ (tV d L) none Set.univ (S := Finset.univ) (f := s0) (Finset.subset_univ _)) $$ Hi0
  iintro Hi0
  iapply hk
  unfold tripP keepP
  isplitl [HB]; · iexact HB
  isplitl [HP]; · iexact HP
  isplitl [Ht7]; · iexact Ht7
  isplitl [Ht9]; · iexact Ht9
  isplitl [Hi0]; · iexact Hi0
  iexact Hrest

theorem step_load1 {α : Type} {r : LoadRect S512} {hl : i1M.view.LoadsAt r} {k : (r.shape.Idx → BitVec 32) → Prog (TpuEff nD τ sig (Elt F) Λ₀ (tV d L).2) α}
    {Q : α → sProp (MM F)} {j n : ℕ}
    (hk : tripP d L f7 f9 x0 x1 s0 s1 O W R j n ⊢ wpT d L (k (i1M.view.readAt (Elt F) r s1)) Q) :
    tripP d L f7 f9 x0 x1 s0 s1 O W R j n ⊢ wpT d L (.op (.load i1M r hl) k) Q := by
  iintro H
  unfold tripP keepP
  icases H with ⟨HB, HP, Ht7, Ht9, Hi0, Hi1, Hrest⟩
  iapply (wp_load (m := i1M) 𝒱₀ (tV d L) none Set.univ (S := Finset.univ) (f := s1) (Finset.subset_univ _)) $$ Hi1
  iintro Hi1
  iapply hk
  unfold tripP keepP
  isplitl [HB]; · iexact HB
  isplitl [HP]; · iexact HP
  isplitl [Ht7]; · iexact Ht7
  isplitl [Ht9]; · iexact Ht9
  isplitl [Hi0]; · iexact Hi0
  isplitl [Hi1]; · iexact Hi1
  iexact Hrest

theorem step_copy7 {α : Type} (l : ℕ) (hl) {v : BitVec 32} (hr) {hsrc : (t7Row v.toNat hr).view.WordExact} {hdst : (r0Row l hl).view.WordExact}
    {hsem : DmaTarget.Typed .hbm (.dma cc2_scratch4.sem) (.here (r0Row l hl) : DmaTarget nD τ sig (tV d L).2 .vmem S64 .f32)}
    {k : PUnit → Prog (TpuEff nD τ sig (Elt F) Λ₀ (tV d L).2) α} {Q : α → sProp (MM F)} {j : ℕ}
    (hl16 : l < 16) (hj : j = 2 * l) (hv : v = wOf x0 l) (hb : (wOf x0 l).toNat < 1000000)
    (hk : tripP d L f7 f9 x0 x1 s0 s1 O W R (j + 1) 0 ⊢ wpT d L (k ⟨⟩) Q) :
    tripP d L f7 f9 x0 x1 s0 s1 O W R j 0 ⊢ wpT d L (.op (.enqueueDmaAs (t7Row v.toNat hr) (.here (r0Row l hl)) .same (.dma cc2_scratch4.sem) hsrc hdst hsem) k) Q := by
  subst hj
  have hj : 2 * l < 32 := by omega
  iintro H
  unfold tripP keepP
  rw [Transfers.bigSep_pending_step _ _ hj, dstP_even]
  icases H with ⟨HB, ⟨⟨%fd, Hd⟩, HP⟩, ⟨Ht, Hrest⟩⟩
  ihave Ht2 := (rd_take (F := F) (ℓ := (tV d L).loc main_v7_scv) f7 (t7Row v.toNat hr).view.set) $$ Ht
  icases Ht2 with ⟨⟨%q, Hs⟩, Ht⟩
  iapply (Transfers.wp_dmaBatch (EC (F := F)) 𝒱₀ (tV d L) none (src := t7Row v.toNat hr) (dst := r0Row l hl) (sm := .dma cc2_scratch4.sem)
    (D := dlvP d L f7 f9 x0 x1) (Sd := rs l) (fd := fd) (fs := f7) (none : HIx 1) NR (amount_r0 l hl) (Finset.subset_of_eq (set_r0Row l hl)) hj (Nat.zero_le _) (by
      rw [dlvP_even]
      refine sep_elim_left.trans (Entails.of_eq (pointsTo_congr fun p hp => ?_))
      exact land_r0 l hl (wOf x0) v hv hb hr fd f7 p hp)) $$ [HB Hd Hs]
  · isplitl [Hs]; · iexact Hs
    isplitl [Hd]; · iexact Hd
    rw [Nat.zero_mul]
    iexact HB
  iintro HB
  iapply hk
  unfold tripP keepP
  rw [Nat.zero_mul]
  isplitl [HB]; · iexact HB
  isplitl [HP]; · iexact HP
  isplitl [Ht]; · iexact Ht
  iexact Hrest

theorem step_copy9 {α : Type} (l : ℕ) (hl) {v : BitVec 32} (hr) {hsrc : (t9Row v.toNat hr).view.WordExact} {hdst : (r1Row l hl).view.WordExact}
    {hsem : DmaTarget.Typed .hbm (.dma cc2_scratch4.sem) (.here (r1Row l hl) : DmaTarget nD τ sig (tV d L).2 .vmem S64 .f32)}
    {k : PUnit → Prog (TpuEff nD τ sig (Elt F) Λ₀ (tV d L).2) α} {Q : α → sProp (MM F)} {j : ℕ}
    (hl16 : l < 16) (hj : j = 2 * l + 1) (hv : v = wOf x1 l) (hb : (wOf x1 l).toNat < 100000)
    (hk : tripP d L f7 f9 x0 x1 s0 s1 O W R (j + 1) 0 ⊢ wpT d L (k ⟨⟩) Q) :
    tripP d L f7 f9 x0 x1 s0 s1 O W R j 0 ⊢ wpT d L (.op (.enqueueDmaAs (t9Row v.toNat hr) (.here (r1Row l hl)) .same (.dma cc2_scratch4.sem) hsrc hdst hsem) k) Q := by
  subst hj
  have hj : 2 * l + 1 < 32 := by omega
  iintro H
  unfold tripP keepP
  rw [Transfers.bigSep_pending_step _ _ hj, dstP_odd]
  icases H with ⟨HB, ⟨⟨%fd, Hd⟩, HP⟩, ⟨Ht0, Ht, Hrest⟩⟩
  ihave Ht2 := (rd_take (F := F) (ℓ := (tV d L).loc main_v9_scv) f9 (t9Row v.toNat hr).view.set) $$ Ht
  icases Ht2 with ⟨⟨%q, Hs⟩, Ht⟩
  iapply (Transfers.wp_dmaBatch (EC (F := F)) 𝒱₀ (tV d L) none (src := t9Row v.toNat hr) (dst := r1Row l hl) (sm := .dma cc2_scratch4.sem)
    (D := dlvP d L f7 f9 x0 x1) (Sd := rs l) (fd := fd) (fs := f9) (none : HIx 1) NR (amount_r1 l hl) (Finset.subset_of_eq (set_r1Row l hl)) hj (Nat.zero_le _) (by
      rw [dlvP_odd]
      refine sep_elim_left.trans (Entails.of_eq (pointsTo_congr fun p hp => ?_))
      exact land_r1 l hl (wOf x1) v hv hb hr fd f9 p hp)) $$ [HB Hd Hs]
  · isplitl [Hs]; · iexact Hs
    isplitl [Hd]; · iexact Hd
    rw [Nat.zero_mul]
    iexact HB
  iintro HB
  iapply hk
  unfold tripP keepP
  rw [Nat.zero_mul]
  isplitl [HB]; · iexact HB
  isplitl [HP]; · iexact HP
  isplitl [Ht0]; · iexact Ht0
  isplitl [Ht]; · iexact Ht
  iexact Hrest

theorem step_wait {α : Type} {sp : Space} {e : EltTy} {s : Shape} {sp' : Space} {e' : EltTy} {s' : Shape}
    {srcw : Memref sig (tV d L).2.kind sp' s' e'} {dstw : Memref sig (tV d L).2.kind sp s e} {hsrc : srcw.view.WordExact} {hdst : dstw.view.WordExact}
    {k : PUnit → Prog (TpuEff nD τ sig (Elt F) Λ₀ (tV d L).2) α} {Q : α → sProp (MM F)} {n : ℕ}
    (hO : ∀ g, O g none = 0) (hN : dstw.view.dmaCredit = NR) (hn : n + 1 < 32)
    (hk : tripP d L f7 f9 x0 x1 s0 s1 O W R 32 (n + 1) ⊢ wpT d L (k ⟨⟩) Q) :
    tripP d L f7 f9 x0 x1 s0 s1 O W R 32 n ⊢ wpT d L (.op (.waitDma2 cc2_scratch4.sem srcw dstw hsrc hdst) k) Q := by
  iintro H
  unfold tripP keepP
  icases H with ⟨HB, HP, Ht7, Ht9, Hi0, Hi1, #Hlv, ⟨%W', %hW, HO⟩, HR⟩
  ihave HM := ((K (F := F)).mayWait_none (thr := tV d L) (.dma cc2_scratch4.sem) hO) $$ Hlv
  iapply (Transfers.wp_waitBatchO (EC (F := F)) 𝒱₀ (tV d L) none (none : HIx 1) hN (u := n * NR) (by
    rw [← Nat.succ_mul, Nat.mul_comm NR 32]; exact Nat.mul_lt_mul_of_pos_right hn NR_pos)) $$ [HB HO HM]
  · isplitl [HB]; · iexact HB
    isplitl [HO]; · iexact HO
    iexact HM
  iintro ⟨HB, HO⟩
  iapply hk
  unfold tripP keepP
  isplitl [HB]
  · rw [Nat.succ_mul]; iexact HB
  isplitl [HP]; · iexact HP
  isplitl [Ht7]; · iexact Ht7
  isplitl [Ht9]; · iexact Ht9
  isplitl [Hi0]; · iexact Hi0
  isplitl [Hi1]; · iexact Hi1
  isplitr [HO HR]; · iexact Hlv
  isplitl [HO]
  · iexists (insert (SemLoc.dma cc2_scratch4.sem, none) W')
    isplitr
    · ipureintro
      intro p hp
      rcases Finset.mem_insert.mp hp with h | h
      · exact .inr (by rw [h])
      · exact hW p h
    · iexact HO
  iexact HR

theorem rs_univ : (Finset.univ : Finset (Fin 16)).biUnion (fun a => rs a.val) = Finset.univ := by
  ext p
  simp only [Finset.mem_biUnion, Finset.mem_univ, iff_true]
  exact ⟨p 0, trivial, mem_rs.mpr rfl⟩

theorem rs_disj : ∀ t ∈ (Finset.univ : Finset (Fin 16)), ∀ t' ∈ (Finset.univ : Finset (Fin 16)), t ≠ t' → Disjoint (rs t.val) (rs t'.val) := by
  intro t _ t' _ hne
  rw [Finset.disjoint_left]
  intro p h1 h2
  exact hne (Fin.ext ((mem_rs.mp h1).symm.trans (mem_rs.mp h2)))

theorem pair_even (a : Fin 16) : (finProdFinEquiv (m := 16) (n := 2) (a, 0) : Fin 32) = ⟨2 * a.val, by omega⟩ :=
  Fin.ext (by show 0 + 2 * a.val = 2 * a.val; omega)
theorem pair_odd (a : Fin 16) : (finProdFinEquiv (m := 16) (n := 2) (a, 1) : Fin 32) = ⟨2 * a.val + 1, by omega⟩ :=
  Fin.ext (by show 1 + 2 * a.val = 2 * a.val + 1; omega)

/-- A family over the 32 copies, by rows. -/
theorem by_rows (D : Fin 32 → sProp (MM F)) : bigSep Finset.univ D
    = iprop((bigSep Finset.univ (fun a : Fin 16 => D ⟨2 * a.val, by omega⟩)) ∗ bigSep Finset.univ (fun a : Fin 16 => D ⟨2 * a.val + 1, by omega⟩)) := by
  have h : ∀ a : Fin 16, bigSep Finset.univ (fun b : Fin 2 => D (finProdFinEquiv (m := 16) (n := 2) (a, b)))
      = iprop(D ⟨2 * a.val, by omega⟩ ∗ D ⟨2 * a.val + 1, by omega⟩) := by
    intro a
    rw [bigSep_univ_two, pair_even, pair_odd]
  rw [bigSep_univ_equiv (finProdFinEquiv (m := 16) (n := 2)), bigSep_univ_prod]
  simp only [h]
  rw [bigSep_sep']

/-- All copies landed: both 16-row buffers hold the rows the words name. -/
theorem collect : bigSep Finset.univ (dlvP d L f7 f9 x0 x1)
    = iprop((rLoc0 d L ↦{fullShare} g0 f7 x0) ∗ (rLoc1 d L ↦{fullShare} g1 f9 x1)) := by
  rw [by_rows]
  simp only [dlvP_even, dlvP_odd]
  have e0 := pointsTo_biUnion (Val := Elt F) (Ix := HIx 1) (Name := ℕ) (U := UU) (Lvl := ℕ) (ℓ := rLoc0 d L) (q := fullShare) (f := g0 f7 x0) (Finset.univ : Finset (Fin 16)) (fun a => rs a.val) rs_disj
  have e1 := pointsTo_biUnion (Val := Elt F) (Ix := HIx 1) (Name := ℕ) (U := UU) (Lvl := ℕ) (ℓ := rLoc1 d L) (q := fullShare) (f := g1 f9 x1) (Finset.univ : Finset (Fin 16)) (fun a => rs a.val) rs_disj
  rw [rs_univ] at e0 e1
  rw [e0, e1]

/-- Before any copy: the two 16-row buffers, row by row. -/
theorem deal (b0 b1 : S16x64.Idx → Elt F .f32) : iprop((rLoc0 d L ↦{fullShare} b0) ∗ (rLoc1 d L ↦{fullShare} b1))
    ⊢ bigSep (Transfers.pending 0) (dstP (F := F) d L) := by
  have e0 := pointsTo_biUnion (Val := Elt F) (Ix := HIx 1) (Name := ℕ) (U := UU) (Lvl := ℕ) (ℓ := rLoc0 d L) (q := fullShare) (f := b0) (Finset.univ : Finset (Fin 16)) (fun a => rs a.val) rs_disj
  have e1 := pointsTo_biUnion (Val := Elt F) (Ix := HIx 1) (Name := ℕ) (U := UU) (Lvl := ℕ) (ℓ := rLoc1 d L) (q := fullShare) (f := b1) (Finset.univ : Finset (Fin 16)) (fun a => rs a.val) rs_disj
  rw [rs_univ] at e0 e1
  rw [← Transfers.bigSep_pending_zero, by_rows]
  simp only [dstP_even, dstP_odd]
  rw [e0, e1]
  refine BI.sep_mono (BI.bigSep_mono fun a _ => ?_) (BI.bigSep_mono fun a _ => ?_)
  · show iprop(rLoc0 d L ↦[rs a.val]{fullShare} b0) ⊢ iprop(∃ f, rLoc0 d L ↦[rs a.val]{fullShare} f)
    iintro H; iexists b0; iexact H
  · show iprop(rLoc1 d L ↦[rs a.val]{fullShare} b1) ⊢ iprop(∃ f, rLoc1 d L ↦[rs a.val]{fullShare} f)
    iintro H; iexists b1; iexact H

theorem step_waitLast {α : Type} {sp : Space} {e : EltTy} {s : Shape} {sp' : Space} {e' : EltTy} {s' : Shape}
    {srcw : Memref sig (tV d L).2.kind sp' s' e'} {dstw : Memref sig (tV d L).2.kind sp s e} {hsrc : srcw.view.WordExact} {hdst : dstw.view.WordExact}
    {k : PUnit → Prog (TpuEff nD τ sig (Elt F) Λ₀ (tV d L).2) α} {Q : α → sProp (MM F)} {n : ℕ}
    (hO : ∀ g, O g none = 0) (hN : dstw.view.dmaCredit = NR) (hn : n + 1 = 32)
    (hk : doneP d L f7 f9 x0 x1 s0 s1 O W R ⊢ wpT d L (k ⟨⟩) Q) :
    tripP d L f7 f9 x0 x1 s0 s1 O W R 32 n ⊢ wpT d L (.op (.waitDma2 cc2_scratch4.sem srcw dstw hsrc hdst) k) Q := by
  iintro H
  unfold tripP keepP
  icases H with ⟨HB, -, Ht7, Ht9, Hi0, Hi1, #Hlv, ⟨%W', %hW, HO⟩, HR⟩
  ihave HM := ((K (F := F)).mayWait_none (thr := tV d L) (.dma cc2_scratch4.sem) hO) $$ Hlv
  iapply (Transfers.wp_waitBatchLastO (EC (F := F)) 𝒱₀ (tV d L) none (none : HIx 1) hN NR_pos (u := n * NR) (by
    rw [← Nat.succ_mul, Nat.mul_comm NR 32, ← hn])) $$ [HB HO HM]
  · isplitl [HB]; · iexact HB
    isplitl [HO]; · iexact HO
    iexact HM
  iintro ⟨HD, HS, HO⟩
  ihave HD := (Entails.of_eq (collect (F := F))) $$ HD
  icases HD with ⟨HD0, HD1⟩
  iapply hk
  unfold doneP keepP
  isplitl [HS]; · iexact HS
  isplitl [HD0]; · iexact HD0
  isplitl [HD1]; · iexact HD1
  isplitl [Ht7]; · iexact Ht7
  isplitl [Ht9]; · iexact Ht9
  isplitl [Hi0]; · iexact Hi0
  isplitl [Hi1]; · iexact Hi1
  isplitr [HO HR]; · iexact Hlv
  isplitl [HO]
  · iexists (insert (SemLoc.dma cc2_scratch4.sem, none) W')
    isplitr
    · ipureintro
      intro p hp
      rcases Finset.mem_insert.mp hp with h | h
      · exact .inr (by rw [h])
      · exact hW p h
    · iexact HO
  iexact HR

end Steps

end Cert.KernelIdeal.Pf

end
end
-- ==== Proof.ITrip.lean ====
/-
  The walk through one trip of the gather's loop.
-/
module

public import proofs.«01_k».proof.Proof.IStep

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

section Trip

variable {d : Dev nD} {L : grid2.Coords}
variable {f7 : S1000000x64.Idx → Elt F .f32} {f9 : S100000x64.Idx → Elt F .f32}
variable {s0 s1 : S512.Idx → BitVec 32}
variable {O : CellTallies nD τ sig (HIx 1)} {W : Waits sig (HIx 1)} {R : sProp (MM F)}

/-- The register of user ids trip `t` reads, and that of game ids. -/
abbrev xs0 (s0 : S512.Idx → BitVec 32) (t : Fin k2_t1_loop.trips) : S16.Idx → BitVec 32 :=
  i0M.view.readAt (Elt F) (Rect.unit (s := S512) (k2_off2 t) S16.size (k2_off2_inb t)).toLoadRect s0
abbrev xs1 (s1 : S512.Idx → BitVec 32) (t : Fin k2_t1_loop.trips) : S16.Idx → BitVec 32 :=
  i1M.view.readAt (Elt F) (Rect.unit (s := S512) (k2_off2 t) S16.size (k2_off2_inb t)).toLoadRect s1

/-- Rows of the two outputs written back after a trip's gathers. -/
abbrev o0Rows (L : grid2.Coords) (t : Fin k2_t1_loop.trips) : Memref sig .scVector .hbm S16x64 .f32 :=
  o0M.slice (Rect.unit (s := S16384x64) (k2_off66 L t) S16x64.size (k2_off66_inb L t)) (fun _ => rfl)
abbrev o1Rows (L : grid2.Coords) (t : Fin k2_t1_loop.trips) : Memref sig .scVector .hbm S16x64 .f32 :=
  o1M.slice (Rect.unit (s := S16384x64) (k2_off66 L t) S16x64.size (k2_off66_inb L t)) (fun _ => rfl)

/-- The end of a trip: both 16-row buffers written back. -/
def tailP (d : Dev nD) (L : grid2.Coords) (t : Fin k2_t1_loop.trips) : Prog (TpuEff nD τ sig (Elt F) Λ₀ (tV d L).2) Unit :=
  .op (.enqueueDma r0M (.here (o0Rows L t)) (.dma cc2_scoped2.sem) (Memref.isWhole_whole _).wordExact (View.wordExact_bits rfl) ⟨Or.inl rfl, trivial⟩) fun _ =>
  .op (.waitDma2 cc2_scoped2.sem r0M (o0Rows L t) (Memref.isWhole_whole _).wordExact (View.wordExact_bits rfl)) fun _ =>
  .op (.enqueueDma r1M (.here (o1Rows L t)) (.dma cc2_scoped3.sem) (Memref.isWhole_whole _).wordExact (View.wordExact_bits rfl) ⟨Or.inl rfl, trivial⟩) fun _ =>
  .op (.waitDma2 cc2_scoped3.sem r1M (o1Rows L t) (Memref.isWhole_whole _).wordExact (View.wordExact_bits rfl)) fun _ =>
  .ret ⟨⟩

/-- The body of trip `t` at the gather's arguments. -/
abbrev bodyP (d : Dev nD) (L : grid2.Coords) (t : Fin k2_t1_loop.trips) (u : Unit) : Prog (TpuEff nD τ sig (Elt F) Λ₀ (tV d L).2) Unit :=
  k2_t1_body L a0M (Memref.isWhole_whole _) a1M (Memref.isWhole_whole _) t7M (Memref.isWhole_whole _) t9M (Memref.isWhole_whole _)
    o0M (Memref.isWhole_whole _) o1M (Memref.isWhole_whole _) i0M (Memref.isWhole_whole _) i1M (Memref.isWhole_whole _)
    r0M (Memref.isWhole_whole _) r1M (Memref.isWhole_whole _) cc2_scratch4 cc2_scoped0 cc2_scoped1 cc2_scoped2 cc2_scoped3
    (iota .scVector S16 32 [0] iota_S16_d0_w32_scVector) t u

theorem step_bind {α β : Type} {A : sProp (MM F)} {p : Prog (TpuEff nD τ sig (Elt F) Λ₀ (tV d L).2) α} {k : α → Prog (TpuEff nD τ sig (Elt F) Λ₀ (tV d L).2) β}
    {Q : β → sProp (MM F)} (h : A ⊢ wpT d L p (fun a => wpT d L (k a) Q)) : A ⊢ wpT d L (p >>= k) Q := by
  unfold wpT at h ⊢
  rw [wp_bind]
  exact h

theorem walk (t : Fin k2_t1_loop.trips) (u : Unit) {Q : Unit → sProp (MM F)}
    (hO : ∀ g, O g none = 0)
    (h0 : ∀ n, n < 16 → (wOf (xs0 (F := F) s0 t) n).toNat < 1000000) (h1 : ∀ n, n < 16 → (wOf (xs1 (F := F) s1 t) n).toNat < 100000)
    (hk : doneP d L f7 f9 (xs0 (F := F) s0 t) (xs1 (F := F) s1 t) s0 s1 O W R ⊢ wpT d L (tailP d L t) Q) :
    tripP d L f7 f9 (xs0 (F := F) s0 t) (xs1 (F := F) s1 t) s0 s1 O W R 0 0 ⊢ wpT d L (bodyP d L t u) Q := by
  have b7 : ∀ (l : ℕ) (hl : l < 16) (v : BitVec 32), v = wOf (xs0 (F := F) s0 t) l → v.toNat < 1000000 := fun l hl v h => by rw [h]; exact h0 l hl
  have b9 : ∀ (l : ℕ) (hl : l < 16) (v : BitVec 32), v = wOf (xs1 (F := F) s1 t) l → v.toNat < 100000 := fun l hl v h => by rw [h]; exact h1 l hl
  unfold bodyP k2_t1_body
  refine step_bind ?_
  rw [k2_part1_eq_skeleton]
  unfold k2_part1_skel
  simp only [Prog.lift, Prog.bind_op, Prog.bind_ret, Prog.pure_eq_ret, bind]
  refine step_load0 ?_
  refine step_load1 ?_
  refine step_assume (And.intro (inb7 _ (b7 0 (by decide) _ (lane_eq _ 0 (by decide)))) (inb7 _ (b7 0 (by decide) _ (lane_eq _ 0 (by decide)))) : k2_chk1 _) ?_
  refine step_assume (And.intro (inb9 _ (b9 0 (by decide) _ (lane_eq _ 0 (by decide)))) (inb9 _ (b9 0 (by decide) _ (lane_eq _ 0 (by decide)))) : k2_chk2 _) ?_
  refine step_copy7 0 _ _ (by decide) rfl (lane_eq _ 0 (by decide)) (h0 0 (by decide)) ?_
  refine step_copy9 0 _ _ (by decide) rfl (lane_eq _ 0 (by decide)) (h1 0 (by decide)) ?_
  refine step_ret ?_
  dsimp only
  refine step_bind ?_
  rw [k2_part2_eq_skeleton]
  unfold k2_part2_skel
  simp only [Prog.lift, Prog.bind_op, Prog.bind_ret, Prog.pure_eq_ret, bind]
  refine step_assume (And.intro (inb7 _ (b7 1 (by decide) _ (lane_eq _ 1 (by decide)))) (inb7 _ (b7 1 (by decide) _ (lane_eq _ 1 (by decide)))) : k2_chk3 _) ?_
  refine step_assume (And.intro (inb9 _ (b9 1 (by decide) _ (lane_eq _ 1 (by decide)))) (inb9 _ (b9 1 (by decide) _ (lane_eq _ 1 (by decide)))) : k2_chk4 _) ?_
  refine step_copy7 1 _ _ (by decide) rfl (lane_eq _ 1 (by decide)) (h0 1 (by decide)) ?_
  refine step_copy9 1 _ _ (by decide) rfl (lane_eq _ 1 (by decide)) (h1 1 (by decide)) ?_
  refine step_assume (And.intro (inb7 _ (b7 2 (by decide) _ (lane_eq _ 2 (by decide)))) (inb7 _ (b7 2 (by decide) _ (lane_eq _ 2 (by decide)))) : k2_chk5 _) ?_
  refine step_assume (And.intro (inb9 _ (b9 2 (by decide) _ (lane_eq _ 2 (by decide)))) (inb9 _ (b9 2 (by decide) _ (lane_eq _ 2 (by decide)))) : k2_chk6 _) ?_
  refine step_ret ?_
  dsimp only
  refine step_bind ?_
  rw [k2_part3_eq_skeleton]
  unfold k2_part3_skel
  simp only [Prog.lift, Prog.bind_op, Prog.bind_ret, Prog.pure_eq_ret, bind]
  refine step_copy7 2 _ _ (by decide) rfl (lane_eq _ 2 (by decide)) (h0 2 (by decide)) ?_
  refine step_copy9 2 _ _ (by decide) rfl (lane_eq _ 2 (by decide)) (h1 2 (by decide)) ?_
  refine step_assume (And.intro (inb7 _ (b7 3 (by decide) _ (lane_eq _ 3 (by decide)))) (inb7 _ (b7 3 (by decide) _ (lane_eq _ 3 (by decide)))) : k2_chk7 _) ?_
  refine step_assume (And.intro (inb9 _ (b9 3 (by decide) _ (lane_eq _ 3 (by decide)))) (inb9 _ (b9 3 (by decide) _ (lane_eq _ 3 (by decide)))) : k2_chk8 _) ?_
  refine step_ret ?_
  dsimp only
  refine step_bind ?_
  rw [k2_part4_eq_skeleton]
  unfold k2_part4_skel
  simp only [Prog.lift, Prog.bind_op, Prog.bind_ret, Prog.pure_eq_ret, bind]
  refine step_copy7 3 _ _ (by decide) rfl (lane_eq _ 3 (by decide)) (h0 3 (by decide)) ?_
  refine step_copy9 3 _ _ (by decide) rfl (lane_eq _ 3 (by decide)) (h1 3 (by decide)) ?_
  refine step_assume (And.intro (inb7 _ (b7 4 (by decide) _ (lane_eq _ 4 (by decide)))) (inb7 _ (b7 4 (by decide) _ (lane_eq _ 4 (by decide)))) : k2_chk9 _) ?_
  refine step_assume (And.intro (inb9 _ (b9 4 (by decide) _ (lane_eq _ 4 (by decide)))) (inb9 _ (b9 4 (by decide) _ (lane_eq _ 4 (by decide)))) : k2_chk10 _) ?_
  refine step_copy7 4 _ _ (by decide) rfl (lane_eq _ 4 (by decide)) (h0 4 (by decide)) ?_
  refine step_ret ?_
  dsimp only
  refine step_bind ?_
  rw [k2_part5_eq_skeleton]
  unfold k2_part5_skel
  simp only [Prog.lift, Prog.bind_op, Prog.bind_ret, Prog.pure_eq_ret, bind]
  refine step_copy9 4 _ _ (by decide) rfl (lane_eq _ 4 (by decide)) (h1 4 (by decide)) ?_
  refine step_assume (And.intro (inb7 _ (b7 5 (by decide) _ (lane_eq _ 5 (by decide)))) (inb7 _ (b7 5 (by decide) _ (lane_eq _ 5 (by decide)))) : k2_chk11 _) ?_
  refine step_assume (And.intro (inb9 _ (b9 5 (by decide) _ (lane_eq _ 5 (by decide)))) (inb9 _ (b9 5 (by decide) _ (lane_eq _ 5 (by decide)))) : k2_chk12 _) ?_
  refine step_copy7 5 _ _ (by decide) rfl (lane_eq _ 5 (by decide)) (h0 5 (by decide)) ?_
  refine step_copy9 5 _ _ (by decide) rfl (lane_eq _ 5 (by decide)) (h1 5 (by decide)) ?_
  refine step_assume (And.intro (inb7 _ (b7 6 (by decide) _ (lane_eq _ 6 (by decide)))) (inb7 _ (b7 6 (by decide) _ (lane_eq _ 6 (by decide)))) : k2_chk13 _) ?_
  refine step_ret ?_
  dsimp only
  refine step_bind ?_
  rw [k2_part6_eq_skeleton]
  unfold k2_part6_skel
  simp only [Prog.lift, Prog.bind_op, Prog.bind_ret, Prog.pure_eq_ret, bind]
  refine step_assume (And.intro (inb9 _ (b9 6 (by decide) _ (lane_eq _ 6 (by decide)))) (inb9 _ (b9 6 (by decide) _ (lane_eq _ 6 (by decide)))) : k2_chk14 _) ?_
  refine step_copy7 6 _ _ (by decide) rfl (lane_eq _ 6 (by decide)) (h0 6 (by decide)) ?_
  refine step_copy9 6 _ _ (by decide) rfl (lane_eq _ 6 (by decide)) (h1 6 (by decide)) ?_
  refine step_assume (And.intro (inb7 _ (b7 7 (by decide) _ (lane_eq _ 7 (by decide)))) (inb7 _ (b7 7 (by decide) _ (lane_eq _ 7 (by decide)))) : k2_chk15 _) ?_
  refine step_assume (And.intro (inb9 _ (b9 7 (by decide) _ (lane_eq _ 7 (by decide)))) (inb9 _ (b9 7 (by decide) _ (lane_eq _ 7 (by decide)))) : k2_chk16 _) ?_
  refine step_ret ?_
  dsimp only
  refine step_bind ?_
  rw [k2_part7_eq_skeleton]
  unfold k2_part7_skel
  simp only [Prog.lift, Prog.bind_op, Prog.bind_ret, Prog.pure_eq_ret, bind]
  refine step_copy7 7 _ _ (by decide) rfl (lane_eq _ 7 (by decide)) (h0 7 (by decide)) ?_
  refine step_copy9 7 _ _ (by decide) rfl (lane_eq _ 7 (by decide)) (h1 7 (by decide)) ?_
  refine step_assume (And.intro (inb7 _ (b7 8 (by decide) _ (lane_eq _ 8 (by decide)))) (inb7 _ (b7 8 (by decide) _ (lane_eq _ 8 (by decide)))) : k2_chk17 _) ?_
  refine step_assume (And.intro (inb9 _ (b9 8 (by decide) _ (lane_eq _ 8 (by decide)))) (inb9 _ (b9 8 (by decide) _ (lane_eq _ 8 (by decide)))) : k2_chk18 _) ?_
  refine step_copy7 8 _ _ (by decide) rfl (lane_eq _ 8 (by decide)) (h0 8 (by decide)) ?_
  refine step_ret ?_
  dsimp only
  refine step_bind ?_
  rw [k2_part8_eq_skeleton]
  unfold k2_part8_skel
  simp only [Prog.lift, Prog.bind_op, Prog.bind_ret, Prog.pure_eq_ret, bind]
  refine step_copy9 8 _ _ (by decide) rfl (lane_eq _ 8 (by decide)) (h1 8 (by decide)) ?_
  refine step_assume (And.intro (inb7 _ (b7 9 (by decide) _ (lane_eq _ 9 (by decide)))) (inb7 _ (b7 9 (by decide) _ (lane_eq _ 9 (by decide)))) : k2_chk19 _) ?_
  refine step_assume (And.intro (inb9 _ (b9 9 (by decide) _ (lane_eq _ 9 (by decide)))) (inb9 _ (b9 9 (by decide) _ (lane_eq _ 9 (by decide)))) : k2_chk20 _) ?_
  refine step_copy7 9 _ _ (by decide) rfl (lane_eq _ 9 (by decide)) (h0 9 (by decide)) ?_
  refine step_copy9 9 _ _ (by decide) rfl (lane_eq _ 9 (by decide)) (h1 9 (by decide)) ?_
  refine step_ret ?_
  dsimp only
  refine step_bind ?_
  rw [k2_part9_eq_skeleton]
  unfold k2_part9_skel
  simp only [Prog.lift, Prog.bind_op, Prog.bind_ret, Prog.pure_eq_ret, bind]
  refine step_assume (And.intro (inb7 _ (b7 10 (by decide) _ (lane_eq _ 10 (by decide)))) (inb7 _ (b7 10 (by decide) _ (lane_eq _ 10 (by decide)))) : k2_chk21 _) ?_
  refine step_assume (And.intro (inb9 _ (b9 10 (by decide) _ (lane_eq _ 10 (by decide)))) (inb9 _ (b9 10 (by decide) _ (lane_eq _ 10 (by decide)))) : k2_chk22 _) ?_
  refine step_copy7 10 _ _ (by decide) rfl (lane_eq _ 10 (by decide)) (h0 10 (by decide)) ?_
  refine step_copy9 10 _ _ (by decide) rfl (lane_eq _ 10 (by decide)) (h1 10 (by decide)) ?_
  refine step_assume (And.intro (inb7 _ (b7 11 (by decide) _ (lane_eq _ 11 (by decide)))) (inb7 _ (b7 11 (by decide) _ (lane_eq _ 11 (by decide)))) : k2_chk23 _) ?_
  refine step_ret ?_
  dsimp only
  refine step_bind ?_
  rw [k2_part10_eq_skeleton]
  unfold k2_part10_skel
  simp only [Prog.lift, Prog.bind_op, Prog.bind_ret, Prog.pure_eq_ret, bind]
  refine step_assume (And.intro (inb9 _ (b9 11 (by decide) _ (lane_eq _ 11 (by decide)))) (inb9 _ (b9 11 (by decide) _ (lane_eq _ 11 (by decide)))) : k2_chk24 _) ?_
  refine step_copy7 11 _ _ (by decide) rfl (lane_eq _ 11 (by decide)) (h0 11 (by decide)) ?_
  refine step_copy9 11 _ _ (by decide) rfl (lane_eq _ 11 (by decide)) (h1 11 (by decide)) ?_
  refine step_assume (And.intro (inb7 _ (b7 12 (by decide) _ (lane_eq _ 12 (by decide)))) (inb7 _ (b7 12 (by decide) _ (lane_eq _ 12 (by decide)))) : k2_chk25 _) ?_
  refine step_assume (And.intro (inb9 _ (b9 12 (by decide) _ (lane_eq _ 12 (by decide)))) (inb9 _ (b9 12 (by decide) _ (lane_eq _ 12 (by decide)))) : k2_chk26 _) ?_
  refine step_ret ?_
  dsimp only
  refine step_bind ?_
  rw [k2_part11_eq_skeleton]
  unfold k2_part11_skel
  simp only [Prog.lift, Prog.bind_op, Prog.bind_ret, Prog.pure_eq_ret, bind]
  refine step_copy7 12 _ _ (by decide) rfl (lane_eq _ 12 (by decide)) (h0 12 (by decide)) ?_
  refine step_copy9 12 _ _ (by decide) rfl (lane_eq _ 12 (by decide)) (h1 12 (by decide)) ?_
  refine step_assume (And.intro (inb7 _ (b7 13 (by decide) _ (lane_eq _ 13 (by decide)))) (inb7 _ (b7 13 (by decide) _ (lane_eq _ 13 (by decide)))) : k2_chk27 _) ?_
  refine step_assume (And.intro (inb9 _ (b9 13 (by decide) _ (lane_eq _ 13 (by decide)))) (inb9 _ (b9 13 (by decide) _ (lane_eq _ 13 (by decide)))) : k2_chk28 _) ?_
  refine step_copy7 13 _ _ (by decide) rfl (lane_eq _ 13 (by decide)) (h0 13 (by decide)) ?_
  refine step_ret ?_
  dsimp only
  refine step_bind ?_
  rw [k2_part12_eq_skeleton]
  unfold k2_part12_skel
  simp only [Prog.lift, Prog.bind_op, Prog.bind_ret, Prog.pure_eq_ret, bind]
  refine step_copy9 13 _ _ (by decide) rfl (lane_eq _ 13 (by decide)) (h1 13 (by decide)) ?_
  refine step_assume (And.intro (inb7 _ (b7 14 (by decide) _ (lane_eq _ 14 (by decide)))) (inb7 _ (b7 14 (by decide) _ (lane_eq _ 14 (by decide)))) : k2_chk29 _) ?_
  refine step_assume (And.intro (inb9 _ (b9 14 (by decide) _ (lane_eq _ 14 (by decide)))) (inb9 _ (b9 14 (by decide) _ (lane_eq _ 14 (by decide)))) : k2_chk30 _) ?_
  refine step_copy7 14 _ _ (by decide) rfl (lane_eq _ 14 (by decide)) (h0 14 (by decide)) ?_
  refine step_copy9 14 _ _ (by decide) rfl (lane_eq _ 14 (by decide)) (h1 14 (by decide)) ?_
  refine step_ret ?_
  dsimp only
  refine step_bind ?_
  rw [k2_part13_eq_skeleton]
  unfold k2_part13_skel
  simp only [Prog.lift, Prog.bind_op, Prog.bind_ret, Prog.pure_eq_ret, bind]
  refine step_assume (And.intro (inb7 _ (b7 15 (by decide) _ (lane_eq _ 15 (by decide)))) (inb7 _ (b7 15 (by decide) _ (lane_eq _ 15 (by decide)))) : k2_chk31 _) ?_
  refine step_assume ((inb9 _ (b9 15 (by decide) _ (lane_eq _ 15 (by decide)))) : k2_chk32 _) ?_
  refine step_copy7 15 _ _ (by decide) rfl (lane_eq _ 15 (by decide)) (h0 15 (by decide)) ?_
  refine step_copy9 15 _ _ (by decide) rfl (lane_eq _ 15 (by decide)) (h1 15 (by decide)) ?_
  refine step_wait hO rfl (by decide) ?_
  refine step_ret ?_
  dsimp only
  refine step_bind ?_
  rw [k2_part14_eq_skeleton]
  unfold k2_part14_skel
  simp only [Prog.lift, Prog.bind_op, Prog.bind_ret, Prog.pure_eq_ret, bind]
  refine step_wait hO rfl (by decide) ?_
  refine step_wait hO rfl (by decide) ?_
  refine step_wait hO rfl (by decide) ?_
  refine step_wait hO rfl (by decide) ?_
  refine step_ret ?_
  refine step_bind ?_
  rw [k2_part15_eq_skeleton]
  unfold k2_part15_skel
  simp only [Prog.lift, Prog.bind_op, Prog.bind_ret, Prog.pure_eq_ret, bind]
  refine step_wait hO rfl (by decide) ?_
  refine step_wait hO rfl (by decide) ?_
  refine step_wait hO rfl (by decide) ?_
  refine step_wait hO rfl (by decide) ?_
  refine step_wait hO rfl (by decide) ?_
  refine step_ret ?_
  refine step_bind ?_
  rw [k2_part16_eq_skeleton]
  unfold k2_part16_skel
  simp only [Prog.lift, Prog.bind_op, Prog.bind_ret, Prog.pure_eq_ret, bind]
  refine step_wait hO rfl (by decide) ?_
  refine step_wait hO rfl (by decide) ?_
  refine step_wait hO rfl (by decide) ?_
  refine step_wait hO rfl (by decide) ?_
  refine step_ret ?_
  refine step_bind ?_
  rw [k2_part17_eq_skeleton]
  unfold k2_part17_skel
  simp only [Prog.lift, Prog.bind_op, Prog.bind_ret, Prog.pure_eq_ret, bind]
  refine step_wait hO rfl (by decide) ?_
  refine step_wait hO rfl (by decide) ?_
  refine step_wait hO rfl (by decide) ?_
  refine step_wait hO rfl (by decide) ?_
  refine step_ret ?_
  refine step_bind ?_
  rw [k2_part18_eq_skeleton]
  unfold k2_part18_skel
  simp only [Prog.lift, Prog.bind_op, Prog.bind_ret, Prog.pure_eq_ret, bind]
  refine step_wait hO rfl (by decide) ?_
  refine step_wait hO rfl (by decide) ?_
  refine step_wait hO rfl (by decide) ?_
  refine step_wait hO rfl (by decide) ?_
  refine step_ret ?_
  refine step_bind ?_
  rw [k2_part19_eq_skeleton]
  unfold k2_part19_skel
  simp only [Prog.lift, Prog.bind_op, Prog.bind_ret, Prog.pure_eq_ret, bind]
  refine step_wait hO rfl (by decide) ?_
  refine step_wait hO rfl (by decide) ?_
  refine step_wait hO rfl (by decide) ?_
  refine step_wait hO rfl (by decide) ?_
  refine step_wait hO rfl (by decide) ?_
  refine step_ret ?_
  refine step_bind ?_
  rw [k2_part20_eq_skeleton]
  unfold k2_part20_skel
  simp only [Prog.lift, Prog.bind_op, Prog.bind_ret, Prog.pure_eq_ret, bind]
  refine step_wait hO rfl (by decide) ?_
  refine step_wait hO rfl (by decide) ?_
  refine step_wait hO rfl (by decide) ?_
  refine step_wait hO rfl (by decide) ?_
  refine step_ret ?_
  refine step_waitLast hO rfl (by decide) ?_
  exact hk

end Trip

end Cert.KernelIdeal.Pf

end

end
-- ==== Proof.ILoop.lean ====
/-
  One trip of the gather's loop: sixteen rows of either table fetched and written to the outputs.
-/
module

public import proofs.«01_k».proof.Proof.ITrip

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

section Sync

variable {d : Dev nD} {L : grid2.Coords}
variable {O : CellTallies nD τ sig (HIx 1)} {W : Waits sig (HIx 1)}

/-- The recorded waits: those already there and local ones. -/
def owedL (d : Dev nD) (L : grid2.Coords) (O : CellTallies nD τ sig (HIx 1)) (W : Waits sig (HIx 1)) : sProp (MM F) :=
  iprop(∃ W', ⌜∀ p ∈ W', p ∈ W ∨ p.2 = none⌝ ∗ owes (tV d L) O W')

/-- A copy issued and waited for at once. -/
theorem sync_copy {α : Type} {s : Shape} {e : EltTy} {sp sp' : Space} {sem : DmaSem sig} {src : Memref sig (tV d L).2.kind sp s e} {dst : Memref sig (tV d L).2.kind sp' s e}
    {sw : Space} {ss : Shape} {se : EltTy} {dw : Space} {ds : Shape} {de : EltTy}
    {srcw : Memref sig (tV d L).2.kind sw ss se} {dstw : Memref sig (tV d L).2.kind dw ds de}
    {hsrc : src.view.WordExact} {hdst : dst.view.WordExact} {hsem : DmaTarget.Typed sp (.dma sem) (.here dst : DmaTarget nD τ sig (tV d L).2 sp' s e)}
    {hsrcw : srcw.view.WordExact} {hdstw : dstw.view.WordExact} {k : PUnit → Prog (TpuEff nD τ sig (Elt F) Λ₀ (tV d L).2) α} {Q : α → sProp (MM F)}
    {q : PosShare TreeShare} {fs : Buf (Elt F) (src.view.loc (tV d L))} {Sd : Finset (Idx (dst.view.loc (tV d L)))} {fd : Buf (Elt F) (dst.view.loc (tV d L))}
    (hO : ∀ g, O g none = 0) (N : ℕ) (hN : dst.view.amount (.dma sem) = N) (hN0 : 0 < N) (hNw : dstw.view.dmaCredit = N) (hSd : dst.view.set ⊆ Sd) :
    iprop((src.view.loc (tV d L) ↦[src.view.set]{q} fs) ∗ (dst.view.loc (tV d L) ↦[Sd]{fullShare} fd) ∗ semVal (tV d L, .dma sem) 0
        ∗ levAts (K (F := F)).L (K (F := F)).lev ∗ owedL d L O W)
      ⊢ iprop((((dst.view.loc (tV d L) ↦[Sd]{fullShare} dst.view.write (Elt F) fd (ReadAs.same.apply (src.view.read (Elt F) fs)) Finset.univ)
            ∗ (src.view.loc (tV d L) ↦[src.view.set]{q} fs) ∗ semVal (tV d L, .dma sem) 0 ∗ owedL d L O W) -∗ wpT d L (k ⟨⟩) Q)
          -∗ wpT d L (.op (.enqueueDmaAs src (.here dst) .same (.dma sem) hsrc hdst hsem) fun _ => .op (.waitDma2 sem srcw dstw hsrcw hdstw) k) Q) := by
  iintro ⟨Hs, Hd, Hv, #Hlv, HO⟩ Hk
  unfold owedL
  icases HO with ⟨%W', %hW, HO⟩
  ihave HM := ((K (F := F)).mayWait_none (thr := tV d L) (.dma sem) hO) $$ Hlv
  iapply (Transfers.wp_dmaLocal (EC (F := F)) 𝒱₀ (tV d L) none (none : HIx 1) N hN hN0 hSd) $$ [Hs Hd Hv]
  · isplitl [Hs]; · iexact Hs
    isplitl [Hd]; · iexact Hd
    iexact Hv
  iintro HF
  iapply (Transfers.wp_waitLocalO (EC (F := F)) 𝒱₀ (tV d L) none (none : HIx 1) hNw) $$ [HF HO HM]
  · isplitl [HF]; · iexact HF
    isplitl [HO]; · iexact HO
    iexact HM
  iintro ⟨⟨Hd, Hs⟩, Hv, HO⟩
  iapply Hk
  isplitl [Hd]; · iexact Hd
  isplitl [Hs]; · iexact Hs
  isplitl [Hv]; · iexact Hv
  iexists (insert (SemLoc.dma sem, none) W')
  isplitr
  · ipureintro
    intro p hp
    rcases Finset.mem_insert.mp hp with h | h
    · exact .inr (by rw [h])
    · exact hW p h
  iexact HO

end Sync

/-- The first row of the tile at `L`. -/
def base (L : grid2.Coords) : ℕ := 1024 * (L 1).val + 512 * (L 0).val

/-- The rows of the tile at `L`. -/
def rowsL (L : grid2.Coords) : Finset S16384x64.Idx := Finset.univ.filter fun p => base L ≤ (p 0).val ∧ (p 0).val < base L + 512
theorem mem_rowsL {L : grid2.Coords} {p : S16384x64.Idx} : p ∈ rowsL L ↔ base L ≤ (p 0).val ∧ (p 0).val < base L + 512 := by simp [rowsL]

theorem base_le (L : grid2.Coords) : base L + 512 ≤ 16384 := by
  have h0 : (L 0).val < 2 := (L 0).isLt
  have h1 : (L 1).val < 16 := (L 1).isLt
  unfold base; omega

theorem emb_o0Rows (L : grid2.Coords) (t : Fin k2_t1_loop.trips) (q : S16x64.Idx) (a) :
    ((o0Rows L t).view.emb q a).val = (![base L + 16 * t.val + (q 0).val, (q 1).val] : Fin 2 → Nat) a := by
  show ((Rect.unit (s := S16384x64) (k2_off66 L t) S16x64.size (k2_off66_inb L t)).idx q a).val = _
  show k2_off66 L t a + 1 * (q a).val = _
  rw [k2_off66_eq]
  unfold base
  fin_cases a
  · show 1024 * (L 1).val + 512 * (L 0).val + 16 * t.val + 1 * (q 0).val = _; simp
  · show 0 + 1 * (q 1).val = _; simp
theorem emb_o1Rows (L : grid2.Coords) (t : Fin k2_t1_loop.trips) (q : S16x64.Idx) (a) :
    ((o1Rows L t).view.emb q a).val = (![base L + 16 * t.val + (q 0).val, (q 1).val] : Fin 2 → Nat) a := emb_o0Rows L t q a

theorem trips_eq : k2_t1_loop.trips = 32 := by decide

theorem set_o0Rows (L : grid2.Coords) (t : Fin k2_t1_loop.trips) : (o0Rows L t).view.set ⊆ rowsL L := by
  intro p hp
  obtain ⟨q, -, rfl⟩ := Finset.mem_map.mp hp
  rw [mem_rowsL, emb_o0Rows]
  have ht : t.val < 32 := lt_of_lt_of_eq t.isLt trips_eq
  have hq : (q 0).val < 16 := (q 0).isLt
  show base L ≤ base L + 16 * t.val + (q 0).val ∧ base L + 16 * t.val + (q 0).val < _
  omega
theorem set_o1Rows (L : grid2.Coords) (t : Fin k2_t1_loop.trips) : (o1Rows L t).view.set ⊆ rowsL L := set_o0Rows L t

theorem put0 (L : grid2.Coords) (t : Fin k2_t1_loop.trips) (f G : S16384x64.Idx → Elt F .f32) (g : S16x64.Idx → Elt F .f32)
    (hf : ∀ p : S16384x64.Idx, base L ≤ (p 0).val → (p 0).val < base L + 16 * t.val → f p = G p) (hg : ∀ q, g q = G ((o0Rows L t).view.emb q)) :
    ∀ p : S16384x64.Idx, base L ≤ (p 0).val → (p 0).val < base L + 16 * (t.val + 1) →
      (o0Rows L t).view.write (Elt F) f (ReadAs.same.apply (r0M.view.read (Elt F) g)) Finset.univ p = G p := by
  intro p h1 h2
  by_cases h : p ∈ (o0Rows L t).view.set
  · obtain ⟨q, -, rfl⟩ := Finset.mem_map.mp h
    rw [View.write_emb_of_mem _ _ (Finset.mem_univ _)]
    exact hg q
  · rw [View.write_of_not_mem _ _ _ h]
    refine hf p h1 ?_
    by_contra h3
    refine h (Finset.mem_map.mpr ⟨ix2 (⟨(p 0).val - (base L + 16 * t.val), by omega⟩ : Fin 16) (p 1 : Fin 64), Finset.mem_univ _, ?_⟩)
    funext a
    apply Fin.ext
    rw [emb_o0Rows]
    fin_cases a
    · show base L + 16 * t.val + ((p 0).val - (base L + 16 * t.val)) = (p 0).val; omega
    · rfl
theorem put1 (L : grid2.Coords) (t : Fin k2_t1_loop.trips) (f G : S16384x64.Idx → Elt F .f32) (g : S16x64.Idx → Elt F .f32)
    (hf : ∀ p : S16384x64.Idx, base L ≤ (p 0).val → (p 0).val < base L + 16 * t.val → f p = G p) (hg : ∀ q, g q = G ((o1Rows L t).view.emb q)) :
    ∀ p : S16384x64.Idx, base L ≤ (p 0).val → (p 0).val < base L + 16 * (t.val + 1) →
      (o1Rows L t).view.write (Elt F) f (ReadAs.same.apply (r1M.view.read (Elt F) g)) Finset.univ p = G p := put0 L t f G g hf hg

section Loop

variable (d : Dev nD) (L : grid2.Coords)
variable (f7 : S1000000x64.Idx → Elt F .f32) (f9 : S100000x64.Idx → Elt F .f32)
variable (s0 s1 : S512.Idx → BitVec 32) (G0 G1 : S16384x64.Idx → Elt F .f32)
variable (O : CellTallies nD τ sig (HIx 1)) (W : Waits sig (HIx 1))

/-- An output's rows of this tile, the first `16 * m` of them as they will be left. -/
def out0 (m : ℕ) : sProp (MM F) :=
  iprop(∃ f, ⌜∀ p : S16384x64.Idx, base L ≤ (p 0).val → (p 0).val < base L + 16 * m → f p = G0 p⌝ ∗ ((tV d L).loc main_v10_0_scv ↦[rowsL L]{fullShare} f))
def out1 (m : ℕ) : sProp (MM F) :=
  iprop(∃ f, ⌜∀ p : S16384x64.Idx, base L ≤ (p 0).val → (p 0).val < base L + 16 * m → f p = G1 p⌝ ∗ ((tV d L).loc main_v10_1_scv ↦[rowsL L]{fullShare} f))

/-- Both outputs after `m` trips, and the write-backs' counters at zero. -/
def outsP (m : ℕ) : sProp (MM F) :=
  iprop(out0 d L G0 m ∗ out1 d L G1 m ∗ semVal (tV d L, .dma cc2_scoped2.sem) 0 ∗ semVal (tV d L, .dma cc2_scoped3.sem) 0)

/-- The state between trips. -/
def loopInv (m : ℕ) : sProp (MM F) :=
  iprop(semVal (tV d L, .dma cc2_scratch4.sem) 0 ∗ (∃ b0, rLoc0 d L ↦{fullShare} b0) ∗ (∃ b1, rLoc1 d L ↦{fullShare} b1)
    ∗ keepP d L f7 f9 s0 s1 O W (outsP d L G0 G1 m))

/-- A 16-row buffer held whole, as the memref's own elements. -/
theorem whole_r0 (f : S16x64.Idx → Elt F .f32) :
    (rLoc0 d L ↦{fullShare} f : sProp (MM F)) = (r0M.view.loc (tV d L) ↦[r0M.view.set]{fullShare} f) := by
  rw [show r0M.view.set = Finset.univ from View.set_whole _]
theorem whole_r1 (f : S16x64.Idx → Elt F .f32) :
    (rLoc1 d L ↦{fullShare} f : sProp (MM F)) = (r1M.view.loc (tV d L) ↦[r1M.view.set]{fullShare} f) := by
  rw [show r1M.view.set = Finset.univ from View.set_whole _]

variable {d L f7 f9 s0 s1 G0 G1 O W}

theorem tail_wp (t : Fin k2_t1_loop.trips) (hO : ∀ g, O g none = 0)
    (hG0 : ∀ q, g0 f7 (xs0 (F := F) s0 t) q = G0 ((o0Rows L t).view.emb q)) (hG1 : ∀ q, g1 f9 (xs1 (F := F) s1 t) q = G1 ((o1Rows L t).view.emb q)) :
    doneP d L f7 f9 (xs0 (F := F) s0 t) (xs1 (F := F) s1 t) s0 s1 O W (outsP d L G0 G1 t.val)
      ⊢ wpT d L (tailP d L t) (fun _ => loopInv d L f7 f9 s0 s1 G0 G1 O W (t.val + 1)) := by
  iintro H
  unfold doneP keepP outsP out0 out1
  icases H with ⟨HS, Hr0, Hr1, Ht7, Ht9, Hi0, Hi1, #Hlv, HO, ⟨%fa, %hfa, Ha⟩, ⟨%fb, %hfb, Hb⟩, Hs2, Hs3⟩
  unfold tailP
  iapply (sync_copy (d := d) (L := L) (src := r0M) (dst := o0Rows L t) (q := fullShare) (fs := g0 f7 (xs0 (F := F) s0 t)) (Sd := rowsL L) (fd := fa) (O := O) (W := W)
    hO _ rfl (View.dmaCredit_pos _ (by decide)) rfl (set_o0Rows L t)) $$ [Hr0 Ha Hs2 HO]
  · isplitl [Hr0]
    · iapply (Entails.of_eq (whole_r0 d L _)) $$ Hr0
    isplitl [Ha]; · iexact Ha
    isplitl [Hs2]; · iexact Hs2
    isplitr; · iexact Hlv
    unfold owedL
    iexact HO
  iintro ⟨Ha, Hr0, Hs2, HO⟩
  iapply (sync_copy (d := d) (L := L) (src := r1M) (dst := o1Rows L t) (q := fullShare) (fs := g1 f9 (xs1 (F := F) s1 t)) (Sd := rowsL L) (fd := fb) (O := O) (W := W)
    hO _ rfl (View.dmaCredit_pos _ (by decide)) rfl (set_o1Rows L t)) $$ [Hr1 Hb Hs3 HO]
  · isplitl [Hr1]
    · iapply (Entails.of_eq (whole_r1 d L _)) $$ Hr1
    isplitl [Hb]; · iexact Hb
    isplitl [Hs3]; · iexact Hs3
    isplitr; · iexact Hlv
    iexact HO
  iintro ⟨Hb, Hr1, Hs3, HO⟩
  unfold wpT
  rw [wp_ret]
  imodintro
  unfold loopInv keepP outsP out0 out1
  isplitl [HS]; · iexact HS
  isplitl [Hr0]
  · iexists (g0 f7 (xs0 (F := F) s0 t)); iapply (Entails.of_eq (whole_r0 d L _).symm) $$ Hr0
  isplitl [Hr1]
  · iexists (g1 f9 (xs1 (F := F) s1 t)); iapply (Entails.of_eq (whole_r1 d L _).symm) $$ Hr1
  isplitl [Ht7]; · iexact Ht7
  isplitl [Ht9]; · iexact Ht9
  isplitl [Hi0]; · iexact Hi0
  isplitl [Hi1]; · iexact Hi1
  isplitr [HO Ha Hb Hs2 Hs3]; · iexact Hlv
  isplitl [HO]
  · unfold owedL
    iexact HO
  isplitl [Ha]
  · iexists _
    isplitr; · ipureintro; exact put0 L t fa G0 _ hfa hG0
    iexact Ha
  isplitl [Hb]
  · iexists _
    isplitr; · ipureintro; exact put1 L t fb G1 _ hfb hG1
    iexact Hb
  isplitl [Hs2]; · iexact Hs2
  iexact Hs3

theorem trip_wp (t : Fin k2_t1_loop.trips) (u : Unit) (hO : ∀ g, O g none = 0)
    (h0 : ∀ n, n < 16 → (wOf (xs0 (F := F) s0 t) n).toNat < 1000000) (h1 : ∀ n, n < 16 → (wOf (xs1 (F := F) s1 t) n).toNat < 100000)
    (hG0 : ∀ q, g0 f7 (xs0 (F := F) s0 t) q = G0 ((o0Rows L t).view.emb q)) (hG1 : ∀ q, g1 f9 (xs1 (F := F) s1 t) q = G1 ((o1Rows L t).view.emb q)) :
    loopInv d L f7 f9 s0 s1 G0 G1 O W t.val ⊢ wpT d L (bodyP d L t u) (fun _ => loopInv d L f7 f9 s0 s1 G0 G1 O W (t.val + 1)) := by
  have hw := walk (d := d) (L := L) (f7 := f7) (f9 := f9) (s0 := s0) (s1 := s1) (O := O) (W := W) (R := outsP d L G0 G1 t.val) t u
    (Q := fun _ => loopInv d L f7 f9 s0 s1 G0 G1 O W (t.val + 1)) hO h0 h1 (tail_wp t hO hG0 hG1)
  refine .trans ?_ (show iprop(|={Set.univ}=> tripP d L f7 f9 (xs0 (F := F) s0 t) (xs1 (F := F) s1 t) s0 s1 O W (outsP d L G0 G1 t.val) 0 0)
    ⊢ wpT d L (bodyP d L t u) (fun _ => loopInv d L f7 f9 s0 s1 G0 G1 O W (t.val + 1)) from ?_)
  · iintro H
    unfold loopInv
    icases H with ⟨HS, ⟨%b0, Hr0⟩, ⟨%b1, Hr1⟩, HK⟩
    imod (Transfers.batch_alloc' (EC (F := F)) (tV d L) (none : HIx 1) NR (sm := .dma cc2_scratch4.sem) (E := Set.univ)
      (dlvP d L f7 f9 (xs0 (F := F) s0 t) (xs1 (F := F) s1 t))) $$ HS with HB
    imodintro
    unfold tripP
    rw [Nat.zero_mul]
    isplitl [HB]; · iexact HB
    isplitl [Hr0 Hr1]
    · iapply (deal b0 b1) $$ [Hr0 Hr1]
      isplitl [Hr0]; · iexact Hr0
      iexact Hr1
    iexact HK
  · iintro H
    unfold wpT
    imod H
    iapply hw
    iexact H

end Loop

end Cert.KernelIdeal.Pf

end

end
-- ==== Proof.IFetch.lean ====
/-
  A tile's own buffers and semaphores, and the ids it fetches.
-/
module

public import proofs.«01_k».proof.Proof.ILoop

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

section Own

variable (d : Dev nD) (L : grid2.Coords)

def restS : Finset (GSem nD τ sig) := ((((((ownCells (tV d L)).erase (((tV d L, SemLoc.dma cc2_scratch4.sem) : GSem nD τ sig))).erase (((tV d L, SemLoc.dma cc2_scoped0.sem) : GSem nD τ sig))).erase (((tV d L, SemLoc.dma cc2_scoped1.sem) : GSem nD τ sig))).erase (((tV d L, SemLoc.dma cc2_scoped2.sem) : GSem nD τ sig))).erase (((tV d L, SemLoc.dma cc2_scoped3.sem) : GSem nD τ sig)))
def restB : Finset (DevRef τ sig) := (((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3))

theorem cell_mem (s : DmaSem sig) (h : (SemLoc.dma s : SemLoc sig).isScoped .scVector = true) : ((tV d L, SemLoc.dma s) : GSem nD τ sig) ∈ ownCells (tV d L) :=
  mem_ownCells.mpr ⟨rfl, h⟩
theorem cell_ne {s s' : DmaSem sig} (h : s ≠ s') : ((tV d L, SemLoc.dma s) : GSem nD τ sig) ≠ (tV d L, SemLoc.dma s') :=
  fun e => h (SemLoc.dma.inj (Prod.mk.inj e).2)
theorem ref_ne {b b' : Ref sig .scVector} (h : b ≠ b') : (Proc.scVector (cV L) (jV L)).devRef b ≠ (Proc.scVector (cV L) (jV L)).devRef b' :=
  fun e => h (Proc.devRef_injective _ e)

theorem ownSems0_V : (ownSems0 (tV d L) : sProp (MM F)) = iprop(semVal (tV d L, .dma cc2_scratch4.sem) 0 ∗ semVal (tV d L, .dma cc2_scoped0.sem) 0 ∗ semVal (tV d L, .dma cc2_scoped1.sem) 0 ∗ semVal (tV d L, .dma cc2_scoped2.sem) 0 ∗ semVal (tV d L, .dma cc2_scoped3.sem) 0 ∗ bigSep (restS d L) fun g => semVal g 0) := by
  unfold SparseCore.Cfg.ownSems0 restS
  rw [SparseCore.bigSep_erase' (cell_mem d L cc2_scratch4.sem (by decide)),
    SparseCore.bigSep_erase' (Finset.mem_erase.mpr ⟨cell_ne d L (by decide), (cell_mem d L cc2_scoped0.sem (by decide))⟩),
    SparseCore.bigSep_erase' (Finset.mem_erase.mpr ⟨cell_ne d L (by decide), (Finset.mem_erase.mpr ⟨cell_ne d L (by decide), (cell_mem d L cc2_scoped1.sem (by decide))⟩)⟩),
    SparseCore.bigSep_erase' (Finset.mem_erase.mpr ⟨cell_ne d L (by decide), (Finset.mem_erase.mpr ⟨cell_ne d L (by decide), (Finset.mem_erase.mpr ⟨cell_ne d L (by decide), (cell_mem d L cc2_scoped2.sem (by decide))⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (cell_mem d L cc2_scoped3.sem (by decide))⟩)⟩)⟩)⟩)]

theorem ownBufs_V : (ownBufs (tV d L) : sProp (MM F)) = iprop((∃ f, (tV d L).loc cc2_scratch0 ↦{fullShare} f) ∗ (∃ f, (tV d L).loc cc2_scratch1 ↦{fullShare} f) ∗ (∃ f, (tV d L).loc cc2_scratch2 ↦{fullShare} f) ∗ (∃ f, (tV d L).loc cc2_scratch3 ↦{fullShare} f) ∗ bigSep (restB L) fun b => iprop(∃ f, ((d, b) : Loc nD τ sig) ↦{fullShare} f)) := by
  unfold SparseCore.Cfg.ownBufs restB
  refine (SparseCore.bigSep_erase' (SparseCore.Cfg.mem_ownRefs_of_owner (p := Proc.scVector (cV L) (jV L)) (b := (Proc.scVector (cV L) (jV L)).devRef cc2_scratch0) rfl)).trans ?_
  rw [SparseCore.bigSep_erase' (Finset.mem_erase.mpr ⟨ref_ne L (by decide), (SparseCore.Cfg.mem_ownRefs_of_owner (p := Proc.scVector (cV L) (jV L)) (b := (Proc.scVector (cV L) (jV L)).devRef cc2_scratch1) rfl)⟩),
    SparseCore.bigSep_erase' (Finset.mem_erase.mpr ⟨ref_ne L (by decide), (Finset.mem_erase.mpr ⟨ref_ne L (by decide), (SparseCore.Cfg.mem_ownRefs_of_owner (p := Proc.scVector (cV L) (jV L)) (b := (Proc.scVector (cV L) (jV L)).devRef cc2_scratch2) rfl)⟩)⟩),
    SparseCore.bigSep_erase' (Finset.mem_erase.mpr ⟨ref_ne L (by decide), (Finset.mem_erase.mpr ⟨ref_ne L (by decide), (Finset.mem_erase.mpr ⟨ref_ne L (by decide), (SparseCore.Cfg.mem_ownRefs_of_owner (p := Proc.scVector (cV L) (jV L)) (b := (Proc.scVector (cV L) (jV L)).devRef cc2_scratch3) rfl)⟩)⟩)⟩)]

end Own

section Fetch

theorem emb_ids0 (L : grid2.Coords) (y : S512.Idx) :
    (((a0M.slice (Rect.unit (s := S16384) (k2_off1 L) S512.size (k2_off1_inb L)) (fun _ => rfl)).view.emb y) 0).val = base L + (y 0).val := by
  show k2_off1 L 0 + 1 * (y 0).val = _
  rw [k2_off1_eq]
  unfold base
  show 1024 * (L 1).val + 512 * (L 0).val + 1 * (y 0).val = _
  omega

/-- The ids of this tile, out of the whole list. -/
def idsOf (L : grid2.Coords) (A : S16384.Idx → BitVec 32) (n : ℕ) : BitVec 32 := A (ix1 (⟨min n 16383, by omega⟩ : Fin 16384))

abbrev a0Ids (L : grid2.Coords) : Memref sig .scVector .hbm S512 .i32 := a0M.slice (Rect.unit (s := S16384) (k2_off1 L) S512.size (k2_off1_inb L)) (fun _ => rfl)
abbrev a1Ids (L : grid2.Coords) : Memref sig .scVector .hbm S512 .i32 := a1M.slice (Rect.unit (s := S16384) (k2_off1 L) S512.size (k2_off1_inb L)) (fun _ => rfl)

/-- The list of ids a tile fetched. -/
def fetched (L : grid2.Coords) (A : S16384.Idx → BitVec 32) : S512.Idx → BitVec 32 := fun y => idsOf L A (base L + (y 0).val)

theorem fetch0 (L : grid2.Coords) (A : S16384.Idx → BitVec 32) (f : S512.Idx → BitVec 32) :
    i0M.view.write (Elt F) f (ReadAs.same.apply ((a0Ids L).view.read (Elt F) A)) Finset.univ = fetched L A := by
  refine (View.write_whole_univ _ _ _).trans ?_
  funext y
  unfold fetched idsOf
  show A ((a0Ids L).view.emb y) = _
  congr 1
  funext a
  apply Fin.ext
  have hy : (y 0).val < 512 := (y 0).isLt
  have hb := base_le L
  fin_cases a
  refine (emb_ids0 L y).trans ?_
  show _ = min (base L + (y 0).val) 16383
  omega
theorem fetch1 (L : grid2.Coords) (A : S16384.Idx → BitVec 32) (f : S512.Idx → BitVec 32) :
    i1M.view.write (Elt F) f (ReadAs.same.apply ((a1Ids L).view.read (Elt F) A)) Finset.univ = fetched L A := fetch0 L A f

theorem xs0_at (L : grid2.Coords) (A : S16384.Idx → BitVec 32) (t : Fin k2_t1_loop.trips) (n : ℕ) (h : n < 16) :
    wOf (xs0 (F := F) (fetched L A) t) n = idsOf L A (base L + 16 * t.val + n) := by
  unfold wOf fetched
  show idsOf L A (base L + (k2_off2 t 0 + 1 * (n % 16))) = _
  rw [k2_off2_eq, Nat.mod_eq_of_lt h]
  show idsOf L A (base L + (16 * t.val + 1 * n)) = _
  congr 1; omega
theorem xs1_at (L : grid2.Coords) (A : S16384.Idx → BitVec 32) (t : Fin k2_t1_loop.trips) (n : ℕ) (h : n < 16) :
    wOf (xs1 (F := F) (fetched L A) t) n = idsOf L A (base L + 16 * t.val + n) := xs0_at L A t n h

theorem pick7_congr (f : S1000000x64.Idx → Elt F .f32) {w w' : ℕ → BitVec 32} {n n' : ℕ} {c c' : Fin 64} (h : w n = w' n') (hc : c = c') :
    pick7 f w n c = pick7 f w' n' c' := by
  subst hc
  unfold pick7
  simp only [h]

theorem pick9_congr (f : S100000x64.Idx → Elt F .f32) {w w' : ℕ → BitVec 32} {n n' : ℕ} {c c' : Fin 64} (h : w n = w' n') (hc : c = c') :
    pick9 f w n c = pick9 f w' n' c' := by
  subst hc
  unfold pick9
  simp only [h]

/-- The rows an output ends with. -/
def G7 (L : grid2.Coords) (f7 : S1000000x64.Idx → Elt F .f32) (A : S16384.Idx → BitVec 32) : S16384x64.Idx → Elt F .f32 :=
  fun p => pick7 f7 (idsOf L A) (p 0).val (p 1)
def G9 (L : grid2.Coords) (f9 : S100000x64.Idx → Elt F .f32) (A : S16384.Idx → BitVec 32) : S16384x64.Idx → Elt F .f32 :=
  fun p => pick9 f9 (idsOf L A) (p 0).val (p 1)

theorem g0_rows (L : grid2.Coords) (f7 : S1000000x64.Idx → Elt F .f32) (A : S16384.Idx → BitVec 32) (t : Fin k2_t1_loop.trips) (q : S16x64.Idx) :
    g0 f7 (xs0 (F := F) (fetched L A) t) q = G7 L f7 A ((o0Rows L t).view.emb q) := by
  have hq : (q 0).val < 16 := (q 0).isLt
  refine pick7_congr f7 ?_ (Fin.ext (emb_o0Rows L t q 1).symm)
  rw [xs0_at L A t _ hq, emb_o0Rows L t q 0]
  rfl
theorem g1_rows (L : grid2.Coords) (f9 : S100000x64.Idx → Elt F .f32) (A : S16384.Idx → BitVec 32) (t : Fin k2_t1_loop.trips) (q : S16x64.Idx) :
    g1 f9 (xs1 (F := F) (fetched L A) t) q = G9 L f9 A ((o1Rows L t).view.emb q) := by
  have hq : (q 0).val < 16 := (q 0).isLt
  refine pick9_congr f9 ?_ (Fin.ext (emb_o1Rows L t q 1).symm)
  rw [xs1_at L A t _ hq, emb_o1Rows L t q 0]
  rfl

end Fetch

end Cert.KernelIdeal.Pf

end

end
-- ==== Proof.ITile.lean ====
/-
  The gather on one tile.
-/
module

public import proofs.«01_k».proof.Proof.IFetch

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

section Tile

variable (d : Dev nD) (A0 A1 : S16384.Idx → BitVec 32)
variable (R7 : S1000000x64.Idx → Elt F .f32 → Prop) (R9 : S100000x64.Idx → Elt F .f32 → Prop)

/-- What a gathered entry of the first output satisfies: it is an entry of the table's row the id names. -/
def RU (p : S16384x64.Idx) (x : Elt F .f32) : Prop := ∃ q : S1000000x64.Idx, (q 0).val = (A0 (ix1 (p 0 : Fin 16384))).toNat ∧ (q 1).val = (p 1).val ∧ R7 q x
def RG (p : S16384x64.Idx) (x : Elt F .f32) : Prop := ∃ q : S100000x64.Idx, (q 0).val = (A1 (ix1 (p 0 : Fin 16384))).toNat ∧ (q 1).val = (p 1).val ∧ R9 q x

/-- What a tile is handed: read shares of the ids and of both tables, and its rows of the two outputs. -/
def goP (L : grid2.Coords) : sProp (MM F) :=
  iprop(rd (ℓ := (tV d L).loc main_arg0_scv) A0 ∗ rd (ℓ := (tV d L).loc main_arg1_scv) A1
    ∗ (∃ f7, ⌜∀ p, R7 p (f7 p)⌝ ∗ rd (ℓ := (tV d L).loc main_v7_scv) f7) ∗ (∃ f9, ⌜∀ p, R9 p (f9 p)⌝ ∗ rd (ℓ := (tV d L).loc main_v9_scv) f9)
    ∗ (∃ f, (tV d L).loc main_v10_0_scv ↦[rowsL L]{fullShare} f) ∗ (∃ f, (tV d L).loc main_v10_1_scv ↦[rowsL L]{fullShare} f))

/-- What a tile gives back: its rows of the two outputs, gathered. -/
def tdP (L : grid2.Coords) : sProp (MM F) :=
  iprop((∃ f, ⌜∀ p ∈ rowsL L, RU A0 R7 p (f p)⌝ ∗ ((tV d L).loc main_v10_0_scv ↦[rowsL L]{fullShare} f))
    ∗ (∃ f, ⌜∀ p ∈ rowsL L, RG A1 R9 p (f p)⌝ ∗ ((tV d L).loc main_v10_1_scv ↦[rowsL L]{fullShare} f)))

variable {d A0 A1 R7 R9} {L : grid2.Coords}

theorem done7 (f7 : S1000000x64.Idx → Elt F .f32) (h7 : ∀ p, R7 p (f7 p)) (hA0 : ∀ p, (A0 p).toNat < 1000000) (f : S16384x64.Idx → Elt F .f32)
    (hf : ∀ p : S16384x64.Idx, base L ≤ (p 0).val → (p 0).val < base L + 16 * 32 → f p = G7 L f7 A0 p) : ∀ p ∈ rowsL L, RU A0 R7 p (f p) := by
  intro p hp
  obtain ⟨h1, h2⟩ := mem_rowsL.mp hp
  rw [hf p h1 h2]
  have hp0 : (p 0).val < 16384 := (p 0).isLt
  have e : idsOf L A0 (p 0).val = A0 (ix1 (p 0 : Fin 16384)) := by
    unfold idsOf
    congr 1
    funext a
    apply Fin.ext
    fin_cases a
    show min (p 0).val 16383 = (p 0).val
    omega
  refine ⟨ix2 ⟨min (idsOf L A0 (p 0).val).toNat 999999, by omega⟩ (p 1 : Fin 64), ?_, rfl, h7 _⟩
  show min (idsOf L A0 (p 0).val).toNat 999999 = _
  rw [e]
  have := hA0 (ix1 (p 0 : Fin 16384))
  omega
theorem done9 (f9 : S100000x64.Idx → Elt F .f32) (h9 : ∀ p, R9 p (f9 p)) (hA1 : ∀ p, (A1 p).toNat < 100000) (f : S16384x64.Idx → Elt F .f32)
    (hf : ∀ p : S16384x64.Idx, base L ≤ (p 0).val → (p 0).val < base L + 16 * 32 → f p = G9 L f9 A1 p) : ∀ p ∈ rowsL L, RG A1 R9 p (f p) := by
  intro p hp
  obtain ⟨h1, h2⟩ := mem_rowsL.mp hp
  rw [hf p h1 h2]
  have hp0 : (p 0).val < 16384 := (p 0).isLt
  have e : idsOf L A1 (p 0).val = A1 (ix1 (p 0 : Fin 16384)) := by
    unfold idsOf
    congr 1
    funext a
    apply Fin.ext
    fin_cases a
    show min (p 0).val 16383 = (p 0).val
    omega
  refine ⟨ix2 ⟨min (idsOf L A1 (p 0).val).toNat 99999, by omega⟩ (p 1 : Fin 64), ?_, rfl, h9 _⟩
  show min (idsOf L A1 (p 0).val).toNat 99999 = _
  rw [e]
  have := hA1 (ix1 (p 0 : Fin 16384))
  omega

/-- An id buffer held whole, as the memref's own elements. -/
theorem whole_i0 (f : S512.Idx → BitVec 32) :
    ((tV d L).loc cc2_scratch0 ↦{fullShare} f : sProp (MM F)) = (i0M.view.loc (tV d L) ↦[Finset.univ]{fullShare} f) := rfl

abbrev tileProg (L : grid2.Coords) (d : Dev nD) : Prog (TpuEff nD τ sig (Elt F) Λ₀ (tV d L).2) PUnit :=
  cc2__gather_body L a0M (Memref.isWhole_whole _) a1M (Memref.isWhole_whole _) t7M (Memref.isWhole_whole _) t9M (Memref.isWhole_whole _)
    o0M (Memref.isWhole_whole _) o1M (Memref.isWhole_whole _) i0M (Memref.isWhole_whole _) i1M (Memref.isWhole_whole _)
    r0M (Memref.isWhole_whole _) r1M (Memref.isWhole_whole _) cc2_scratch4 cc2_scoped0 cc2_scoped1 cc2_scoped2 cc2_scoped3

theorem tile_body (hF : (K (F := F)).Facts) (O : CellTallies nD τ sig (HIx 1)) (W : Waits sig (HIx 1)) (hO : ∀ g, O g none = 0)
    (hA0 : ∀ p, (A0 p).toNat < 1000000) (hA1 : ∀ p, (A1 p).toNat < 100000) :
    iprop(levAts (K (F := F)).L (K (F := F)).lev ∗ goP d A0 A1 R7 R9 L ∗ scopedBufs (tV d L) ∗ scopedSems0 (tV d L) ∗ owes (tV d L) O W)
      ⊢ wpT d L (tileProg (F := F) L d)
          (fun _ => iprop(tdP d A0 A1 R7 R9 L ∗ scopedBufs (tV d L) ∗ scopedSems0 (tV d L) ∗ ∃ W', ⌜∀ p ∈ W', p ∈ W ∨ p.2 = none⌝ ∗ owes (tV d L) O W')) := by
  unfold tileProg
  rw [cc2__gather_body_eq_skeleton]
  unfold cc2__gather_body_skel
  simp only [Prog.lift, Prog.bind_op, Prog.bind_ret, Prog.pure_eq_ret, bind]
  rw [(K (F := F)).scopedBufs_V hF d (cV L) (jV L), SparseCore.Cfg.scopedSems0_V (Val := Elt F) d (cV L) (jV L), ownSems0_V, ownBufs_V]
  unfold goP
  iintro ⟨#Hlv, ⟨H0, H1, ⟨%f7, %h7, H7⟩, ⟨%f9, %h9, H9⟩, ⟨%fa, Ha⟩, ⟨%fb, Hb⟩⟩, ⟨⟨%fi0, Hi0⟩, ⟨%fi1, Hi1⟩, Hr0, Hr1, Hbufs⟩, ⟨Hs4, Hc0, Hc1, Hc2, Hc3, Hsems⟩, HO⟩
  ihave Hx := (rd_take (F := F) (ℓ := (tV d L).loc main_arg0_scv) A0 (a0Ids L).view.set) $$ H0
  icases Hx with ⟨⟨%q0, H0⟩, -⟩
  ihave Hx := (rd_take (F := F) (ℓ := (tV d L).loc main_arg1_scv) A1 (a1Ids L).view.set) $$ H1
  icases Hx with ⟨⟨%q1, H1⟩, -⟩
  iapply (sync_copy (d := d) (L := L) (src := a0Ids L) (dst := i0M) (q := q0) (fs := A0) (Sd := Finset.univ) (fd := fi0) (O := O) (W := W)
    hO _ rfl (View.dmaCredit_pos _ (by decide)) rfl (Finset.subset_univ _)) $$ [H0 Hi0 Hc0 HO]
  · isplitl [H0]; · iexact H0
    isplitl [Hi0]; · iexact Hi0
    isplitl [Hc0]; · iexact Hc0
    isplitr; · iexact Hlv
    unfold owedL
    iexists W
    isplitr; · ipureintro; exact fun p h => .inl h
    iexact HO
  iintro ⟨Hi0, -, Hc0, HO⟩
  iapply (sync_copy (d := d) (L := L) (src := a1Ids L) (dst := i1M) (q := q1) (fs := A1) (Sd := Finset.univ) (fd := fi1) (O := O) (W := W)
    hO _ rfl (View.dmaCredit_pos _ (by decide)) rfl (Finset.subset_univ _)) $$ [H1 Hi1 Hc1 HO]
  · isplitl [H1]; · iexact H1
    isplitl [Hi1]; · iexact Hi1
    isplitl [Hc1]; · iexact Hc1
    isplitr; · iexact Hlv
    iexact HO
  iintro ⟨Hi1, -, Hc1, HO⟩
  rw [fetch0, fetch1]
  unfold wpT
  iapply (Scf.wp_for_bind _ _ _ _ _ _ _ _ _ (fun m _ => loopInv d L f7 f9 (fetched L A0) (fetched L A1) (G7 L f7 A0) (G9 L f9 A1) O W m)
    (fun t u => trip_wp t u hO (fun n hn => by rw [xs0_at L A0 t n hn]; exact hA0 _) (fun n hn => by rw [xs1_at L A1 t n hn]; exact hA1 _)
      (g0_rows L f7 A0 t) (g1_rows L f9 A1 t))) $$ [Hs4 Hr0 Hr1 H7 H9 Hi0 Hi1 HO Ha Hb Hc2 Hc3]
  · unfold loopInv keepP outsP out0 out1
    isplitl [Hs4]; · iexact Hs4
    isplitl [Hr0]; · iexact Hr0
    isplitl [Hr1]; · iexact Hr1
    isplitl [H7]; · iexact H7
    isplitl [H9]; · iexact H9
    isplitl [Hi0]; · iexact Hi0
    isplitl [Hi1]; · iexact Hi1
    isplitr [HO Ha Hb Hc2 Hc3]; · iexact Hlv
    isplitl [HO]
    · unfold owedL
      iexact HO
    isplitl [Ha]
    · iexists fa
      isplitr; · ipureintro; intro p h1 h2; omega
      iexact Ha
    isplitl [Hb]
    · iexists fb
      isplitr; · ipureintro; intro p h1 h2; omega
      iexact Hb
    isplitl [Hc2]; · iexact Hc2
    iexact Hc3
  iintro %u HI
  rw [wp_ret]
  imodintro
  ihave HI := (Entails.of_eq (congrArg (loopInv d L f7 f9 (fetched L A0) (fetched L A1) (G7 L f7 A0) (G9 L f9 A1) O W) trips_eq)) $$ HI
  unfold loopInv keepP outsP out0 out1
  icases HI with ⟨Hs4, Hr0, Hr1, -, -, Hi0, Hi1, -, HO, ⟨%ga, %hga, Ha⟩, ⟨%gb, %hgb, Hb⟩, Hc2, Hc3⟩
  isplitl [Ha Hb]
  · unfold tdP
    isplitl [Ha]
    · iexists ga
      isplitr; · ipureintro; exact done7 f7 h7 hA0 ga hga
      iexact Ha
    · iexists gb
      isplitr; · ipureintro; exact done9 f9 h9 hA1 gb hgb
      iexact Hb
  isplitl [Hi0 Hi1 Hr0 Hr1 Hbufs]
  · isplitl [Hi0]; · iexists _; iexact Hi0
    isplitl [Hi1]; · iexists _; iexact Hi1
    isplitl [Hr0]; · iexact Hr0
    isplitl [Hr1]; · iexact Hr1
    iexact Hbufs
  isplitl [Hs4 Hc0 Hc1 Hc2 Hc3 Hsems]
  · isplitl [Hs4]; · iexact Hs4
    isplitl [Hc0]; · iexact Hc0
    isplitl [Hc1]; · iexact Hc1
    isplitl [Hc2]; · iexact Hc2
    isplitl [Hc3]; · iexact Hc3
    iexact Hsems
  iexact HO

end Tile

end Cert.KernelIdeal.Pf

end

end
-- ==== Proof.IRegion.lean ====
/-
  A pallas_call of the TensorCore, run within the program.
-/
module

public import proofs.«01_k».proof.Proof.ITile
public import Idealize.ShloMosaic.Lib.Pipeline.RegionArraysF
public import Idealize.ShloMosaic.Lib.Pipeline.ArrRel

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

/-! ## A pallas_call of the TensorCore, whatever its grid and windows -/

abbrev adm : (p : Fin 3) → (pcfgs (F := F) p).Adm := fun p => (cfgs p).toPCfg_adm
abbrev pn (p : Fin 3) : Pipeline.Cfg sig Λ₀ := Pipeline.pin (pcfgs (F := F)) adm p

/-- What a body may leave in an output window at a point. -/
abbrev RelT (F : FTy → Type) [FloatOps F] : Type :=
  (p : Fin 3) → (w : Fin (pn (F := F) p).W) → Fin (pn (F := F) p).N → (((pn (F := F) p).win w).block.Idx → Elt F ((pn (F := F) p).win w).elt) → Prop

section Region

variable (W : Dev nD → Valuation τ sig (Elt F)) (Rl : RelT F) (O : Dev nD → CellTallies nD τ sig (HIx 1)) (b : ℕ)

/-- The proof data of every pipeline: the arrays as `W` has them, an input window left as found, an output window held to `Rl`. -/
def rdats (p : Fin 3) (c : Dev nD) : Pipeline.RDat τ (Elt F) (HIx 1) ℕ UU ℕ (pn (F := F) p) c where
  A w := W c (Proc.devRef .tc (Pipeline.arrRef (pn (F := F) p).spec w))
  after w t Y X := match ((pn (F := F) p).win w).isOut with | true => Rl p w t X | false => X = Y
  Φ _ := Pipeline.scopedRest (pn (F := F) p).spec c
  q _ := fullShare
  owed _ := O c
  recorded _ := {x | (K (F := F)).lev ((c.tc : Thread nD τ), x.1) x.2 ≤ b}

def owedAt (c : Dev nD) : sProp (MM F) :=
  iprop(∃ Wd, ⌜(K (F := F)).WBelow (c.tc : Thread nD τ) Wd b⌝ ∗ owes (c.tc : Thread nD τ) (O c) Wd)

theorem bound_sub (p : Fin 3) (c : Dev nD) (t) (x) (h : x ∈ (rdats W Rl O b p c).bound none t) : (K (F := F)).lev ((c.tc : Thread nD τ), x.1) x.2 ≤ b := by
  rcases h with h | h
  · exact h
  · obtain ⟨w, s, rfl⟩ := h
    exact Nat.zero_le _

theorem owesAt_in (p : Fin 3) (c : Dev nD) (t) : (owedAt O b c : sProp (MM F)) ⊢ (rdats W Rl O b p c).owesAt none t := by
  unfold owedAt Pipeline.RDat.owesAt Pipeline.owesWithin
  iintro ⟨%Wd, %h, H⟩
  iexists Wd
  isplitr
  · ipureintro; exact fun x hx => Or.inl (h x hx)
  · iexact H

theorem owesAt_out (p : Fin 3) (c : Dev nD) (t) : (rdats W Rl O b p c).owesAt none t ⊢ (owedAt O b c : sProp (MM F)) := by
  unfold owedAt Pipeline.RDat.owesAt Pipeline.owesWithin
  iintro ⟨%Wd, %h, H⟩
  iexists Wd
  isplitr
  · ipureintro; exact fun x hx => bound_sub W Rl O b p c t x (h hx)
  · iexact H

theorem arrays_held' (p : Fin 3) (kit : Pipeline.PLaunchFacts (nD := nD) (τ := τ) (pcfgs (F := F)) p) (c : Dev nD)
    (G : (w : Fin (pn (F := F) p).W) → Buf (Elt F) (((pn (F := F) p).win w).arr.view.loc (c.tc : Thread nD τ))) (Wc : Valuation τ sig (Elt F))
    (hG : ∀ w, G w = Wc (Proc.devRef .tc (Pipeline.arrRef (pn (F := F) p).spec w))) :
    ((rdats W Rl O b p c).arrays G : sProp (MM F)) = StableHlo.held (c.tc : Thread nD τ) (Pipeline.arrRefs (pcfgs (F := F) p).spec) Wc := by
  have h := Pipeline.arrays_held (Name := ℕ) (U := UU) (Lvl := ℕ) (Ix := HIx 1) (pcfgs (F := F)) adm
    (fun q c => (rdats W Rl O b q c).withAfter fun _ _ _ => Classical.arbitrary _) p kit c (fun w => ?_) G Wc hG
  · exact h
  · unfold Pipeline.Dat.share
    split <;> rfl

/-- What the body is asked: from the staging buffers at `Y`, an input's at what a fetch puts there, to an input's as found and an output's as `Rl` has it. -/
def BodyHyp (p : Fin 3) : Prop :=
  ∀ (c : Dev nD) (t : Fin (pn (F := F) p).N) (Y : (w : Fin (pn (F := F) p).W) → ((pn (F := F) p).win w).block.Idx → Elt F ((pn (F := F) p).win w).elt),
    (∀ w, ((pn (F := F) p).win w).isOut = false → ∃ d, Y w = (rdats W Rl O b p c).fetched w t d) →
    (bigSep Finset.univ fun w => owns (c.tc : Thread nD τ) (((pn (F := F) p).win w).stage ((pn (F := F) p).slots t w)) fullShare (Y w) : sProp (MM F))
      ⊢ wp frame (wpE (defs₀ (F := F)) 𝒱₀ (c.tc : Thread nD τ) none) Set.univ (defs₀ .tc (pn (F := F) p).body ((pn (F := F) p).bodyArgs t ((pn (F := F) p).slots t))) fun _ =>
          (bigSep Finset.univ fun w => iprop(∃ X, ⌜(rdats W Rl O b p c).after w t (Y w) X⌝
            ∗ owns (c.tc : Thread nD τ) (((pn (F := F) p).win w).stage ((pn (F := F) p).slots t w)) fullShare X))

variable {W Rl O b}

theorem after_in {p : Fin 3} {c : Dev nD} {w : Fin (pn (F := F) p).W} (hw : ((pn (F := F) p).win w).isOut = false) (t) (Y X) :
    (rdats W Rl O b p c).after w t Y X = (X = Y) :=
  have h : ∀ (x : Bool) (A B : Prop), x = false → (match x with | true => A | false => B) = B := by rintro _ A B rfl; rfl
  h _ _ _ hw

theorem after_out {p : Fin 3} {c : Dev nD} {w : Fin (pn (F := F) p).W} (hw : ((pn (F := F) p).win w).isOut = true) (t) (Y X) :
    (rdats W Rl O b p c).after w t Y X = Rl p w t X :=
  have h : ∀ (x : Bool) (A B : Prop), x = true → (match x with | true => A | false => B) = A := by rintro _ A B rfl; rfl
  h _ _ _ hw

theorem rest_inv (p : Fin 3) (c : Dev nD) (t) : Pipeline.scopedRest (pn (F := F) p).spec c ⊢ ((rdats W Rl O b p c).Φ t : sProp (MM F)) := .rfl
theorem arrays_fold (p : Fin 3) (c : Dev nD) (A) : (bigSep Finset.univ fun i : Fin (pn (F := F) p).W => (((pn (F := F) p).win i).arr.view.loc (c.tc : Thread nD τ))
    ↦[((pn (F := F) p).win i).arr.view.set]{(rdats W Rl O b p c).share i} A i : sProp (MM F)) ⊢ (rdats W Rl O b p c).arrays A := .rfl

/-- The region's record. -/
def seg (p : Fin 3) (kit : Pipeline.PLaunchFacts (nD := nD) (τ := τ) (pcfgs (F := F)) p)
    (hclip : ∀ w, ((pn (F := F) p).win w).isOut = false → ∀ t t' : Fin (pn (F := F) p).N, ((pn (F := F) p).win w).index t = ((pn (F := F) p).win w).index t' →
      ((pn (F := F) p).win w).clip ((pn (F := F) p).grid.coords t) = ((pn (F := F) p).win w).clip ((pn (F := F) p).grid.coords t'))
    (hO : ∀ c g, O c g none = 0) (hbody : BodyHyp W Rl O b p) :
    Pipeline.RDat.RegionSeg (pcfgs (F := F)) adm (rdats W Rl O b) none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody c t Y hY := by
    have h := hbody c t Y fun w hw =>
      (rdats W Rl O b p c).finds_in_eq_fetched w hw (hclip w hw) (fun t Y X h => (after_in hw t Y X).mp h) t (Y w) (hY w)
    show iprop(Pipeline.scopedRest (pn (F := F) p).spec c ∗ (rdats W Rl O b p c).owesAt none t.castSucc ∗ _) ⊢ _
    iintro ⟨HR, HO, HW⟩
    iapply (wp_wand_r frame _ Set.univ)
    isplitl [HW]
    · iapply h $$ HW
    · iintro %_ HW
      isplitl [HR]
      · iapply (rest_inv p c _) $$ HR
      isplitl [HO]
      · iexact HO
      · iexact HW
  hwaits c := Pipeline.RDat.cellsWaits_of_cut (Pipeline.pin (pcfgs (F := F)) adm) (rdats W Rl O b) none p c 0 (O c) (fun _ => rfl)
    (fun _ _ => Finset.mem_univ _) (fun _ _ => le_rfl) (fun g i hg => ⟨Finset.mem_univ _, by
      cases i with
      | none => rw [hO c g] at hg; exact absurd hg (Nat.lt_irrefl 0)
      | some q => exact (K (F := F)).lev_some_pos g q⟩)
  pre c := iprop(StableHlo.held (c.tc : Thread nD τ) (Pipeline.arrRefs (pcfgs (F := F) p).spec) (W c) ∗ owedAt O b c)
  post c := iprop((rdats W Rl O b p c).arraysAt (pn (F := F) p).N ∗ owedAt O b c)
  X _ := iprop(emp)
  Y _ := iprop(emp)
  Z _ := iprop(emp)
  hentry c := by
    show _ ⊢ |={Set.univ}=> iprop((rdats W Rl O b p c).arrays (rdats W Rl O b p c).A ∗ Pipeline.prefHeld (pcfgs (F := F) p).pre c (fun _ => fullShare) (adm p).1
        ∗ (rdats W Rl O b p c).owesAt none 0 ∗ _ ∗ _)
    rw [Pipeline.prefHeld_of_none _ rfl, arrays_held' W Rl O b p kit c (rdats W Rl O b p c).A (W c) (fun _ => rfl)]
    iintro ⟨⟨Ha, HO⟩, -⟩
    imodintro
    isplitl [Ha]
    · iexact Ha
    isplitr
    · iempintro
    isplitl [HO]
    · iapply (owesAt_in W Rl O b p c 0) $$ HO
    isplitr <;> iempintro
  hin c := by
    show _ ⊢ Pipeline.scopedRest (pn (F := F) p).spec c
    iintro ⟨-, -, H⟩
    iexact H
  hout c := by
    rw [Pipeline.ownSems0_none]
    show Pipeline.scopedRest (pn (F := F) p).spec c ⊢ _
    iintro H
    isplitr
    · iempintro
    isplitr
    · iempintro
    · iexact H
  hexit c := by
    show iprop((rdats W Rl O b p c).arraysAt (pn (F := F) p).N ∗ (rdats W Rl O b p c).owesAt none (Fin.last (pn (F := F) p).N) ∗ _ ∗ _) ⊢ _
    iintro ⟨Ha, HO, -⟩
    imodintro
    isplitl [Ha]
    · iexact Ha
    · iapply (owesAt_out W Rl O b p c _) $$ HO

section SegEq

variable (p : Fin 3) (kit : Pipeline.PLaunchFacts (nD := nD) (τ := τ) (pcfgs (F := F)) p)
  (hclip : ∀ w, ((pn (F := F) p).win w).isOut = false → ∀ t t' : Fin (pn (F := F) p).N, ((pn (F := F) p).win w).index t = ((pn (F := F) p).win w).index t' →
      ((pn (F := F) p).win w).clip ((pn (F := F) p).grid.coords t) = ((pn (F := F) p).win w).clip ((pn (F := F) p).grid.coords t'))
  (hO : ∀ c g, O c g none = 0) (hbody : BodyHyp W Rl O b p)

theorem seg_pre (c : Dev nD) : (seg p kit hclip hO hbody).pre c
    = iprop(StableHlo.held (c.tc : Thread nD τ) (Pipeline.arrRefs (pcfgs (F := F) p).spec) (W c) ∗ owedAt O b c) := rfl
theorem seg_post (c : Dev nD) : (seg p kit hclip hO hbody).post c = iprop((rdats W Rl O b p c).arraysAt (pn (F := F) p).N ∗ owedAt O b c) := rfl

end SegEq

/-- What the arrays are left at: the inputs' as they were, the output's at contents the write-backs may leave. -/
theorem arraysAt_held (p : Fin 3) (kit : Pipeline.PLaunchFacts (nD := nD) (τ := τ) (pcfgs (F := F)) p) (o : Fin (pn (F := F) p).W)
    (ho : ∀ w, w ≠ o → ((pn (F := F) p).win w).isOut = false) (c : Dev nD) :
    ((rdats W Rl O b p c).arraysAt (pn (F := F) p).N : sProp (MM F))
      ⊢ iprop(∃ G, ⌜(rdats W Rl O b p c).ArrAt o (pn (F := F) p).N G⌝ ∗ StableHlo.held (c.tc : Thread nD τ) (Pipeline.arrRefs (pcfgs (F := F) p).spec)
          (Function.update (W c) (Proc.devRef .tc (Pipeline.arrRef (pn (F := F) p).spec o)) G)) := by
  unfold Pipeline.RDat.arraysAt
  refine (BI.bigSep_exists_pi Finset.univ _).trans ?_
  iintro ⟨%A, H⟩
  ihave H' := (BI.bigSep_pure_sep Finset.univ (fun w => (rdats W Rl O b p c).ArrAt w (pn (F := F) p).N (A w)) _) $$ H
  icases H' with ⟨%hA, H⟩
  iexists (A o)
  isplitr
  · ipureintro; exact hA o (Finset.mem_univ o)
  · rw [← arrays_held' W Rl O b p kit c A _ (fun w => ?_)]
    · iapply (arrays_fold p c A) $$ H
    · by_cases hw : w = o
      · subst hw; rw [Function.update_self]
      · have h := hA w (Finset.mem_univ w)
        rw [(rdats W Rl O b p c).ArrAt_in w (ho w hw)] at h
        rw [Function.update_of_ne (fun e => hw (kit.win.arr_inj (Proc.devRef_injective _ e)))]
        exact h

/-- A pallas_call within `main`: from the buffers `S` held at `W` to the same with the output array as the write-backs may leave it. -/
theorem region_wp [∀ e, Nonempty (Elt F e)] (p : Fin 3) (kit : Pipeline.PLaunchFacts (nD := nD) (τ := τ) (pcfgs (F := F)) p)
    (hclip : ∀ w, ((pn (F := F) p).win w).isOut = false → ∀ t t' : Fin (pn (F := F) p).N, ((pn (F := F) p).win w).index t = ((pn (F := F) p).win w).index t' →
      ((pn (F := F) p).win w).clip ((pn (F := F) p).grid.coords t) = ((pn (F := F) p).win w).clip ((pn (F := F) p).grid.coords t'))
    (hO : ∀ c g, O c g none = 0) (hbody : BodyHyp W Rl O b p) (o : Fin (pn (F := F) p).W)
    (ho : ∀ w, w ≠ o → ((pn (F := F) p).win w).isOut = false) (S : Finset (DevRef τ sig)) (hS : Pipeline.arrRefs (pcfgs (F := F) p).spec ⊆ S) (d : Dev nD)
    (Q : PUnit → sProp (MM F)) :
    iprop(boundary (T d) ∗ StableHlo.held (T d) S (W d) ∗ owedAt O b d ∗ levAts (K (F := F)).L (K (F := F)).lev
        ∗ Pipeline.cellsGhost (Pipeline.pin (pcfgs (F := F)) adm) EP p d ∗ Pipeline.toksInit (Pipeline.pin (pcfgs (F := F)) adm) EP p d
        ∗ (∀ G, ⌜(rdats W Rl O b p d).ArrAt o (pn (F := F) p).N G⌝ -∗ (boundary (T d)
            ∗ StableHlo.held (T d) S (Function.update (W d) (Proc.devRef .tc (Pipeline.arrRef (pn (F := F) p).spec o)) G) ∗ owedAt O b d) -∗ Q ⟨⟩))
      ⊢ wp frame (wpE ((K (F := F)).defs (D (F := F))) 𝒱 (T d) none) Set.univ (Prog.lift (.customCall (SparseCore.inner (Pipeline.entry p)) ())) Q := by
  show _ ⊢ wp frame _ Set.univ (SparseCore.liftProg (Prog.op (.customCall (Pipeline.entry p) ()) .ret)) Q
  refine BIBase.Entails.trans ?_ ((K (F := F)).wp_liftProg (D (F := F)) 𝒱 (T d) Set.univ none _ Q)
  refine BIBase.Entails.trans ?_ (Pipeline.RDat.RegionSeg.wp (pcfgs (F := F)) adm (rdats W Rl O b) none (kit.cellOf_inj adm) EP (defs₀ (F := F)) 𝒱₀
    (K (F := F)).L (K (F := F)).lev (seg p kit hclip hO hbody) d none (fun u h => nomatch h) .ret Q)
  rw [StableHlo.held_sub_split (T d) hS (W d), seg_pre, seg_post]
  iintro ⟨Hb, ⟨Ha, Hr⟩, HO, HL, Hg, Ht, HQ⟩
  isplitl [Hr HQ]
  · iintro ⟨Hb, ⟨Ha, HO⟩⟩
    ihave Ha := (arraysAt_held p kit o ho d) $$ Ha
    icases Ha with ⟨%G, %hG, Ha⟩
    rw [wp_ret]
    imodintro
    iapply HQ $$ %G %hG
    isplitl [Hb]
    · iexact Hb
    isplitl [Ha Hr]
    · rw [StableHlo.held_sub_split (T d) hS (Function.update _ _ _)]
      isplitl [Ha]
      · iexact Ha
      · have e : (StableHlo.held (T d) (S \ Pipeline.arrRefs (pcfgs (F := F) p).spec) (W d) : sProp (MM F))
            = StableHlo.held (T d) (S \ Pipeline.arrRefs (pcfgs (F := F) p).spec) (Function.update (W d) (Proc.devRef .tc (Pipeline.arrRef (pn (F := F) p).spec o)) G) :=
          StableHlo.held_congr (T d) fun r hr => (Function.update_of_ne (fun e => (Finset.mem_sdiff.mp hr).2 (by
            rw [e]; exact Finset.mem_map.mpr ⟨_, Finset.mem_image.mpr ⟨o, Finset.mem_univ o, rfl⟩, rfl⟩)) _ _).symm
        iapply (Entails.of_eq e) $$ Hr
    · iexact HO
  isplitl [Hb]
  · iexact Hb
  isplitl [Ha HO]
  · isplitl [Ha]
    · iexact Ha
    · iexact HO
  isplitl [HL]
  · iexact HL
  isplitl [Hg]
  · iexact Hg
  · iexact Ht

end Region

end Cert.KernelIdeal.Pf

end

end
-- ==== Proof.IBody.lean ====
/-
  The bodies of the TensorCore's pallas_calls.
-/
module

public import proofs.«01_k».proof.Proof.IRegion

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

/-! ## Reading and overwriting a whole staging buffer -/

theorem load_own {c : Dev nD} {cs : CoreSpace} {s : Shape} {e : EltTy} {M : Memref sig .tc (Space.core cs) s e} {off : Fin s.rank → Nat}
    (hz : off = fun _ => 0) (inb : ∀ a, off a + s.size a ≤ s.size a) {hl : M.view.LoadsAt (Rect.unit (s := s) off s.size inb).toLoadRect} {α : Type}
    {k : (s.Idx → Elt F e) → Prog (TpuEff nD τ sig (Elt F) Λ₀ .tc) α}
    {X : s.Idx → Elt F e} {Q : α → sProp (MM F)} :
    (owns (c.tc : Thread nD τ) M fullShare X : sProp (MM F)) ⊢ iprop((owns (c.tc : Thread nD τ) M fullShare X
        -∗ wp frame (wpE (defs₀ (F := F)) 𝒱₀ (c.tc : Thread nD τ) none) Set.univ (k X) Q)
      -∗ wp frame (wpE (defs₀ (F := F)) 𝒱₀ (c.tc : Thread nD τ) none) Set.univ
          (.op (.load M (Rect.unit (s := s) off s.size inb).toLoadRect hl) k) Q) := by
  subst hz
  unfold owns
  iintro ⟨%f, %hf, H⟩ Hk
  have hr : M.view.readAt (Elt F) (Rect.unit (s := s) (fun _ => 0) s.size inb).toLoadRect f = X := by
    funext x
    rw [View.readAt_apply, hf]
    exact congrArg X (Rect.emb_whole_apply s x)
  iapply (wp_load (m := M) 𝒱₀ (c.tc : Thread nD τ) none Set.univ (S := M.view.set) (f := f) (Finset.map_subset_map.mpr (Finset.subset_univ _))) $$ H
  rw [hr]
  iintro H
  iapply Hk
  iexists f
  isplitr
  · ipureintro; exact hf
  · iexact H

theorem store_own {c : Dev nD} {cs : CoreSpace} {s : Shape} {e : EltTy} {M : Memref sig .tc (Space.core cs) s e} {off : Fin s.rank → Nat}
    (hz : off = fun _ => 0) (inb : ∀ a, off a + s.size a ≤ s.size a) {w : s.Idx → Elt F e} {h1} {h2} {α : Type}
    {k : PUnit → Prog (TpuEff nD τ sig (Elt F) Λ₀ .tc) α} {X : s.Idx → Elt F e} {Q : α → sProp (MM F)} :
    (owns (c.tc : Thread nD τ) M fullShare X : sProp (MM F)) ⊢ iprop((owns (c.tc : Thread nD τ) M fullShare w
        -∗ wp frame (wpE (defs₀ (F := F)) 𝒱₀ (c.tc : Thread nD τ) none) Set.univ (k ⟨⟩) Q)
      -∗ wp frame (wpE (defs₀ (F := F)) 𝒱₀ (c.tc : Thread nD τ) none) Set.univ
          (.op (.store M (Rect.unit (s := s) off s.size inb) w Finset.univ h1 h2) k) Q) := by
  subst hz
  unfold owns
  iintro ⟨%f, %hf, H⟩ Hk
  have hS : (M.access (Rect.unit (s := s) (fun _ => 0) s.size inb)).setOn Finset.univ ⊆ M.view.set := by
    intro i hi
    obtain ⟨x, -, rfl⟩ := Finset.mem_map.mp hi
    exact Finset.mem_map.mpr ⟨_, Finset.mem_univ _, rfl⟩
  have hr : M.view.read (Elt F) ((M.access (Rect.unit (s := s) (fun _ => 0) s.size inb)).write (Elt F) f w Finset.univ) = w := by
    have h := View.read_write_univ (v := M.access (Rect.unit (s := s) (fun _ => 0) s.size inb)) (Val := Elt F) f w
    funext x
    refine Eq.trans ?_ (congrFun h x)
    exact congrArg (M.view.read (Elt F) _) (Rect.emb_whole_apply s x).symm
  iapply (wp_store (m := M) (r := Rect.unit (s := s) (fun _ => 0) s.size inb) 𝒱₀ (c.tc : Thread nD τ) none Set.univ (S := M.view.set) (f := f) hS) $$ H
  iintro H
  iapply Hk
  iexists _
  isplitr
  · ipureintro; exact hr
  · iexact H

theorem off2 : (![0, 0] : Fin 2 → Nat) = fun _ => 0 := by
  funext a
  fin_cases a <;> rfl

/-! ## The two transposing bodies -/

theorem cc0_wp (c : Dev nD) (i : grid0.Coords) (M1 : Memref sig .tc .vmem S64x32768 .f32) (h1 : M1.IsWhole) (M2 : Memref sig .tc .vmem S64x64 .f32) (h2 : M2.IsWhole)
    (M3 : Memref sig .tc .vmem S32768x64 .f32) (h3 : M3.IsWhole) (X1 : S64x32768.Idx → Elt F .f32) (X2 : S64x64.Idx → Elt F .f32) (X3 : S32768x64.Idx → Elt F .f32) :
    iprop(owns (c.tc : Thread nD τ) M1 fullShare X1 ∗ owns (c.tc : Thread nD τ) M2 fullShare X2 ∗ owns (c.tc : Thread nD τ) M3 fullShare X3 : sProp (MM F))
      ⊢ wp frame (wpE (defs₀ (F := F)) 𝒱₀ (c.tc : Thread nD τ) none) Set.univ (cc0__transpose_body i M1 h1 M2 h2 M3 h3) fun _ =>
        iprop(owns (c.tc : Thread nD τ) M1 fullShare X1 ∗ owns (c.tc : Thread nD τ) M2 fullShare X2 ∗ owns (c.tc : Thread nD τ) M3 fullShare (k0_pay1 X1 X2)) := by
  rw [cc0__transpose_body_eq_skeleton]
  unfold cc0__transpose_body_skel
  simp only [Prog.lift, Prog.bind_op, Prog.bind_ret, Prog.bind_assoc, Prog.pure_eq_ret]
  iintro ⟨H1, H2, H3⟩
  iapply (load_own off2 _) $$ H1
  iintro H1
  iapply (load_own off2 _) $$ H2
  iintro H2
  iapply (load_own off2 _) $$ H3
  iintro H3
  iapply (store_own off2 _) $$ H3
  iintro H3
  rw [wp_ret]
  imodintro
  isplitl [H1]
  · iexact H1
  isplitl [H2]
  · iexact H2
  · iexact H3

theorem cc1_wp (c : Dev nD) (i : grid1.Coords) (M1 : Memref sig .tc .vmem S64x32768 .f32) (h1 : M1.IsWhole) (M2 : Memref sig .tc .vmem S64x64 .f32) (h2 : M2.IsWhole)
    (M3 : Memref sig .tc .vmem S32768x64 .f32) (h3 : M3.IsWhole) (X1 : S64x32768.Idx → Elt F .f32) (X2 : S64x64.Idx → Elt F .f32) (X3 : S32768x64.Idx → Elt F .f32) :
    iprop(owns (c.tc : Thread nD τ) M1 fullShare X1 ∗ owns (c.tc : Thread nD τ) M2 fullShare X2 ∗ owns (c.tc : Thread nD τ) M3 fullShare X3 : sProp (MM F))
      ⊢ wp frame (wpE (defs₀ (F := F)) 𝒱₀ (c.tc : Thread nD τ) none) Set.univ (cc1__transpose_body i M1 h1 M2 h2 M3 h3) fun _ =>
        iprop(owns (c.tc : Thread nD τ) M1 fullShare X1 ∗ owns (c.tc : Thread nD τ) M2 fullShare X2 ∗ owns (c.tc : Thread nD τ) M3 fullShare (k1_pay1 X1 X2)) := by
  rw [cc1__transpose_body_eq_skeleton]
  unfold cc1__transpose_body_skel
  simp only [Prog.lift, Prog.bind_op, Prog.bind_ret, Prog.bind_assoc, Prog.pure_eq_ret]
  iintro ⟨H1, H2, H3⟩
  iapply (load_own off2 _) $$ H1
  iintro H1
  iapply (load_own off2 _) $$ H2
  iintro H2
  iapply (load_own off2 _) $$ H3
  iintro H3
  iapply (store_own off2 _) $$ H3
  iintro H3
  rw [wp_ret]
  imodintro
  isplitl [H1]
  · iexact H1
  isplitl [H2]
  · iexact H2
  · iexact H3

/-! ## The perceptron's body -/

/-- What the perceptron's body stores, from what it loads. -/
def mlpV (X1 : S1024x64.Idx → Elt F .f32) (X2 : S1024x64.Idx → Elt F .f32) (X3 : S64x128.Idx → Elt F .f32) (X4 : S64x128.Idx → Elt F .f32) (X5 : S1x128.Idx → Elt F .f32) (X6 : S128x64.Idx → Elt F .f32) (X7 : S1x64.Idx → Elt F .f32) (X8 : S64x32.Idx → Elt F .f32) (X9 : S1x32.Idx → Elt F .f32) (X10 : S32x16.Idx → Elt F .f32) (X11 : S1x16.Idx → Elt F .f32) (X12 : S16x8.Idx → Elt F .f32) (X13 : S1x8.Idx → Elt F .f32) (X14 : S8x1.Idx → Elt F .f32) (X15 : S1x1.Idx → Elt F .f32) : S1024x1.Idx → Elt F .f32 :=
  k3_pay1 (k3_pay2 X1 X3 X2 X4 X5 X6 X7 X8 X9) (k3_pay3 (F := F)) X10 X11 X12 X13 X14 X15

theorem cc3_wp (c : Dev nD) (i : grid3.Coords) (M1 : Memref sig .tc .vmem S1024x64 .f32) (h1 : M1.IsWhole) (M2 : Memref sig .tc .vmem S1024x64 .f32) (h2 : M2.IsWhole) (M3 : Memref sig .tc .vmem S64x128 .f32) (h3 : M3.IsWhole) (M4 : Memref sig .tc .vmem S64x128 .f32) (h4 : M4.IsWhole) (M5 : Memref sig .tc .vmem S1x128 .f32) (h5 : M5.IsWhole) (M6 : Memref sig .tc .vmem S128x64 .f32) (h6 : M6.IsWhole) (M7 : Memref sig .tc .vmem S1x64 .f32) (h7 : M7.IsWhole) (M8 : Memref sig .tc .vmem S64x32 .f32) (h8 : M8.IsWhole) (M9 : Memref sig .tc .vmem S1x32 .f32) (h9 : M9.IsWhole) (M10 : Memref sig .tc .vmem S32x16 .f32) (h10 : M10.IsWhole) (M11 : Memref sig .tc .vmem S1x16 .f32) (h11 : M11.IsWhole) (M12 : Memref sig .tc .vmem S16x8 .f32) (h12 : M12.IsWhole) (M13 : Memref sig .tc .vmem S1x8 .f32) (h13 : M13.IsWhole) (M14 : Memref sig .tc .vmem S8x1 .f32) (h14 : M14.IsWhole) (M15 : Memref sig .tc .vmem S1x1 .f32) (h15 : M15.IsWhole) (M16 : Memref sig .tc .vmem S1024x1 .f32) (h16 : M16.IsWhole) (X1 : S1024x64.Idx → Elt F .f32) (X2 : S1024x64.Idx → Elt F .f32) (X3 : S64x128.Idx → Elt F .f32) (X4 : S64x128.Idx → Elt F .f32) (X5 : S1x128.Idx → Elt F .f32) (X6 : S128x64.Idx → Elt F .f32) (X7 : S1x64.Idx → Elt F .f32) (X8 : S64x32.Idx → Elt F .f32) (X9 : S1x32.Idx → Elt F .f32) (X10 : S32x16.Idx → Elt F .f32) (X11 : S1x16.Idx → Elt F .f32) (X12 : S16x8.Idx → Elt F .f32) (X13 : S1x8.Idx → Elt F .f32) (X14 : S8x1.Idx → Elt F .f32) (X15 : S1x1.Idx → Elt F .f32) (X16 : S1024x1.Idx → Elt F .f32) :
    iprop(owns (c.tc : Thread nD τ) M1 fullShare X1 ∗ owns (c.tc : Thread nD τ) M2 fullShare X2 ∗ owns (c.tc : Thread nD τ) M3 fullShare X3 ∗ owns (c.tc : Thread nD τ) M4 fullShare X4 ∗ owns (c.tc : Thread nD τ) M5 fullShare X5 ∗ owns (c.tc : Thread nD τ) M6 fullShare X6 ∗ owns (c.tc : Thread nD τ) M7 fullShare X7 ∗ owns (c.tc : Thread nD τ) M8 fullShare X8 ∗ owns (c.tc : Thread nD τ) M9 fullShare X9 ∗ owns (c.tc : Thread nD τ) M10 fullShare X10 ∗ owns (c.tc : Thread nD τ) M11 fullShare X11 ∗ owns (c.tc : Thread nD τ) M12 fullShare X12 ∗ owns (c.tc : Thread nD τ) M13 fullShare X13 ∗ owns (c.tc : Thread nD τ) M14 fullShare X14 ∗ owns (c.tc : Thread nD τ) M15 fullShare X15 ∗ owns (c.tc : Thread nD τ) M16 fullShare X16 : sProp (MM F))
      ⊢ wp frame (wpE (defs₀ (F := F)) 𝒱₀ (c.tc : Thread nD τ) none) Set.univ (cc3__mlp_body i M1 h1 M2 h2 M3 h3 M4 h4 M5 h5 M6 h6 M7 h7 M8 h8 M9 h9 M10 h10 M11 h11 M12 h12 M13 h13 M14 h14 M15 h15 M16 h16) fun _ =>
        iprop(owns (c.tc : Thread nD τ) M1 fullShare X1 ∗ owns (c.tc : Thread nD τ) M2 fullShare X2 ∗ owns (c.tc : Thread nD τ) M3 fullShare X3 ∗ owns (c.tc : Thread nD τ) M4 fullShare X4 ∗ owns (c.tc : Thread nD τ) M5 fullShare X5 ∗ owns (c.tc : Thread nD τ) M6 fullShare X6 ∗ owns (c.tc : Thread nD τ) M7 fullShare X7 ∗ owns (c.tc : Thread nD τ) M8 fullShare X8 ∗ owns (c.tc : Thread nD τ) M9 fullShare X9 ∗ owns (c.tc : Thread nD τ) M10 fullShare X10 ∗ owns (c.tc : Thread nD τ) M11 fullShare X11 ∗ owns (c.tc : Thread nD τ) M12 fullShare X12 ∗ owns (c.tc : Thread nD τ) M13 fullShare X13 ∗ owns (c.tc : Thread nD τ) M14 fullShare X14 ∗ owns (c.tc : Thread nD τ) M15 fullShare X15 ∗ owns (c.tc : Thread nD τ) M16 fullShare (mlpV X1 X2 X3 X4 X5 X6 X7 X8 X9 X10 X11 X12 X13 X14 X15)) := by
  unfold mlpV
  rw [cc3__mlp_body_eq_skeleton]
  unfold cc3__mlp_body_skel
  rw [k3_part1_eq_skeleton]
  unfold k3_part1_skel
  simp only [Prog.lift, Prog.bind_op, Prog.bind_ret, Prog.bind_assoc, Prog.pure_eq_ret]
  iintro ⟨H1, H2, H3, H4, H5, H6, H7, H8, H9, H10, H11, H12, H13, H14, H15, H16⟩
  iapply (load_own off2 _) $$ H1
  iintro H1
  iapply (load_own off2 _) $$ H3
  iintro H3
  iapply (load_own off2 _) $$ H2
  iintro H2
  iapply (load_own off2 _) $$ H4
  iintro H4
  iapply (load_own off2 _) $$ H5
  iintro H5
  iapply (load_own off2 _) $$ H6
  iintro H6
  iapply (load_own off2 _) $$ H7
  iintro H7
  iapply (load_own off2 _) $$ H8
  iintro H8
  iapply (load_own off2 _) $$ H9
  iintro H9
  iapply (load_own off2 _) $$ H10
  iintro H10
  iapply (load_own off2 _) $$ H11
  iintro H11
  iapply (load_own off2 _) $$ H12
  iintro H12
  iapply (load_own off2 _) $$ H13
  iintro H13
  iapply (load_own off2 _) $$ H14
  iintro H14
  iapply (load_own off2 _) $$ H15
  iintro H15
  iapply (load_own off2 _) $$ H16
  iintro H16
  iapply (store_own off2 _) $$ H16
  iintro H16
  rw [wp_ret]
  imodintro
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  · iexact H16

end Cert.KernelIdeal.Pf

end

end
-- ==== Proof.IHyp.lean ====
/-
  What the bodies of the TensorCore's pallas_calls leave.
-/
module

public import proofs.«01_k».proof.Proof.IBody
public import proofs.«01_k».proof.Proof.Gen.KernelIdeal.Launch
public import proofs.«01_k».proof.Proof.Gen.KernelIdeal.Points

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

/-! ## What the bodies leave, and that they do -/

/-- A block of the arguments' transposes as fetched: where it overhangs the array, the words `d`. -/
abbrev tfill0 (V : Valuation τ sig (Elt F)) (t : Fin grid0.N) (d : S64x32768.Idx → Elt F .f32) : S64x32768.Idx → Elt F .f32 :=
  win0_0.fill (grid0.coords t) d ((win0_0.blk t).view.read (Elt F) (V (Proc.devRef .tc main_v6)))
abbrev tfill1 (V : Valuation τ sig (Elt F)) (t : Fin grid1.N) (d : S64x32768.Idx → Elt F .f32) : S64x32768.Idx → Elt F .f32 :=
  win1_0.fill (grid1.coords t) d ((win1_0.blk t).view.read (Elt F) (V (Proc.devRef .tc main_v8)))

/-- The perceptron on one block of rows. -/
abbrev mlpBlk (V : Valuation τ sig (Elt F)) (t : Fin grid3.N) : S1024x1.Idx → Elt F .f32 :=
  mlpV ((win3_0.blk t).view.read (Elt F) (V (Proc.devRef .tc main_v10_0))) ((win3_1.blk t).view.read (Elt F) (V (Proc.devRef .tc main_v10_1))) ((win3_2.blk t).view.read (Elt F) (V (Proc.devRef .tc main_v12))) ((win3_3.blk t).view.read (Elt F) (V (Proc.devRef .tc main_v13))) ((win3_4.blk t).view.read (Elt F) (V (Proc.devRef .tc main_v14))) ((win3_5.blk t).view.read (Elt F) (V (Proc.devRef .tc main_v15))) ((win3_6.blk t).view.read (Elt F) (V (Proc.devRef .tc main_v16))) ((win3_7.blk t).view.read (Elt F) (V (Proc.devRef .tc main_v17))) ((win3_8.blk t).view.read (Elt F) (V (Proc.devRef .tc main_v18))) ((win3_9.blk t).view.read (Elt F) (V (Proc.devRef .tc main_v19))) ((win3_10.blk t).view.read (Elt F) (V (Proc.devRef .tc main_v20))) ((win3_11.blk t).view.read (Elt F) (V (Proc.devRef .tc main_v21))) ((win3_12.blk t).view.read (Elt F) (V (Proc.devRef .tc main_v22))) ((win3_13.blk t).view.read (Elt F) (V (Proc.devRef .tc main_v23))) ((win3_14.blk t).view.read (Elt F) (V (Proc.devRef .tc main_v24)))

def Rl0 (V : Valuation τ sig (Elt F)) : (w : Fin 3) → Fin grid0.N → ((spec0 w).block.Idx → Elt F (spec0 w).elt) → Prop
  | 0 => fun _ _ => True
  | 1 => fun _ _ => True
  | 2 => fun t X => ∃ d, X = k0_pay1 (tfill0 V t d) ((win0_1.blk t).view.read (Elt F) (V (Proc.devRef .tc main_v5)))
def Rl1 (V : Valuation τ sig (Elt F)) : (w : Fin 3) → Fin grid1.N → ((spec1 w).block.Idx → Elt F (spec1 w).elt) → Prop
  | 0 => fun _ _ => True
  | 1 => fun _ _ => True
  | 2 => fun t X => ∃ d, X = k1_pay1 (tfill1 V t d) ((win1_1.blk t).view.read (Elt F) (V (Proc.devRef .tc main_v5)))
def Rl2 (V : Valuation τ sig (Elt F)) : (w : Fin 16) → Fin grid3.N → ((spec3 w).block.Idx → Elt F (spec3 w).elt) → Prop
  | 15 => fun t X => X = mlpBlk V t
  | _ => fun _ _ => True

/-- What each body leaves in its output window, the arrays being as `V` has them. -/
def RlK (V : Valuation τ sig (Elt F)) : RelT F := fun p => match p with
  | 0 => Rl0 V
  | 1 => Rl1 V
  | 2 => Rl2 V

theorem bodyHyp0 (V : Valuation τ sig (Elt F)) (O : Dev nD → CellTallies nD τ sig (HIx 1)) (b : ℕ) : BodyHyp (fun _ => V) (RlK V) O b 0 := by
  intro c t Y hY
  obtain ⟨d0, h0⟩ := hY (0 : Fin 3) rfl
  obtain ⟨d1, h1⟩ := hY (1 : Fin 3) rfl
  refine BIBase.Entails.trans (Entails.of_eq (bigSep_W0 _)) ?_
  refine BIBase.Entails.trans ?_ (wp_mono frame _ _ fun _ => Entails.of_eq (bigSep_W0 _).symm)
  refine BIBase.Entails.trans (cc0_wp c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (Y (0 : Fin 3)) (Y (1 : Fin 3)) (Y (2 : Fin 3))) (wp_mono frame _ _ fun _ => ?_)
  iintro ⟨H0, H1, H2⟩
  isplitl [H0]
  · iexists (Y (0 : Fin 3))
    isplitr
    · ipureintro; exact (after_in (p := 0) (w := (0 : Fin 3)) rfl t _ _).mpr rfl
    · iexact H0
  isplitl [H1]
  · iexists (Y (1 : Fin 3))
    isplitr
    · ipureintro; exact (after_in (p := 0) (w := (1 : Fin 3)) rfl t _ _).mpr rfl
    · iexact H1
  · iexists (k0_pay1 (Y (0 : Fin 3)) (Y (1 : Fin 3)))
    isplitr
    · ipureintro
      refine (after_out (p := 0) (w := (2 : Fin 3)) rfl t _ _).mpr ⟨d0, ?_⟩
      exact congrArg₂ k0_pay1 h0 h1
    · iexact H2

theorem bodyHyp1 (V : Valuation τ sig (Elt F)) (O : Dev nD → CellTallies nD τ sig (HIx 1)) (b : ℕ) : BodyHyp (fun _ => V) (RlK V) O b 1 := by
  intro c t Y hY
  obtain ⟨d0, h0⟩ := hY (0 : Fin 3) rfl
  obtain ⟨d1, h1⟩ := hY (1 : Fin 3) rfl
  refine BIBase.Entails.trans (Entails.of_eq (bigSep_W1 _)) ?_
  refine BIBase.Entails.trans ?_ (wp_mono frame _ _ fun _ => Entails.of_eq (bigSep_W1 _).symm)
  refine BIBase.Entails.trans (cc1_wp c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (Y (0 : Fin 3)) (Y (1 : Fin 3)) (Y (2 : Fin 3))) (wp_mono frame _ _ fun _ => ?_)
  iintro ⟨H0, H1, H2⟩
  isplitl [H0]
  · iexists (Y (0 : Fin 3))
    isplitr
    · ipureintro; exact (after_in (p := 1) (w := (0 : Fin 3)) rfl t _ _).mpr rfl
    · iexact H0
  isplitl [H1]
  · iexists (Y (1 : Fin 3))
    isplitr
    · ipureintro; exact (after_in (p := 1) (w := (1 : Fin 3)) rfl t _ _).mpr rfl
    · iexact H1
  · iexists (k1_pay1 (Y (0 : Fin 3)) (Y (1 : Fin 3)))
    isplitr
    · ipureintro
      refine (after_out (p := 1) (w := (2 : Fin 3)) rfl t _ _).mpr ⟨d0, ?_⟩
      exact congrArg₂ k1_pay1 h0 h1
    · iexact H2

theorem mlpV_congr {X1 Y1} {X2 Y2} {X3 Y3} {X4 Y4} {X5 Y5} {X6 Y6} {X7 Y7} {X8 Y8} {X9 Y9} {X10 Y10} {X11 Y11} {X12 Y12} {X13 Y13} {X14 Y14} {X15 Y15} (h1 : X1 = Y1) (h2 : X2 = Y2) (h3 : X3 = Y3) (h4 : X4 = Y4) (h5 : X5 = Y5) (h6 : X6 = Y6) (h7 : X7 = Y7) (h8 : X8 = Y8) (h9 : X9 = Y9) (h10 : X10 = Y10) (h11 : X11 = Y11) (h12 : X12 = Y12) (h13 : X13 = Y13) (h14 : X14 = Y14) (h15 : X15 = Y15) :
    mlpV (F := F) X1 X2 X3 X4 X5 X6 X7 X8 X9 X10 X11 X12 X13 X14 X15 = mlpV Y1 Y2 Y3 Y4 Y5 Y6 Y7 Y8 Y9 Y10 Y11 Y12 Y13 Y14 Y15 := by
  subst h1 h2 h3 h4 h5 h6 h7 h8 h9 h10 h11 h12 h13 h14 h15
  rfl

theorem bodyHyp2 (V : Valuation τ sig (Elt F)) (O : Dev nD → CellTallies nD τ sig (HIx 1)) (b : ℕ) : BodyHyp (fun _ => V) (RlK V) O b 2 := by
  intro c t Y hY
  obtain ⟨d0, h0⟩ := hY (0 : Fin 16) rfl
  obtain ⟨d1, h1⟩ := hY (1 : Fin 16) rfl
  obtain ⟨d2, h2⟩ := hY (2 : Fin 16) rfl
  obtain ⟨d3, h3⟩ := hY (3 : Fin 16) rfl
  obtain ⟨d4, h4⟩ := hY (4 : Fin 16) rfl
  obtain ⟨d5, h5⟩ := hY (5 : Fin 16) rfl
  obtain ⟨d6, h6⟩ := hY (6 : Fin 16) rfl
  obtain ⟨d7, h7⟩ := hY (7 : Fin 16) rfl
  obtain ⟨d8, h8⟩ := hY (8 : Fin 16) rfl
  obtain ⟨d9, h9⟩ := hY (9 : Fin 16) rfl
  obtain ⟨d10, h10⟩ := hY (10 : Fin 16) rfl
  obtain ⟨d11, h11⟩ := hY (11 : Fin 16) rfl
  obtain ⟨d12, h12⟩ := hY (12 : Fin 16) rfl
  obtain ⟨d13, h13⟩ := hY (13 : Fin 16) rfl
  obtain ⟨d14, h14⟩ := hY (14 : Fin 16) rfl
  suffices key : iprop(owns (c.tc : Thread nD τ) ((cfg3.win 0).stage (cfg3.slots t 0)) fullShare (Y (0 : Fin 16)) ∗ owns (c.tc : Thread nD τ) ((cfg3.win 1).stage (cfg3.slots t 1)) fullShare (Y (1 : Fin 16)) ∗ owns (c.tc : Thread nD τ) ((cfg3.win 2).stage (cfg3.slots t 2)) fullShare (Y (2 : Fin 16)) ∗ owns (c.tc : Thread nD τ) ((cfg3.win 3).stage (cfg3.slots t 3)) fullShare (Y (3 : Fin 16)) ∗ owns (c.tc : Thread nD τ) ((cfg3.win 4).stage (cfg3.slots t 4)) fullShare (Y (4 : Fin 16)) ∗ owns (c.tc : Thread nD τ) ((cfg3.win 5).stage (cfg3.slots t 5)) fullShare (Y (5 : Fin 16)) ∗ owns (c.tc : Thread nD τ) ((cfg3.win 6).stage (cfg3.slots t 6)) fullShare (Y (6 : Fin 16)) ∗ owns (c.tc : Thread nD τ) ((cfg3.win 7).stage (cfg3.slots t 7)) fullShare (Y (7 : Fin 16)) ∗ owns (c.tc : Thread nD τ) ((cfg3.win 8).stage (cfg3.slots t 8)) fullShare (Y (8 : Fin 16)) ∗ owns (c.tc : Thread nD τ) ((cfg3.win 9).stage (cfg3.slots t 9)) fullShare (Y (9 : Fin 16)) ∗ owns (c.tc : Thread nD τ) ((cfg3.win 10).stage (cfg3.slots t 10)) fullShare (Y (10 : Fin 16)) ∗ owns (c.tc : Thread nD τ) ((cfg3.win 11).stage (cfg3.slots t 11)) fullShare (Y (11 : Fin 16)) ∗ owns (c.tc : Thread nD τ) ((cfg3.win 12).stage (cfg3.slots t 12)) fullShare (Y (12 : Fin 16)) ∗ owns (c.tc : Thread nD τ) ((cfg3.win 13).stage (cfg3.slots t 13)) fullShare (Y (13 : Fin 16)) ∗ owns (c.tc : Thread nD τ) ((cfg3.win 14).stage (cfg3.slots t 14)) fullShare (Y (14 : Fin 16)) ∗ owns (c.tc : Thread nD τ) ((cfg3.win 15).stage (cfg3.slots t 15)) fullShare (Y (15 : Fin 16)) : sProp (MM F))
      ⊢ wp frame (wpE (defs₀ (F := F)) 𝒱₀ (c.tc : Thread nD τ) none) Set.univ (defs₀ .tc (pn (F := F) 2).body ((pn (F := F) 2).bodyArgs t ((pn (F := F) 2).slots t))) fun _ =>
        iprop((∃ X, ⌜(rdats (fun _ => V) (RlK V) O b 2 c).after (0 : Fin 16) t (Y (0 : Fin 16)) X⌝ ∗ owns (c.tc : Thread nD τ) ((cfg3.win 0).stage (cfg3.slots t 0)) fullShare X) ∗ (∃ X, ⌜(rdats (fun _ => V) (RlK V) O b 2 c).after (1 : Fin 16) t (Y (1 : Fin 16)) X⌝ ∗ owns (c.tc : Thread nD τ) ((cfg3.win 1).stage (cfg3.slots t 1)) fullShare X) ∗ (∃ X, ⌜(rdats (fun _ => V) (RlK V) O b 2 c).after (2 : Fin 16) t (Y (2 : Fin 16)) X⌝ ∗ owns (c.tc : Thread nD τ) ((cfg3.win 2).stage (cfg3.slots t 2)) fullShare X) ∗ (∃ X, ⌜(rdats (fun _ => V) (RlK V) O b 2 c).after (3 : Fin 16) t (Y (3 : Fin 16)) X⌝ ∗ owns (c.tc : Thread nD τ) ((cfg3.win 3).stage (cfg3.slots t 3)) fullShare X) ∗ (∃ X, ⌜(rdats (fun _ => V) (RlK V) O b 2 c).after (4 : Fin 16) t (Y (4 : Fin 16)) X⌝ ∗ owns (c.tc : Thread nD τ) ((cfg3.win 4).stage (cfg3.slots t 4)) fullShare X) ∗ (∃ X, ⌜(rdats (fun _ => V) (RlK V) O b 2 c).after (5 : Fin 16) t (Y (5 : Fin 16)) X⌝ ∗ owns (c.tc : Thread nD τ) ((cfg3.win 5).stage (cfg3.slots t 5)) fullShare X) ∗ (∃ X, ⌜(rdats (fun _ => V) (RlK V) O b 2 c).after (6 : Fin 16) t (Y (6 : Fin 16)) X⌝ ∗ owns (c.tc : Thread nD τ) ((cfg3.win 6).stage (cfg3.slots t 6)) fullShare X) ∗ (∃ X, ⌜(rdats (fun _ => V) (RlK V) O b 2 c).after (7 : Fin 16) t (Y (7 : Fin 16)) X⌝ ∗ owns (c.tc : Thread nD τ) ((cfg3.win 7).stage (cfg3.slots t 7)) fullShare X) ∗ (∃ X, ⌜(rdats (fun _ => V) (RlK V) O b 2 c).after (8 : Fin 16) t (Y (8 : Fin 16)) X⌝ ∗ owns (c.tc : Thread nD τ) ((cfg3.win 8).stage (cfg3.slots t 8)) fullShare X) ∗ (∃ X, ⌜(rdats (fun _ => V) (RlK V) O b 2 c).after (9 : Fin 16) t (Y (9 : Fin 16)) X⌝ ∗ owns (c.tc : Thread nD τ) ((cfg3.win 9).stage (cfg3.slots t 9)) fullShare X) ∗ (∃ X, ⌜(rdats (fun _ => V) (RlK V) O b 2 c).after (10 : Fin 16) t (Y (10 : Fin 16)) X⌝ ∗ owns (c.tc : Thread nD τ) ((cfg3.win 10).stage (cfg3.slots t 10)) fullShare X) ∗ (∃ X, ⌜(rdats (fun _ => V) (RlK V) O b 2 c).after (11 : Fin 16) t (Y (11 : Fin 16)) X⌝ ∗ owns (c.tc : Thread nD τ) ((cfg3.win 11).stage (cfg3.slots t 11)) fullShare X) ∗ (∃ X, ⌜(rdats (fun _ => V) (RlK V) O b 2 c).after (12 : Fin 16) t (Y (12 : Fin 16)) X⌝ ∗ owns (c.tc : Thread nD τ) ((cfg3.win 12).stage (cfg3.slots t 12)) fullShare X) ∗ (∃ X, ⌜(rdats (fun _ => V) (RlK V) O b 2 c).after (13 : Fin 16) t (Y (13 : Fin 16)) X⌝ ∗ owns (c.tc : Thread nD τ) ((cfg3.win 13).stage (cfg3.slots t 13)) fullShare X) ∗ (∃ X, ⌜(rdats (fun _ => V) (RlK V) O b 2 c).after (14 : Fin 16) t (Y (14 : Fin 16)) X⌝ ∗ owns (c.tc : Thread nD τ) ((cfg3.win 14).stage (cfg3.slots t 14)) fullShare X) ∗ (∃ X, ⌜(rdats (fun _ => V) (RlK V) O b 2 c).after (15 : Fin 16) t (Y (15 : Fin 16)) X⌝ ∗ owns (c.tc : Thread nD τ) ((cfg3.win 15).stage (cfg3.slots t 15)) fullShare X))
    from by
    have e1 := bigSep_W3 (fun w : Fin 16 => (owns (c.tc : Thread nD τ) ((cfg3.win w).stage (cfg3.slots t w)) fullShare (Y w) : sProp (MM F)))
    have e2 := bigSep_W3 (fun w : Fin 16 => iprop(∃ X, ⌜(rdats (fun _ => V) (RlK V) O b 2 c).after w t (Y w) X⌝ ∗ owns (c.tc : Thread nD τ) ((cfg3.win w).stage (cfg3.slots t w)) fullShare X : sProp (MM F)))
    rw [← e1, ← e2] at key
    exact key
  refine BIBase.Entails.trans (cc3_wp c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9)) (win3_10.stage (cfg3.slots t 10)) (hstage3_10 ((cfg3.slots t 10).cast nbuf3_10)) (win3_11.stage (cfg3.slots t 11)) (hstage3_11 ((cfg3.slots t 11).cast nbuf3_11)) (win3_12.stage (cfg3.slots t 12)) (hstage3_12 ((cfg3.slots t 12).cast nbuf3_12)) (win3_13.stage (cfg3.slots t 13)) (hstage3_13 ((cfg3.slots t 13).cast nbuf3_13)) (win3_14.stage (cfg3.slots t 14)) (hstage3_14 ((cfg3.slots t 14).cast nbuf3_14)) (win3_15.stage (cfg3.slots t 15)) (hstage3_15 ((cfg3.slots t 15).cast nbuf3_15)) (Y (0 : Fin 16)) (Y (1 : Fin 16)) (Y (2 : Fin 16)) (Y (3 : Fin 16)) (Y (4 : Fin 16)) (Y (5 : Fin 16)) (Y (6 : Fin 16)) (Y (7 : Fin 16)) (Y (8 : Fin 16)) (Y (9 : Fin 16)) (Y (10 : Fin 16)) (Y (11 : Fin 16)) (Y (12 : Fin 16)) (Y (13 : Fin 16)) (Y (14 : Fin 16)) (Y (15 : Fin 16))) (wp_mono frame _ _ fun _ => ?_)
  iintro ⟨H0, H1, H2, H3, H4, H5, H6, H7, H8, H9, H10, H11, H12, H13, H14, H15⟩
  isplitl [H0]
  · iexists (Y (0 : Fin 16))
    isplitr
    · ipureintro; exact (after_in (p := 2) (w := (0 : Fin 16)) rfl t _ _).mpr rfl
    · iexact H0
  isplitl [H1]
  · iexists (Y (1 : Fin 16))
    isplitr
    · ipureintro; exact (after_in (p := 2) (w := (1 : Fin 16)) rfl t _ _).mpr rfl
    · iexact H1
  isplitl [H2]
  · iexists (Y (2 : Fin 16))
    isplitr
    · ipureintro; exact (after_in (p := 2) (w := (2 : Fin 16)) rfl t _ _).mpr rfl
    · iexact H2
  isplitl [H3]
  · iexists (Y (3 : Fin 16))
    isplitr
    · ipureintro; exact (after_in (p := 2) (w := (3 : Fin 16)) rfl t _ _).mpr rfl
    · iexact H3
  isplitl [H4]
  · iexists (Y (4 : Fin 16))
    isplitr
    · ipureintro; exact (after_in (p := 2) (w := (4 : Fin 16)) rfl t _ _).mpr rfl
    · iexact H4
  isplitl [H5]
  · iexists (Y (5 : Fin 16))
    isplitr
    · ipureintro; exact (after_in (p := 2) (w := (5 : Fin 16)) rfl t _ _).mpr rfl
    · iexact H5
  isplitl [H6]
  · iexists (Y (6 : Fin 16))
    isplitr
    · ipureintro; exact (after_in (p := 2) (w := (6 : Fin 16)) rfl t _ _).mpr rfl
    · iexact H6
  isplitl [H7]
  · iexists (Y (7 : Fin 16))
    isplitr
    · ipureintro; exact (after_in (p := 2) (w := (7 : Fin 16)) rfl t _ _).mpr rfl
    · iexact H7
  isplitl [H8]
  · iexists (Y (8 : Fin 16))
    isplitr
    · ipureintro; exact (after_in (p := 2) (w := (8 : Fin 16)) rfl t _ _).mpr rfl
    · iexact H8
  isplitl [H9]
  · iexists (Y (9 : Fin 16))
    isplitr
    · ipureintro; exact (after_in (p := 2) (w := (9 : Fin 16)) rfl t _ _).mpr rfl
    · iexact H9
  isplitl [H10]
  · iexists (Y (10 : Fin 16))
    isplitr
    · ipureintro; exact (after_in (p := 2) (w := (10 : Fin 16)) rfl t _ _).mpr rfl
    · iexact H10
  isplitl [H11]
  · iexists (Y (11 : Fin 16))
    isplitr
    · ipureintro; exact (after_in (p := 2) (w := (11 : Fin 16)) rfl t _ _).mpr rfl
    · iexact H11
  isplitl [H12]
  · iexists (Y (12 : Fin 16))
    isplitr
    · ipureintro; exact (after_in (p := 2) (w := (12 : Fin 16)) rfl t _ _).mpr rfl
    · iexact H12
  isplitl [H13]
  · iexists (Y (13 : Fin 16))
    isplitr
    · ipureintro; exact (after_in (p := 2) (w := (13 : Fin 16)) rfl t _ _).mpr rfl
    · iexact H13
  isplitl [H14]
  · iexists (Y (14 : Fin 16))
    isplitr
    · ipureintro; exact (after_in (p := 2) (w := (14 : Fin 16)) rfl t _ _).mpr rfl
    · iexact H14
  · iexists (mlpV (Y (0 : Fin 16)) (Y (1 : Fin 16)) (Y (2 : Fin 16)) (Y (3 : Fin 16)) (Y (4 : Fin 16)) (Y (5 : Fin 16)) (Y (6 : Fin 16)) (Y (7 : Fin 16)) (Y (8 : Fin 16)) (Y (9 : Fin 16)) (Y (10 : Fin 16)) (Y (11 : Fin 16)) (Y (12 : Fin 16)) (Y (13 : Fin 16)) (Y (14 : Fin 16)))
    isplitr
    · ipureintro
      refine (after_out (p := 2) (w := (15 : Fin 16)) rfl t _ _).mpr ?_
      exact mlpV_congr h0 h1 h2 h3 h4 h5 h6 h7 h8 h9 h10 h11 h12 h13 h14
    · iexact H15

end Cert.KernelIdeal.Pf

end

end
-- ==== Proof.IPay.lean ====
/-
  What the TensorCore hands the SparseCore's tiles and takes back.
-/
module

public import proofs.«01_k».proof.Proof.ITile

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

/-! ## What the handshakes carry, and the launch theorem's obligations of the gather -/

section Pay

variable (A0 A1 : Dev nD → S16384.Idx → BitVec 32)
variable (R7 : Dev nD → S1000000x64.Idx → Elt F .f32 → Prop) (R9 : Dev nD → S100000x64.Idx → Elt F .f32 → Prop)

def coordsV (c : Fin 2) (s : Fin 16) : grid2.Coords :=
  fun | 0 => c | 1 => s | ⟨_ + 2, h⟩ => absurd h (Nat.not_lt.2 (Nat.le_add_left _ _))

abbrev goT (d : Dev nD) (c : Fin 2) (i : Fin 16) : sProp (MM F) := goP d (A0 d) (A1 d) (R7 d) (R9 d) (coordsV c i)
abbrev tdT (d : Dev nD) (c : Fin 2) (i : Fin 16) : sProp (MM F) := tdP d (A0 d) (A1 d) (R7 d) (R9 d) (coordsV c i)

theorem nCore_zero : (K (F := F)).nCore 0 = 2 := rfl

/-- The one call takes each task's share of the operands and brings back each task's rows of the results. -/
def P : (K (F := F)).Pay (nD := nD) (Val := Elt F) (Name := ℕ) (U := UU) where
  st := fun q d c => match q with | 0 => bigSep Finset.univ fun i : Fin 16 => goT A0 A1 R7 R9 d (Fin.cast nCore_zero c) i
  dn := fun q d c => match q with | 0 => bigSep Finset.univ fun i : Fin 16 => tdT A0 A1 R7 R9 d (Fin.cast nCore_zero c) i
  go := fun q d c i => match q with | 0 => goT A0 A1 R7 R9 d (Fin.cast nCore_zero c) (Fin.cast nSub_zero i)
  td := fun q d c i => match q with | 0 => tdT A0 A1 R7 R9 d (Fin.cast nCore_zero c) (Fin.cast nSub_zero i)
  x := fun _ _ => iprop(emp)

set_option synthInstance.maxHeartbeats 400000 in
instance goP_storable (d A0 A1 R7 R9 L) : BI.Storable (upEmb : UEmb _ (MM F)) (goP d A0 A1 R7 R9 L) := by unfold goP; infer_instance
instance tdP_storable (d A0 A1 R7 R9 L) : BI.Storable (upEmb : UEmb _ (MM F)) (tdP d A0 A1 R7 R9 L) := by unfold tdP; infer_instance

instance P_storable : (P (F := F) A0 A1 R7 R9).IsStorable where
  st q d c := match q with
    | 0 => (inferInstance : BI.Storable (upEmb : UEmb _ (MM F)) (bigSep Finset.univ fun i : Fin 16 => goT A0 A1 R7 R9 d (Fin.cast nCore_zero c) i))
  dn q d c := match q with
    | 0 => (inferInstance : BI.Storable (upEmb : UEmb _ (MM F)) (bigSep Finset.univ fun i : Fin 16 => tdT A0 A1 R7 R9 d (Fin.cast nCore_zero c) i))
  go q d c i := match q with | 0 => goP_storable ..
  td q d c i := match q with | 0 => tdP_storable ..

theorem defs₀_vector (c : Fin τ.nSC) (s : Fin τ.nSub) :
    defs₀ (F := F) (.scVector c s) 2 ()
      = SparseCore.onTile hcore2 hsub2 (fun c s => cc2__gather_body (coordsV c s) a0M (Memref.isWhole_whole _) a1M (Memref.isWhole_whole _) t7M (Memref.isWhole_whole _) t9M (Memref.isWhole_whole _)
    o0M (Memref.isWhole_whole _) o1M (Memref.isWhole_whole _) i0M (Memref.isWhole_whole _) i1M (Memref.isWhole_whole _)
    r0M (Memref.isWhole_whole _) r1M (Memref.isWhole_whole _) cc2_scratch4 cc2_scoped0 cc2_scoped1 cc2_scoped2 cc2_scoped3) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_pre {A B C D E : sProp (MM F)} : iprop(A ∗ emp ∗ B ∗ C ∗ D ∗ E) ⊢ iprop(A ∗ B ∗ C ∗ D ∗ E) := by
  iintro ⟨HA, -, HB, HC, HD, HE⟩
  isplitl [HA]; · iexact HA
  isplitl [HB]; · iexact HB
  isplitl [HC]; · iexact HC
  isplitl [HD]; · iexact HD
  iexact HE

theorem body_tile (d : Dev nD) (c : Fin 2) (i : Fin 16) :
    defs₀ (F := F) (.scVector (cV (coordsV c i)) (jV (coordsV c i))) 2 () = tileProg (coordsV c i) d :=
  (defs₀_vector _ _).trans (dif_pos (show (cV (coordsV c i)).val < grid2.bound 0 ∧ (jV (coordsV c i)).val < grid2.bound 1 from ⟨c.isLt, i.isLt⟩))

theorem split_triv {A B : sProp (MM F)} : A ⊢ |={Set.univ}=> iprop(A ∗ (B -∗ B)) := by
  iintro H
  imodintro
  isplitl [H]; · iexact H
  iintro H; iexact H

theorem tileObl (hA0 : ∀ d p, (A0 d p).toNat < 1000000) (hA1 : ∀ d p, (A1 d p).toNat < 100000) :
    (K (F := F)).TileObl (D (F := F)) 𝒱 (P A0 A1 R7 R9) v₀ 0 := by
  intro d c i O W hO _ _
  simp only [show (P (F := F) A0 A1 R7 R9).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have h := (tile_body (d := d) (A0 := A0 d) (A1 := A1 d) (R7 := R7 d) (R9 := R9 d) (L := coordsV (Fin.cast nCore_zero c) (Fin.cast nSub_zero i)) facts O W hO (hA0 d) (hA1 d)).trans (wp_mono frame _ _ fun _ => obl_post (q := 0))
  rw [← body_tile d (Fin.cast nCore_zero c) (Fin.cast nSub_zero i)] at h
  exact tile_pre.trans h

theorem bigSep_cast {n k : ℕ} (h : n = k) (Φ : Fin k → sProp (MM F)) : (bigSep Finset.univ fun i : Fin n => Φ (Fin.cast h i)) = bigSep Finset.univ Φ := by
  subst h; rfl

theorem gos_eq (d : Dev nD) (c : Fin ((K (F := F)).nCore 0)) :
    (bigSep Finset.univ fun i : Fin ((K (F := F)).nSub 0) => (P A0 A1 R7 R9).go 0 d c i) = (P A0 A1 R7 R9).st 0 d c :=
  bigSep_cast nSub_zero (fun i : Fin 16 => goT A0 A1 R7 R9 d (Fin.cast nCore_zero c) i)
theorem tds_eq (d : Dev nD) (c : Fin ((K (F := F)).nCore 0)) :
    (bigSep Finset.univ fun i : Fin ((K (F := F)).nSub 0) => (P A0 A1 R7 R9).td 0 d c i) = (P A0 A1 R7 R9).dn 0 d c :=
  bigSep_cast nSub_zero (fun i : Fin 16 => tdT A0 A1 R7 R9 d (Fin.cast nCore_zero c) i)

theorem vecSplit : (K (F := F)).VecSplit' (P A0 A1 R7 R9) 0 := by
  intro d c
  rw [gos_eq, tds_eq]
  exact split_triv

theorem sts_eq (d : Dev nD) :
    (bigSep Finset.univ fun c : Fin ((K (F := F)).nCore 0) => (P A0 A1 R7 R9).st 0 d c) = bigSep Finset.univ fun c : Fin 2 => bigSep Finset.univ fun i : Fin 16 => goT A0 A1 R7 R9 d c i :=
  bigSep_cast nCore_zero (fun c : Fin 2 => bigSep Finset.univ fun i : Fin 16 => goT A0 A1 R7 R9 d c i)
theorem dns_eq (d : Dev nD) :
    (bigSep Finset.univ fun c : Fin ((K (F := F)).nCore 0) => (P A0 A1 R7 R9).dn 0 d c) = bigSep Finset.univ fun c : Fin 2 => bigSep Finset.univ fun i : Fin 16 => tdT A0 A1 R7 R9 d c i :=
  bigSep_cast nCore_zero (fun c : Fin 2 => bigSep Finset.univ fun i : Fin 16 => tdT A0 A1 R7 R9 d c i)

end Pay

/-! ## Dealing the operands to the tiles and gathering their results -/

theorem rd_deal {ℓ : Loc nD τ sig} (f : Buf (Elt F) ℓ) {I : Type} [DecidableEq I] (s : Finset I) : rd (F := F) f ⊢ bigSep s fun _ => rd f := by
  induction s using Finset.induction_on with
  | empty => rw [bigSep_empty]; iintro -; iempintro
  | insert i s hi ih =>
    rw [SparseCore.bigSep_insert' hi]
    iintro ⟨%q, H⟩
    ihave H2 := (pointsTo_share (PosShare.mem_left_op_right q)).1 $$ H
    icases H2 with ⟨Ha, Hb⟩
    isplitl [Ha]
    · iexists _; iexact Ha
    · iapply ih; iexists _; iexact Hb

abbrev TI : Type := Fin 2 × Fin 16
abbrev rowsT (x : TI) : Finset S16384x64.Idx := rowsL (coordsV x.1 x.2)

theorem base_coords (c i) : base (coordsV c i) = 1024 * i.val + 512 * c.val := rfl

theorem rowsT_disj : ∀ x ∈ (Finset.univ : Finset TI), ∀ y ∈ (Finset.univ : Finset TI), x ≠ y → Disjoint (rowsT x) (rowsT y) := by
  rintro ⟨c, i⟩ - ⟨c', i'⟩ - h
  refine Finset.disjoint_left.mpr fun p h1 h2 => h ?_
  have h1 := mem_rowsL.mp h1
  have h2 := mem_rowsL.mp h2
  rw [base_coords] at h1 h2
  dsimp only at h1 h2
  have hc : c.val < 2 := c.isLt
  have hc' : c'.val < 2 := c'.isLt
  refine Prod.ext (Fin.ext ?_) (Fin.ext ?_)
  · show c.val = c'.val; omega
  · show i.val = i'.val; omega

theorem rowsT_cover : (Finset.univ : Finset TI).biUnion rowsT = Finset.univ := by
  refine Finset.eq_univ_iff_forall.mpr fun p => Finset.mem_biUnion.mpr ?_
  have hp : (p 0).val < 16384 := (p 0).isLt
  refine ⟨(⟨(p 0).val / 512 % 2, Nat.mod_lt _ (by decide)⟩, ⟨(p 0).val / 1024, by show _ < 16; omega⟩), Finset.mem_univ _, mem_rowsL.mpr ?_⟩
  rw [base_coords]
  show 1024 * ((p 0).val / 1024) + 512 * ((p 0).val / 512 % 2) ≤ (p 0).val ∧ (p 0).val < 1024 * ((p 0).val / 1024) + 512 * ((p 0).val / 512 % 2) + 512
  omega

/-- Pieces of a buffer, each with a property of its entries, are the buffer with it. -/
theorem join_prop {ℓ : Loc nD τ sig} {I : Type} [DecidableEq I] (s : Finset I) (Kk : I → Finset (Idx ℓ)) (Pr : Idx ℓ → Elt F ℓ.ty.elt → Prop)
    (f₀ : Buf (Elt F) ℓ) (h : ∀ t ∈ s, ∀ t' ∈ s, t ≠ t' → Disjoint (Kk t) (Kk t')) :
    (bigSep s fun t => iprop(∃ f : Buf (Elt F) ℓ, ⌜∀ p ∈ Kk t, Pr p (f p)⌝ ∗ ℓ ↦[Kk t]{fullShare} f) : sProp (MM F))
      ⊢ iprop(∃ g : Buf (Elt F) ℓ, ⌜∀ p ∈ s.biUnion Kk, Pr p (g p)⌝ ∗ ℓ ↦[s.biUnion Kk]{fullShare} g) := by
  haveI : Nonempty (Buf (Elt F) ℓ) := ⟨f₀⟩
  iintro H
  ihave H := (bigSep_exists_pi s _) $$ H
  icases H with ⟨%fs, H⟩
  ihave H := (bigSep_pure_sep s _ _) $$ H
  icases H with ⟨%hp, H⟩
  ihave H := (pointsTo_biUnion_join s Kk fs f₀ h) $$ H
  icases H with ⟨%g, %hg, H⟩
  iexists g
  isplitr
  · ipureintro
    intro p hp'
    obtain ⟨t, ht, hpt⟩ := Finset.mem_biUnion.mp hp'
    rw [hg t ht p hpt]
    exact hp t ht p hpt
  · iexact H

section Deal

variable (A0 A1 : Dev nD → S16384.Idx → BitVec 32)
variable (R7 : Dev nD → S1000000x64.Idx → Elt F .f32 → Prop) (R9 : Dev nD → S100000x64.Idx → Elt F .f32 → Prop) (d : Dev nD)

abbrev lc (b : Ref sig .tc) : Loc nD τ sig := (SparseCore.T d).loc b

theorem deal_tiles (f7 : Buf (Elt F) (lc d main_v7)) (f9 : Buf (Elt F) (lc d main_v9)) (h7 : ∀ p, R7 d p (f7 p)) (h9 : ∀ p, R9 d p (f9 p)) (fa : Buf (Elt F) (lc d main_v10_0)) (fb : Buf (Elt F) (lc d main_v10_1)) :
    iprop(rd (F := F) (ℓ := lc d main_arg0) (A0 d) ∗ rd (ℓ := lc d main_arg1) (A1 d) ∗ rd f7 ∗ rd f9 ∗ (lc d main_v10_0 ↦{fullShare} fa) ∗ (lc d main_v10_1 ↦{fullShare} fb))
      ⊢ bigSep Finset.univ fun c : Fin ((K (F := F)).nCore 0) => (P A0 A1 R7 R9).st 0 d c := by
  rw [sts_eq]
  rw [← bigSep_univ_prod (fun x : TI => goT A0 A1 R7 R9 d x.1 x.2)]
  iintro ⟨H0, H1, H7, H9, Ha, Hb⟩
  ihave H0 := (rd_deal (F := F) (ℓ := lc d main_arg0) (A0 d) (Finset.univ : Finset TI)) $$ H0
  ihave H1 := (rd_deal (F := F) (ℓ := lc d main_arg1) (A1 d) (Finset.univ : Finset TI)) $$ H1
  ihave H7 := (rd_deal (F := F) f7 (Finset.univ : Finset TI)) $$ H7
  ihave H9 := (rd_deal (F := F) f9 (Finset.univ : Finset TI)) $$ H9
  rw [← rowsT_cover]
  ihave Ha := (Entails.of_eq (pointsTo_biUnion (Val := Elt F) (Ix := HIx 1) (Name := ℕ) (U := UU) (Lvl := ℕ) (ℓ := lc d main_v10_0) (q := fullShare) (f := fa) (Finset.univ : Finset TI) rowsT rowsT_disj)) $$ Ha
  ihave Hb := (Entails.of_eq (pointsTo_biUnion (Val := Elt F) (Ix := HIx 1) (Name := ℕ) (U := UU) (Lvl := ℕ) (ℓ := lc d main_v10_1) (q := fullShare) (f := fb) (Finset.univ : Finset TI) rowsT rowsT_disj)) $$ Hb
  have key : ∀ x ∈ (Finset.univ : Finset TI), iprop(rd (F := F) (ℓ := lc d main_arg0) (A0 d) ∗ rd (ℓ := lc d main_arg1) (A1 d) ∗ rd f7 ∗ rd f9 ∗ (lc d main_v10_0 ↦[rowsT x]{fullShare} fa) ∗ (lc d main_v10_1 ↦[rowsT x]{fullShare} fb))
      ⊢ goT A0 A1 R7 R9 d x.1 x.2 := by
    intro x _
    unfold goT goP
    iintro ⟨H0, H1, H7, H9, Ha, Hb⟩
    isplitl [H0]; · iexact H0
    isplitl [H1]; · iexact H1
    isplitl [H7]
    · iexists f7
      isplitr; · ipureintro; exact h7
      iexact H7
    isplitl [H9]
    · iexists f9
      isplitr; · ipureintro; exact h9
      iexact H9
    isplitl [Ha]
    · iexists fa; iexact Ha
    · iexists fb; iexact Hb
  have hm : (bigSep (Finset.univ : Finset TI) fun x => iprop(rd (F := F) (ℓ := lc d main_arg0) (A0 d) ∗ rd (ℓ := lc d main_arg1) (A1 d) ∗ rd f7 ∗ rd f9 ∗ (lc d main_v10_0 ↦[rowsT x]{fullShare} fa) ∗ (lc d main_v10_1 ↦[rowsT x]{fullShare} fb)))
      ⊢ bigSep (Finset.univ : Finset TI) fun x => goT A0 A1 R7 R9 d x.1 x.2 := BI.bigSep_mono key
  rw [bigSep_sep', bigSep_sep', bigSep_sep', bigSep_sep', bigSep_sep'] at hm
  iapply hm
  isplitl [H0]; · iexact H0
  isplitl [H1]; · iexact H1
  isplitl [H7]; · iexact H7
  isplitl [H9]; · iexact H9
  isplitl [Ha]; · iexact Ha
  iexact Hb

theorem gather_tiles (fa : Buf (Elt F) (lc d main_v10_0)) (fb : Buf (Elt F) (lc d main_v10_1)) :
    (bigSep Finset.univ fun c : Fin ((K (F := F)).nCore 0) => (P A0 A1 R7 R9).dn 0 d c)
      ⊢ iprop(∃ (gu : Buf (Elt F) (lc d main_v10_0)) (gg : Buf (Elt F) (lc d main_v10_1)), ⌜(∀ p, RU (A0 d) (R7 d) p (gu p)) ∧ ∀ p, RG (A1 d) (R9 d) p (gg p)⌝
          ∗ (lc d main_v10_0 ↦{fullShare} gu) ∗ (lc d main_v10_1 ↦{fullShare} gg)) := by
  rw [dns_eq]
  rw [← bigSep_univ_prod (fun x : TI => tdT A0 A1 R7 R9 d x.1 x.2)]
  have key : ∀ x ∈ (Finset.univ : Finset TI), tdT A0 A1 R7 R9 d x.1 x.2
      ⊢ iprop((∃ f : Buf (Elt F) (lc d main_v10_0), ⌜∀ p ∈ rowsT x, RU (A0 d) (R7 d) p (f p)⌝ ∗ (lc d main_v10_0 ↦[rowsT x]{fullShare} f))
        ∗ (∃ f : Buf (Elt F) (lc d main_v10_1), ⌜∀ p ∈ rowsT x, RG (A1 d) (R9 d) p (f p)⌝ ∗ (lc d main_v10_1 ↦[rowsT x]{fullShare} f))) := by
    intro x _
    exact .rfl
  refine BIBase.Entails.trans (BI.bigSep_mono key) ?_
  rw [bigSep_sep']
  iintro ⟨Ha, Hb⟩
  ihave Ha := (join_prop (ℓ := lc d main_v10_0) Finset.univ rowsT (RU (A0 d) (R7 d)) fa rowsT_disj) $$ Ha
  ihave Hb := (join_prop (ℓ := lc d main_v10_1) Finset.univ rowsT (RG (A1 d) (R9 d)) fb rowsT_disj) $$ Hb
  rw [rowsT_cover]
  icases Ha with ⟨%gu, %hu, Ha⟩
  icases Hb with ⟨%gg, %hg, Hb⟩
  iexists gu, gg
  isplitr
  · ipureintro; exact ⟨fun p => hu p (Finset.mem_univ _), fun p => hg p (Finset.mem_univ _)⟩
  isplitl [Ha]; · iexact Ha
  iexact Hb

end Deal

end Cert.KernelIdeal.Pf

end

end
-- ==== Proof.IMain.lean ====
/-
  The TensorCore's main as stretches of operations between the calls.
-/
module

public import proofs.«01_k».proof.Proof.IHyp
public import proofs.«01_k».proof.Proof.IPay
public import Idealize.ShloMosaic.Lib.Pipeline.RegionsOwned

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

/-! ## The operations between the calls -/

def opsA : List (HloOp τ sig (Elt F)) :=
  [StableHlo.nullary main_v0 (iotaInDim S64x64 32 0),
   StableHlo.nullary main_v1 (iotaInDim S64x64 32 1),
   StableHlo.nullary main_c (constantI S_ 32 0#32),
   StableHlo.unary main_c main_v2 (broadcastInDim S64x64 ![] bcast_S_S64x64 : (⟨S_, .i32⟩ : BufTy).Contents (Elt F) → (⟨S64x64, .i32⟩ : BufTy).Contents (Elt F)),
   StableHlo.binary main_v0 main_v2 main_v3 (addi : (⟨S64x64, .i32⟩ : BufTy).Contents (Elt F) → (⟨S64x64, .i32⟩ : BufTy).Contents (Elt F) → (⟨S64x64, .i32⟩ : BufTy).Contents (Elt F)),
   StableHlo.binary main_v3 main_v1 main_v4 (cmpi .eq : (⟨S64x64, .i32⟩ : BufTy).Contents (Elt F) → (⟨S64x64, .i32⟩ : BufTy).Contents (Elt F) → (⟨S64x64, .i1⟩ : BufTy).Contents (Elt F)),
   StableHlo.unary main_v4 main_v5 (uitofp .f32 : (⟨S64x64, .i1⟩ : BufTy).Contents (Elt F) → (⟨S64x64, .f32⟩ : BufTy).Contents (Elt F)),
   StableHlo.unary main_arg2 main_v6 ((transpose S64x1000000 [1, 0] · transposes_S1000000x64_S64x1000000_1_0) : (⟨S1000000x64, .f32⟩ : BufTy).Contents (Elt F) → (⟨S64x1000000, .f32⟩ : BufTy).Contents (Elt F))]

def opsB : List (HloOp τ sig (Elt F)) :=
  [StableHlo.unary main_arg3 main_v8 ((transpose S64x100000 [1, 0] · transposes_S100000x64_S64x100000_1_0) : (⟨S100000x64, .f32⟩ : BufTy).Contents (Elt F) → (⟨S64x100000, .f32⟩ : BufTy).Contents (Elt F))]

def opsC : List (HloOp τ sig (Elt F)) :=
  [StableHlo.unary main_arg4 main_v11 ((transpose S128x128 [1, 0] · transposes_S128x128_S128x128_1_0) : (⟨S128x128, .f32⟩ : BufTy).Contents (Elt F) → (⟨S128x128, .f32⟩ : BufTy).Contents (Elt F)),
   StableHlo.unary main_v11 main_v12 ((extractStridedSlice S64x128 ![0, 0] · slices_S128x128_S64x128_0_0) : (⟨S128x128, .f32⟩ : BufTy).Contents (Elt F) → (⟨S64x128, .f32⟩ : BufTy).Contents (Elt F)),
   StableHlo.unary main_v11 main_v13 ((extractStridedSlice S64x128 ![64, 0] · slices_S128x128_S64x128_64_0) : (⟨S128x128, .f32⟩ : BufTy).Contents (Elt F) → (⟨S64x128, .f32⟩ : BufTy).Contents (Elt F)),
   StableHlo.reshape main_arg5 main_v14 (rfl : (.f32 : EltTy) = .f32) shapeCasts_S128_S1x128,
   StableHlo.unary main_arg6 main_v15 ((transpose S128x64 [1, 0] · transposes_S64x128_S128x64_1_0) : (⟨S64x128, .f32⟩ : BufTy).Contents (Elt F) → (⟨S128x64, .f32⟩ : BufTy).Contents (Elt F)),
   StableHlo.reshape main_arg7 main_v16 (rfl : (.f32 : EltTy) = .f32) shapeCasts_S64_S1x64,
   StableHlo.unary main_arg8 main_v17 ((transpose S64x32 [1, 0] · transposes_S32x64_S64x32_1_0) : (⟨S32x64, .f32⟩ : BufTy).Contents (Elt F) → (⟨S64x32, .f32⟩ : BufTy).Contents (Elt F)),
   StableHlo.reshape main_arg9 main_v18 (rfl : (.f32 : EltTy) = .f32) shapeCasts_S32_S1x32,
   StableHlo.unary main_arg10 main_v19 ((transpose S32x16 [1, 0] · transposes_S16x32_S32x16_1_0) : (⟨S16x32, .f32⟩ : BufTy).Contents (Elt F) → (⟨S32x16, .f32⟩ : BufTy).Contents (Elt F)),
   StableHlo.reshape main_arg11 main_v20 (rfl : (.f32 : EltTy) = .f32) shapeCasts_S16_S1x16,
   StableHlo.unary main_arg12 main_v21 ((transpose S16x8 [1, 0] · transposes_S8x16_S16x8_1_0) : (⟨S8x16, .f32⟩ : BufTy).Contents (Elt F) → (⟨S16x8, .f32⟩ : BufTy).Contents (Elt F)),
   StableHlo.reshape main_arg13 main_v22 (rfl : (.f32 : EltTy) = .f32) shapeCasts_S8_S1x8,
   StableHlo.unary main_arg14 main_v23 ((transpose S8x1 [1, 0] · transposes_S1x8_S8x1_1_0) : (⟨S1x8, .f32⟩ : BufTy).Contents (Elt F) → (⟨S8x1, .f32⟩ : BufTy).Contents (Elt F)),
   StableHlo.reshape main_arg15 main_v24 (rfl : (.f32 : EltTy) = .f32) shapeCasts_S1_S1x1]

def opsD : List (HloOp τ sig (Elt F)) :=
  [StableHlo.reshape main_v25 main_v26 (rfl : (.f32 : EltTy) = .f32) shapeCasts_S16384x1_S16384]

/-- A custom call of the TensorCore's main. -/
abbrev entryP (p : Fin 3) : Prog (TpuEff nD τ sig (Elt F) (SparseCore.Sig (ΛP (F := F)) 1) .tc) PUnit :=
  Prog.lift (.customCall (SparseCore.inner (Pipeline.entry p)) ())

theorem main_eq (d : Dev nD) : main (F := F) d = (StableHlo.seq opsA >>= fun _ => entryP 0 >>= fun _ => StableHlo.seq opsB >>= fun _ => entryP 1 >>= fun _ =>
    (K (F := F)).run d 0 >>= fun _ => StableHlo.seq opsC >>= fun _ => entryP 2 >>= fun _ => StableHlo.seq opsD) := by
  simp only [opsA, opsB, opsC, opsD, StableHlo.seq, bind_assoc, pure_bind]
  rfl

/-! ## The buffers they work on -/

abbrev uc : Finset (DevRef τ sig) := Pipeline.ucRefs τ sig
/-- What the SparseCore's call has the use of but does not write. -/
abbrev RR : Finset (Ref sig .tc) := {main_arg0, main_arg1, main_v7, main_v9}
abbrev ucB : Finset (DevRef τ sig) := Pipeline.ucRefsBut τ sig RR

theorem pair_sub (x y : Ref sig .tc) : ({Proc.devRef .tc y, Proc.devRef .tc x} : Finset (DevRef τ sig)) ⊆ StableHlo.tcRefs τ sig :=
  Finset.insert_subset (StableHlo.devRef_mem_tcRefs _) (Finset.singleton_subset_iff.mpr (StableHlo.devRef_mem_tcRefs _))
theorem one_sub (y : Ref sig .tc) : ({Proc.devRef .tc y} : Finset (DevRef τ sig)) ⊆ StableHlo.tcRefs τ sig :=
  Finset.singleton_subset_iff.mpr (StableHlo.devRef_mem_tcRefs _)
theorem three_sub (x z y : Ref sig .tc) : ({Proc.devRef .tc y, Proc.devRef .tc x, Proc.devRef .tc z} : Finset (DevRef τ sig)) ⊆ StableHlo.tcRefs τ sig :=
  Finset.insert_subset (StableHlo.devRef_mem_tcRefs _) (pair_sub _ _)

theorem pair_but (x y : Ref sig .tc) (hx : x ∉ RR) (hy : y ∉ RR) : ∀ b ∈ RR, (Proc.devRef .tc b : DevRef τ sig) ∉ ({Proc.devRef .tc y, Proc.devRef .tc x} : Finset (DevRef τ sig)) := by
  intro b hb h
  rcases Finset.mem_insert.mp h with h | h
  · exact hy (Proc.devRef_injective _ h ▸ hb)
  · exact hx (Proc.devRef_injective _ (Finset.mem_singleton.mp h) ▸ hb)

theorem opsA_sub : ∀ op ∈ opsA (F := F), op.bufs ⊆ uc := by
  refine List.forall_iff_forall_mem.mp ?_
  exact ⟨Pipeline.sub_ucRefs _ (one_sub _), Pipeline.sub_ucRefs _ (one_sub _), Pipeline.sub_ucRefs _ (one_sub _), Pipeline.sub_ucRefs _ (pair_sub _ _),
    Pipeline.sub_ucRefs _ (three_sub _ _ _), Pipeline.sub_ucRefs _ (three_sub _ _ _), Pipeline.sub_ucRefs _ (pair_sub _ _), Pipeline.sub_ucRefs _ (pair_sub _ _)⟩
theorem opsA_fresh : ∀ op ∈ opsA (F := F), op.fresh = ∅ := List.forall_iff_forall_mem.mp (StableHlo.forall_fresh_of_map rfl)
theorem opsB_sub : ∀ op ∈ opsB (F := F), op.bufs ⊆ uc := by
  refine List.forall_iff_forall_mem.mp ?_
  exact Pipeline.sub_ucRefs _ (pair_sub _ _)
theorem opsB_fresh : ∀ op ∈ opsB (F := F), op.fresh = ∅ := List.forall_iff_forall_mem.mp (StableHlo.forall_fresh_of_map rfl)

theorem but {op : HloOp τ sig (Elt F)} (x y : Ref sig .tc) (h : op.bufs = {Proc.devRef .tc y, Proc.devRef .tc x}) (hx : x ∉ RR) (hy : y ∉ RR) : op.bufs ⊆ ucB :=
  Pipeline.sub_ucRefsBut RR op (h ▸ pair_sub x y) (h ▸ pair_but x y hx hy)

theorem opsC_sub : ∀ op ∈ opsC (F := F), op.bufs ⊆ ucB := by
  refine List.forall_iff_forall_mem.mp ?_
  exact ⟨but main_v11 main_arg4 rfl (by decide) (by decide), but main_v12 main_v11 rfl (by decide) (by decide), but main_v13 main_v11 rfl (by decide) (by decide),
    but main_v14 main_arg5 rfl (by decide) (by decide), but main_v15 main_arg6 rfl (by decide) (by decide), but main_v16 main_arg7 rfl (by decide) (by decide),
    but main_v17 main_arg8 rfl (by decide) (by decide), but main_v18 main_arg9 rfl (by decide) (by decide), but main_v19 main_arg10 rfl (by decide) (by decide),
    but main_v20 main_arg11 rfl (by decide) (by decide), but main_v21 main_arg12 rfl (by decide) (by decide), but main_v22 main_arg13 rfl (by decide) (by decide),
    but main_v23 main_arg14 rfl (by decide) (by decide), but main_v24 main_arg15 rfl (by decide) (by decide)⟩
theorem opsC_fresh : ∀ op ∈ opsC (F := F), op.fresh = ∅ := List.forall_iff_forall_mem.mp (StableHlo.forall_fresh_of_map rfl)
theorem opsD_sub : ∀ op ∈ opsD (F := F), op.bufs ⊆ ucB := by
  refine List.forall_iff_forall_mem.mp ?_
  exact but main_v26 main_v25 rfl (by decide) (by decide)
theorem opsD_fresh : ∀ op ∈ opsD (F := F), op.fresh = ∅ := List.forall_iff_forall_mem.mp (StableHlo.forall_fresh_of_map rfl)

/-! ## The regions' side conditions -/

theorem arr0_sub : Pipeline.arrRefs (τ := τ) (pcfgs (F := F) 0).spec ⊆ uc := Pipeline.arrRefs_sub_ucRefs _ (show ∀ w : Fin 3, (Pipeline.arrRef spec0 w).isScoped = false by decide)
theorem arr1_sub : Pipeline.arrRefs (τ := τ) (pcfgs (F := F) 1).spec ⊆ uc := Pipeline.arrRefs_sub_ucRefs _ (show ∀ w : Fin 3, (Pipeline.arrRef spec1 w).isScoped = false by decide)
theorem arr2_sub : Pipeline.arrRefs (τ := τ) (pcfgs (F := F) 2).spec ⊆ ucB := by
  intro b hb
  refine Finset.mem_sdiff.mpr ⟨Pipeline.arrRefs_sub_ucRefs (pcfgs (F := F) 2).spec (show ∀ w : Fin 16, (Pipeline.arrRef spec3 w).isScoped = false by decide) hb, fun h => ?_⟩
  obtain ⟨r, hr, rfl⟩ := Finset.mem_map.mp h
  obtain ⟨r', hr', e⟩ := Finset.mem_map.mp hb
  obtain ⟨w, -, rfl⟩ := Finset.mem_image.mp hr'
  have e' := Proc.devRef_injective _ e
  have key : ∀ w, Pipeline.arrRef (pcfgs (F := F) 2).spec w ∉ RR := show ∀ w : Fin 16, Pipeline.arrRef spec3 w ∉ RR by decide
  exact key w (e' ▸ hr)

theorem clip0 : ∀ w, ((pn (F := F) 0).win w).isOut = false → ∀ t t' : Fin (pn (F := F) 0).N, ((pn (F := F) 0).win w).index t = ((pn (F := F) 0).win w).index t' →
    ((pn (F := F) 0).win w).clip ((pn (F := F) 0).grid.coords t) = ((pn (F := F) 0).win w).clip ((pn (F := F) 0).grid.coords t')
  | ⟨0, _⟩ => fun _ t t' h => funext fun a => congrArg (fun n => Pipeline.Clip.of n (S64x32768.size a) (S64x1000000.size a)) (congrFun h a)
  | ⟨1, _⟩ => fun _ _ _ _ => rfl
  | ⟨2, _⟩ => fun h => Bool.noConfusion h

theorem clip1 : ∀ w, ((pn (F := F) 1).win w).isOut = false → ∀ t t' : Fin (pn (F := F) 1).N, ((pn (F := F) 1).win w).index t = ((pn (F := F) 1).win w).index t' →
    ((pn (F := F) 1).win w).clip ((pn (F := F) 1).grid.coords t) = ((pn (F := F) 1).win w).clip ((pn (F := F) 1).grid.coords t')
  | ⟨0, _⟩ => fun _ t t' h => funext fun a => congrArg (fun n => Pipeline.Clip.of n (S64x32768.size a) (S64x100000.size a)) (congrFun h a)
  | ⟨1, _⟩ => fun _ _ _ _ => rfl
  | ⟨2, _⟩ => fun h => Bool.noConfusion h

theorem clip2 : ∀ w, ((pn (F := F) 2).win w).isOut = false → ∀ t t' : Fin (pn (F := F) 2).N, ((pn (F := F) 2).win w).index t = ((pn (F := F) 2).win w).index t' →
    ((pn (F := F) 2).win w).clip ((pn (F := F) 2).grid.coords t) = ((pn (F := F) 2).win w).clip ((pn (F := F) 2).grid.coords t') := by
  intro w
  refine Fin.lastCases (n := 15) ?_ ?_ w
  · exact fun h => Bool.noConfusion h
  · intro i
    fin_cases i <;> exact fun _ _ _ _ => rfl

theorem outs0 : ∀ w, w ≠ (2 : Fin (pn (F := F) 0).W) → ((pn (F := F) 0).win w).isOut = false := show ∀ w : Fin 3, w ≠ 2 → (spec0 w).isOut = false by decide
theorem outs1 : ∀ w, w ≠ (2 : Fin (pn (F := F) 1).W) → ((pn (F := F) 1).win w).isOut = false := show ∀ w : Fin 3, w ≠ 2 → (spec1 w).isOut = false by decide
theorem outs2 : ∀ w, w ≠ (15 : Fin (pn (F := F) 2).W) → ((pn (F := F) 2).win w).isOut = false := show ∀ w : Fin 16, w ≠ 15 → (spec3 w).isOut = false by decide

theorem Otc_none (d : Dev nD) (n : ℕ) (g : GSem nD τ sig) : (K (F := F)).Otc d n g none = 0 := by
  refine Nat.eq_zero_of_not_pos fun h => ?_
  have := SparseCore.Cfg.lev_of_Otc_pos (K := K (F := F)) h
  have h0 : (K (F := F)).lev g none = 0 := rfl
  omega

end Cert.KernelIdeal.Pf

end

end
-- ==== Proof.ISteps.lean ====
/-
  The TensorCore's main, stretch by stretch.
-/
module

public import proofs.«01_k».proof.Proof.IMain

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

/-! ## What the arrays hold between the steps of main -/

section Vals

variable (m : (ℓ : Loc nD τ sig) → Buf (Elt F) ℓ) (d : Dev nD)

abbrev O0 : Dev nD → CellTallies nD τ sig (HIx 1) := fun d => (K (F := F)).Otc d 0
abbrev O1 : Dev nD → CellTallies nD τ sig (HIx 1) := fun d => (K (F := F)).Otc d 1
abbrev b0 : ℕ := 8 * SparseCore.Cfg.Blocks.fst (Q := 1) (N := 1) 0
abbrev b1 : ℕ := 8 * SparseCore.Cfg.Blocks.fst (Q := 1) (N := 1) 1

def V0 : Valuation τ sig (Elt F) := fun b => m (d, b)
def VA : Valuation τ sig (Elt F) := StableHlo.after opsA (V0 m d)

/-- What the first two calls may leave of an array, and the third of the result. -/
def Arr0 (V : Valuation τ sig (Elt F)) (G : S1000000x64.Idx → Elt F .f32) : Prop :=
  (rdats (fun _ => V) (RlK V) (O0 (F := F)) b0 0 d).ArrAt 2 (pn (F := F) 0).N G
def Arr1 (V : Valuation τ sig (Elt F)) (G : S100000x64.Idx → Elt F .f32) : Prop :=
  (rdats (fun _ => V) (RlK V) (O0 (F := F)) b0 1 d).ArrAt 2 (pn (F := F) 1).N G
def Arr2 (V : Valuation τ sig (Elt F)) (G : S16384x1.Idx → Elt F .f32) : Prop :=
  (rdats (fun _ => V) (RlK V) (O1 (F := F)) b1 2 d).ArrAt 15 (pn (F := F) 2).N G

def VB (G7 : S1000000x64.Idx → Elt F .f32) : Valuation τ sig (Elt F) :=
  StableHlo.after opsB (Function.update (VA m d) (Proc.devRef .tc main_v7) G7)
def V4 (G7 : S1000000x64.Idx → Elt F .f32) (G9 : S100000x64.Idx → Elt F .f32) : Valuation τ sig (Elt F) :=
  Function.update (VB m d G7) (Proc.devRef .tc main_v9) G9
def V5 (G7 : S1000000x64.Idx → Elt F .f32) (G9 : S100000x64.Idx → Elt F .f32) (gu gg : S16384x64.Idx → Elt F .f32) : Valuation τ sig (Elt F) :=
  Function.update (Function.update (V4 m d G7 G9) (Proc.devRef .tc main_v10_0) gu) (Proc.devRef .tc main_v10_1) gg
def VC (G7 : S1000000x64.Idx → Elt F .f32) (G9 : S100000x64.Idx → Elt F .f32) (gu gg : S16384x64.Idx → Elt F .f32) : Valuation τ sig (Elt F) :=
  StableHlo.after opsC (V5 m d G7 G9 gu gg)
def VD (G7 : S1000000x64.Idx → Elt F .f32) (G9 : S100000x64.Idx → Elt F .f32) (gu gg : S16384x64.Idx → Elt F .f32) (G25 : S16384x1.Idx → Elt F .f32) : Valuation τ sig (Elt F) :=
  StableHlo.after opsD (Function.update (VC m d G7 G9 gu gg) (Proc.devRef .tc main_v25) G25)

/-- The index arguments, and what may stand at an element of either table's copy. -/
abbrev A0 : S16384.Idx → BitVec 32 := m (lc d main_arg0)
abbrev A1 : S16384.Idx → BitVec 32 := m (lc d main_arg1)
def R7 (q : S1000000x64.Idx) (x : Elt F .f32) : Prop := ∃ G, Arr0 d (VA m d) G ∧ x = G q
def R9 (q : S100000x64.Idx) (x : Elt F .f32) : Prop := ∃ G7 G, Arr1 d (VB m d G7) G ∧ x = G q

/-- What the whole main leaves. -/
def FinP (V : Valuation τ sig (Elt F)) : Prop :=
  ∃ G7 G9 gu gg G25, Arr0 d (VA m d) G7 ∧ Arr1 d (VB m d G7) G9 ∧ (∀ p, RU (A0 m d) (R7 m d) p (gu p)) ∧ (∀ p, RG (A1 m d) (R9 m d) p (gg p))
    ∧ Arr2 d (VC m d G7 G9 gu gg) G25 ∧ V = VD m d G7 G9 gu gg G25

end Vals

/-! ## The stretch up to the SparseCore's call, and the one after it -/

section Stretches

variable [∀ e, Nonempty (Elt F e)] (m : (ℓ : Loc nD τ sig) → Buf (Elt F) ℓ) (d : Dev nD)

abbrev wpM (x : Prog (TpuEff nD τ sig (Elt F) (SparseCore.Sig (ΛP (F := F)) 1) .tc) PUnit) (Q : PUnit → sProp (MM F)) : sProp (MM F) :=
  wp frame (wpE ((K (F := F)).defs (D (F := F))) 𝒱 (T d) none) Set.univ x Q

abbrev ghostP (p : Fin 3) : sProp (MM F) :=
  iprop(Pipeline.cellsGhost (Pipeline.pin (pcfgs (F := F)) adm) EP p d ∗ Pipeline.toksInit (Pipeline.pin (pcfgs (F := F)) adm) EP p d)

theorem wpM_bind (x : Prog (TpuEff nD τ sig (Elt F) (SparseCore.Sig (ΛP (F := F)) 1) .tc) PUnit)
    (k : PUnit → Prog (TpuEff nD τ sig (Elt F) (SparseCore.Sig (ΛP (F := F)) 1) .tc) PUnit) (Q : PUnit → sProp (MM F)) :
    wpM d x (fun u => wpM d (k u) Q) ⊢ wpM d (x >>= k) Q := by
  unfold wpM
  rw [wp_bind]
theorem wpM_pure (Q : PUnit → sProp (MM F)) : Q ⟨⟩ ⊢ wpM d (pure ⟨⟩) Q := by
  unfold wpM
  rw [wp_pure]
  iintro H; imodintro; iexact H

theorem ops_step (S : Finset (DevRef τ sig)) (ops : List (HloOp τ sig (Elt F))) (hS : ∀ op ∈ ops, op.bufs ⊆ S) (hf : ∀ op ∈ ops, op.fresh = ∅) (V : Valuation τ sig (Elt F))
    (k : PUnit → Prog (TpuEff nD τ sig (Elt F) (SparseCore.Sig (ΛP (F := F)) 1) .tc) PUnit) (Q : PUnit → sProp (MM F)) :
    iprop(boundary (T d) ∗ StableHlo.held (T d) S V ∗ ((boundary (T d) ∗ StableHlo.held (T d) S (StableHlo.after ops V)) -∗ wpM d (k ⟨⟩) Q))
      ⊢ wpM d (StableHlo.seq ops >>= k) Q := by
  iintro ⟨Hb, Hh, Hk⟩
  iapply (StableHlo.wp_seq 𝒱 none Set.univ d S k ops hS hf V) $$ [Hb Hh]
  · isplitl [Hb]
    · iexact Hb
    · iexact Hh
  iexact Hk

theorem first_step (k : PUnit → Prog (TpuEff nD τ sig (Elt F) (SparseCore.Sig (ΛP (F := F)) 1) .tc) PUnit) (Q : PUnit → sProp (MM F)) :
    iprop(boundary (T d) ∗ StableHlo.held (T d) uc (V0 m d) ∗ owedAt (O0 (F := F)) b0 d ∗ levAts (K (F := F)).L (K (F := F)).lev ∗ ghostP d 0
        ∗ (∀ G7, ⌜Arr0 d (VA m d) G7⌝ -∗ (boundary (T d) ∗ StableHlo.held (T d) uc (Function.update (VA m d) (Proc.devRef .tc main_v7) G7) ∗ owedAt (O0 (F := F)) b0 d) -∗ wpM d (k ⟨⟩) Q))
      ⊢ wpM d (StableHlo.seq opsA >>= fun _ => entryP 0 >>= k) Q := by
  iintro ⟨Hb, Hh, HO, HL, ⟨Hg, Ht⟩, Hk⟩
  iapply (ops_step d uc opsA opsA_sub opsA_fresh (V0 m d))
  isplitl [Hb]; · iexact Hb
  isplitl [Hh]; · iexact Hh
  iintro ⟨Hb, Hh⟩
  iapply (wpM_bind d _ _ _)
  iapply (region_wp (W := fun _ => VA m d) (Rl := RlK (VA m d)) (O := O0 (F := F)) (b := b0) 0 (launch0.toP) clip0 (fun c g => Otc_none c 0 g) (bodyHyp0 (VA m d) _ _) 2 outs0 uc arr0_sub d)
  isplitl [Hb]; · iexact Hb
  isplitl [Hh]; · iexact Hh
  isplitl [HO]; · iexact HO
  isplitl [HL]; · iexact HL
  isplitl [Hg]; · iexact Hg
  isplitl [Ht]; · iexact Ht
  iintro %G %hG H
  iapply Hk $$ %G %hG
  iexact H

theorem second_step (G7 : S1000000x64.Idx → Elt F .f32) (k : PUnit → Prog (TpuEff nD τ sig (Elt F) (SparseCore.Sig (ΛP (F := F)) 1) .tc) PUnit) (Q : PUnit → sProp (MM F)) :
    iprop(boundary (T d) ∗ StableHlo.held (T d) uc (Function.update (VA m d) (Proc.devRef .tc main_v7) G7) ∗ owedAt (O0 (F := F)) b0 d ∗ levAts (K (F := F)).L (K (F := F)).lev ∗ ghostP d 1
        ∗ (∀ G9, ⌜Arr1 d (VB m d G7) G9⌝ -∗ (boundary (T d) ∗ StableHlo.held (T d) uc (V4 m d G7 G9) ∗ owedAt (O0 (F := F)) b0 d) -∗ wpM d (k ⟨⟩) Q))
      ⊢ wpM d (StableHlo.seq opsB >>= fun _ => entryP 1 >>= k) Q := by
  iintro ⟨Hb, Hh, HO, HL, ⟨Hg, Ht⟩, Hk⟩
  iapply (ops_step d uc opsB opsB_sub opsB_fresh (Function.update (VA m d) (Proc.devRef .tc main_v7) G7))
  isplitl [Hb]; · iexact Hb
  isplitl [Hh]; · iexact Hh
  iintro ⟨Hb, Hh⟩
  iapply (wpM_bind d _ _ _)
  iapply (region_wp (W := fun _ => VB m d G7) (Rl := RlK (VB m d G7)) (O := O0 (F := F)) (b := b0) 1 (launch1.toP) clip1 (fun c g => Otc_none c 0 g) (bodyHyp1 (VB m d G7) _ _) 2 outs1 uc arr1_sub d)
  isplitl [Hb]; · iexact Hb
  isplitl [Hh]; · iexact Hh
  isplitl [HO]; · iexact HO
  isplitl [HL]; · iexact HL
  isplitl [Hg]; · iexact Hg
  isplitl [Ht]; · iexact Ht
  iintro %G %hG H
  iapply Hk $$ %G %hG
  iexact H

theorem last_step (G7 : S1000000x64.Idx → Elt F .f32) (G9 : S100000x64.Idx → Elt F .f32) (gu gg : S16384x64.Idx → Elt F .f32) (Q : PUnit → sProp (MM F)) :
    iprop(boundary (T d) ∗ StableHlo.held (T d) ucB (V5 m d G7 G9 gu gg) ∗ owedAt (O1 (F := F)) b1 d ∗ levAts (K (F := F)).L (K (F := F)).lev ∗ ghostP d 2
        ∗ (∀ G25, ⌜Arr2 d (VC m d G7 G9 gu gg) G25⌝ -∗ (boundary (T d) ∗ StableHlo.held (T d) ucB (VD m d G7 G9 gu gg G25) ∗ owedAt (O1 (F := F)) b1 d) -∗ Q ⟨⟩))
      ⊢ wpM d (StableHlo.seq opsC >>= fun _ => entryP 2 >>= fun _ => StableHlo.seq opsD) Q := by
  iintro ⟨Hb, Hh, HO, HL, ⟨Hg, Ht⟩, Hk⟩
  iapply (ops_step d ucB opsC opsC_sub opsC_fresh (V5 m d G7 G9 gu gg))
  isplitl [Hb]; · iexact Hb
  isplitl [Hh]; · iexact Hh
  iintro ⟨Hb, Hh⟩
  iapply (wpM_bind d _ _ _)
  iapply (region_wp (W := fun _ => VC m d G7 G9 gu gg) (Rl := RlK (VC m d G7 G9 gu gg)) (O := O1 (F := F)) (b := b1) 2 (launch3.toP) clip2 (fun c g => Otc_none c 1 g) (bodyHyp2 (VC m d G7 G9 gu gg) _ _) 15 outs2 ucB arr2_sub d)
  isplitl [Hb]; · iexact Hb
  isplitl [Hh]; · iexact Hh
  isplitl [HO]; · iexact HO
  isplitl [HL]; · iexact HL
  isplitl [Hg]; · iexact Hg
  isplitl [Ht]; · iexact Ht
  iintro %G %hG ⟨Hb, Hh, HO⟩
  rw [← bind_pure (StableHlo.seq opsD)]
  iapply (ops_step d ucB opsD opsD_sub opsD_fresh (Function.update (VC m d G7 G9 gu gg) (Proc.devRef .tc main_v25) G))
  isplitl [Hb]; · iexact Hb
  isplitl [Hh]; · iexact Hh
  iintro ⟨Hb, Hh⟩
  iapply (wpM_pure d _)
  iapply Hk $$ %G %hG
  isplitl [Hb]; · iexact Hb
  isplitl [Hh]; · iexact Hh
  iexact HO

end Stretches

end Cert.KernelIdeal.Pf

end

end
-- ==== Proof.IMid.lean ====
/-
  The TensorCore's main, whole.
-/
module

public import proofs.«01_k».proof.Proof.ISteps

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

/-! ## Buffers the operations leave alone -/

theorem keepA (V : Valuation τ sig (Elt F)) {r : Ref sig .tc} (hr : r ∉ [main_v0, main_v1, main_c, main_v2, main_v3, main_v4, main_v5, main_v6]) :
    StableHlo.after opsA V (Proc.devRef .tc r) = V (Proc.devRef .tc r) :=
  StableHlo.after_of_writes_sub opsA V (StableHlo.forall_writes_sub_of_map rfl) hr
theorem keepB (V : Valuation τ sig (Elt F)) {r : Ref sig .tc} (hr : r ∉ [main_v8]) :
    StableHlo.after opsB V (Proc.devRef .tc r) = V (Proc.devRef .tc r) :=
  StableHlo.after_of_writes_sub opsB V (StableHlo.forall_writes_sub_of_map rfl) hr
theorem keepC (V : Valuation τ sig (Elt F)) {r : Ref sig .tc} (hr : r ∉ [main_v11, main_v12, main_v13, main_v14, main_v15, main_v16, main_v17, main_v18, main_v19, main_v20, main_v21, main_v22, main_v23, main_v24]) :
    StableHlo.after opsC V (Proc.devRef .tc r) = V (Proc.devRef .tc r) :=
  StableHlo.after_of_writes_sub opsC V (StableHlo.forall_writes_sub_of_map rfl) hr
theorem keepD (V : Valuation τ sig (Elt F)) {r : Ref sig .tc} (hr : r ∉ [main_v26]) :
    StableHlo.after opsD V (Proc.devRef .tc r) = V (Proc.devRef .tc r) :=
  StableHlo.after_of_writes_sub opsD V (StableHlo.forall_writes_sub_of_map rfl) hr

theorem update_keep (V : Valuation τ sig (Elt F)) {r s : Ref sig .tc} (G) (h : r ≠ s) :
    Function.update V (Proc.devRef .tc s) G (Proc.devRef .tc r) = V (Proc.devRef .tc r) :=
  Function.update_of_ne (fun e => h (Proc.devRef_injective _ e)) _ _

section Main

variable (m : (ℓ : Loc nD τ sig) → Buf (Elt F) ℓ) (ρ : Dev nD → PrngReg) (d : Dev nD)

/-- A buffer no step up to the SparseCore's call writes. -/
theorem V4_keep {r : Ref sig .tc} (hr : r ∉ [main_v0, main_v1, main_c, main_v2, main_v3, main_v4, main_v5, main_v6, main_v7, main_v8, main_v9]) (G7) (G9) :
    V4 m d G7 G9 (Proc.devRef .tc r) = m ((SparseCore.T d).loc r) := by
  simp only [List.mem_cons, List.not_mem_nil, or_false, not_or] at hr
  obtain ⟨h0, h1, hc, h2, h3, h4, h5, h6, h7, h8, h9⟩ := hr
  unfold V4
  rw [update_keep _ _ h9]
  unfold VB
  rw [keepB _ (by simpa using h8), update_keep _ _ h7]
  unfold VA
  rw [keepA _ (by simp [*])]
  rfl

theorem V4_v7 (G7) (G9) : V4 m d G7 G9 (Proc.devRef .tc main_v7) = G7 := by
  unfold V4
  rw [update_keep _ _ (by decide)]
  unfold VB
  rw [keepB _ (by decide), Function.update_self]
theorem V4_v9 (G7) (G9) : V4 m d G7 G9 (Proc.devRef .tc main_v9) = G9 := by
  unfold V4
  rw [Function.update_self]

/-! ## Into the SparseCore's call and out of it -/

abbrev dr (r : Ref sig .tc) : DevRef τ sig := Proc.devRef .tc r
abbrev SIX : Finset (DevRef τ sig) := {dr main_arg0, dr main_arg1, dr main_v7, dr main_v9, dr main_v10_0, dr main_v10_1}
abbrev TWO : Finset (DevRef τ sig) := {dr main_v10_0, dr main_v10_1}

theorem mem_uc (r : Ref sig .tc) (h : r.isScoped = false) : dr r ∈ uc :=
  Finset.mem_filter.mpr ⟨StableHlo.devRef_mem_tcRefs _, fun h' => Bool.false_ne_true (h.symm.trans h')⟩
theorem mem_ucB (r : Ref sig .tc) (h : r.isScoped = false) (h' : r ∉ RR) : dr r ∈ ucB := by
  refine Finset.mem_sdiff.mpr ⟨mem_uc r h, fun hm => ?_⟩
  obtain ⟨x, hx, e⟩ := Finset.mem_map.mp hm
  exact h' (Proc.devRef_injective _ e ▸ hx)

theorem six_sub : SIX ⊆ uc := by
  intro b hb
  simp only [SIX, Finset.mem_insert, Finset.mem_singleton] at hb
  rcases hb with rfl | rfl | rfl | rfl | rfl | rfl <;> exact mem_uc _ rfl
theorem two_sub : TWO ⊆ ucB := by
  intro b hb
  simp only [TWO, Finset.mem_insert, Finset.mem_singleton] at hb
  rcases hb with rfl | rfl <;> exact mem_ucB _ rfl (by decide)
theorem uc_six : ucB \ TWO = uc \ SIX := by
  show (uc \ _) \ TWO = uc \ SIX
  rw [sdiff_sdiff_left]
  congr 1

theorem held_six (V : Valuation τ sig (Elt F)) : (StableHlo.held (T d) SIX V : sProp (MM F))
    = iprop((lc d main_arg0 ↦{fullShare} V (dr main_arg0)) ∗ (lc d main_arg1 ↦{fullShare} V (dr main_arg1)) ∗ (lc d main_v7 ↦{fullShare} V (dr main_v7))
      ∗ (lc d main_v9 ↦{fullShare} V (dr main_v9)) ∗ (lc d main_v10_0 ↦{fullShare} V (dr main_v10_0)) ∗ (lc d main_v10_1 ↦{fullShare} V (dr main_v10_1))) := by
  unfold StableHlo.held SIX
  rw [SparseCore.bigSep_insert' (by decide), SparseCore.bigSep_insert' (by decide), SparseCore.bigSep_insert' (by decide), SparseCore.bigSep_insert' (by decide),
    SparseCore.bigSep_insert' (by decide), bigSep_singleton]
theorem held_two (V : Valuation τ sig (Elt F)) : (StableHlo.held (T d) TWO V : sProp (MM F))
    = iprop((lc d main_v10_0 ↦{fullShare} V (dr main_v10_0)) ∗ (lc d main_v10_1 ↦{fullShare} V (dr main_v10_1))) := by
  unfold StableHlo.held TWO
  rw [SparseCore.bigSep_insert' (by decide), bigSep_singleton]

theorem rd_split {ℓ : Loc nD τ sig} (f : Buf (Elt F) ℓ) : (ℓ ↦{fullShare} f : sProp (MM F)) ⊢ iprop(rd f ∗ rd f) := by
  iintro H
  ihave H2 := (pointsTo_share (PosShare.mem_left_op_right _)).1 $$ H
  icases H2 with ⟨Ha, Hb⟩
  isplitl [Ha]
  · iexists _; iexact Ha
  · iexists _; iexact Hb

theorem rejoin (G7 G9 gu gg) : iprop((lc d main_v10_0 ↦{fullShare} gu) ∗ (lc d main_v10_1 ↦{fullShare} gg) ∗ StableHlo.held (T d) (uc \ SIX) (V4 m d G7 G9))
    ⊢ (StableHlo.held (T d) ucB (V5 m d G7 G9 gu gg) : sProp (MM F)) := by
  have e : (StableHlo.held (T d) (uc \ SIX) (V4 m d G7 G9) : sProp (MM F)) = StableHlo.held (T d) (uc \ SIX) (V5 m d G7 G9 gu gg) := by
    refine StableHlo.held_congr (T d) fun b hb => ?_
    have hn := (Finset.mem_sdiff.mp hb).2
    unfold V5
    rw [Function.update_of_ne, Function.update_of_ne]
    · rintro rfl; exact hn (by simp [SIX])
    · rintro rfl; exact hn (by simp [SIX])
  rw [StableHlo.held_sub_split (T d) two_sub (V5 m d G7 G9 gu gg), held_two, uc_six, e]
  have e0 : V5 m d G7 G9 gu gg (dr main_v10_0) = gu := by
    unfold V5
    rw [update_keep _ _ (by decide), Function.update_self]
  have e1 : V5 m d G7 G9 gu gg (dr main_v10_1) = gg := by
    unfold V5
    rw [Function.update_self]
  rw [e0, e1]
  iintro ⟨Ha, Hb, H⟩
  isplitl [Ha Hb]
  · isplitl [Ha]
    · iexact Ha
    · iexact Hb
  · iexact H

/-- What the launch's first thread holds of the handshakes, beyond what it owes. -/
def tcRest (n : ℕ) : sProp (MM F) :=
  iprop(Rounds.atPos EH ((K (F := F)).doneCell d) n ∅ 0 ∗ Rounds.reached EH ((K (F := F)).doneCell d) n
    ∗ (bigSep Finset.univ fun c : Fin τ.nSC => Rounds.reached EH ((K (F := F)).startCell d c) ((K (F := F)).sRank c n))
    ∗ bigSep (SparseCore.Cfg.callsFrom n) fun q => bigSep Finset.univ fun c : Fin ((K (F := F)).nCore q) =>
        iprop(Rounds.dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_eq0 : ((K (F := F)).tcSt EH d 0 : sProp (MM F)) = iprop(owedAt (O0 (F := F)) b0 d ∗ tcRest d 0) := rfl
theorem tcSt_eq1 : ((K (F := F)).tcSt EH d 1 : sProp (MM F)) = iprop(owedAt (O1 (F := F)) b1 d ∗ tcRest d 1) := rfl

abbrev PP : (K (F := F)).Pay (N := 1) (nD := nD) (Val := Elt F) (Name := ℕ) (U := UU) := P (A0 m) (A1 m) (R7 m) (R9 m)

/-- What main leaves its claim. -/
def FIN : sProp (MM F) :=
  iprop(∃ V, ⌜FinP m d V⌝ ∗ StableHlo.held (T d) ucB V ∗ rd (ℓ := lc d main_arg0) (A0 m d) ∗ rd (ℓ := lc d main_arg1) (A1 m d))

def GG : sProp (MM F) :=
  iprop((bigSep Finset.univ fun p : Fin 3 => Pipeline.cellsGhost (Pipeline.pin (pcfgs (F := F)) adm) EP p d)
    ∗ bigSep Finset.univ fun p : Fin 3 => Pipeline.toksInit (Pipeline.pin (pcfgs (F := F)) adm) EP p d)

theorem GG_split : (GG d : sProp (MM F)) ⊢ iprop(ghostP d 0 ∗ ghostP d 1 ∗ ghostP d 2) := by
  unfold GG
  rw [show (Finset.univ : Finset (Fin 3)) = {0, 1, 2} by decide, SparseCore.bigSep_insert' (by decide), SparseCore.bigSep_insert' (by decide), bigSep_singleton,
    SparseCore.bigSep_insert' (by decide), SparseCore.bigSep_insert' (by decide), bigSep_singleton]
  iintro ⟨⟨A, B, C⟩, A', B', C'⟩
  isplitl [A A']
  · isplitl [A]
    · iexact A
    · iexact A'
  isplitl [B B']
  · isplitl [B]
    · iexact B
    · iexact B'
  isplitl [C]
  · iexact C
  · iexact C'

theorem tcRes_eq : ((K (F := F)).tcRes m ρ d : sProp (MM F))
    = iprop(boundary (T d) ∗ StableHlo.held (T d) uc (V0 m d) ∗ (K (F := F)).tcSems0 d ∗ prngReg d (ρ d)) := by
  rw [← Pipeline.unscopedBufs_held d (V0 m d)]
  rfl

variable [∀ e, Nonempty (Elt F e)]

theorem hmain (κ : GSem nD τ sig → ℕ) :
    iprop((K (F := F)).ctx EH (PP m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq, tcSt_eq0, tcRes_eq, tcSt_eq1]
  iintro ⟨#Hctx, ⟨HO, Hrest⟩, ⟨Hb, Hheld, Hts, -⟩, HG⟩
  ihave HL := (SparseCore.Cfg.ctx_levAts κ) $$ Hctx
  ihave HG := (GG_split d) $$ HG
  icases HG with ⟨Hg0, Hg1, Hg2⟩
  iapply (first_step m d)
  isplitl [Hb]; · iexact Hb
  isplitl [Hheld]; · iexact Hheld
  isplitl [HO]; · iexact HO
  isplitl [HL]; · iexact HL
  isplitl [Hg0]; · iexact Hg0
  iintro %G7 %hG7 ⟨Hb, Hheld, HO⟩
  ihave HL := (SparseCore.Cfg.ctx_levAts κ) $$ Hctx
  iapply (second_step m d G7)
  isplitl [Hb]; · iexact Hb
  isplitl [Hheld]; · iexact Hheld
  isplitl [HO]; · iexact HO
  isplitl [HL]; · iexact HL
  isplitl [Hg1]; · iexact Hg1
  iintro %G9 %hG9 ⟨Hb, Hheld, HO⟩
  -- the SparseCore's call
  ihave Hheld := (Entails.of_eq (StableHlo.held_sub_split (T d) six_sub (V4 m d G7 G9))) $$ Hheld
  icases Hheld with ⟨Hsix, Hheld⟩
  ihave Hsix := (Entails.of_eq (held_six d (V4 m d G7 G9))) $$ Hsix
  rw [V4_keep m d (r := main_arg0) (by decide), V4_keep m d (r := main_arg1) (by decide), V4_v7, V4_v9]
  icases Hsix with ⟨H0, H1, H7, H9, Ha, Hbb⟩
  ihave H0 := (rd_split (ℓ := lc d main_arg0) (m (lc d main_arg0))) $$ H0
  icases H0 with ⟨H0, H0'⟩
  ihave H1 := (rd_split (ℓ := lc d main_arg1) (m (lc d main_arg1))) $$ H1
  icases H1 with ⟨H1, H1'⟩
  ihave H7 := (rd_split (ℓ := lc d main_v7) G7) $$ H7
  icases H7 with ⟨H7, -⟩
  ihave H9 := (rd_split (ℓ := lc d main_v9) G9) $$ H9
  icases H9 with ⟨H9, -⟩
  iapply (wpM_bind d _ _ _)
  iapply ((K (F := F)).wp_run (D (F := F)) 𝒱 (EH := EH) (P := PP m) κ d 0)
  isplitr; · iexact Hctx
  isplitl [HO Hrest]
  · iapply (Entails.of_eq (tcSt_eq0 d).symm)
    isplitl [HO]
    · iexact HO
    · iexact Hrest
  isplitl [H0 H1 H7 H9 Ha Hbb]
  · iapply (deal_tiles (A0 m) (A1 m) (R7 m) (R9 m) d G7 G9 (fun p => ⟨G7, hG7, rfl⟩) (fun p => ⟨G7, G9, hG9, rfl⟩) _ _)
    isplitl [H0]; · iexact H0
    isplitl [H1]; · iexact H1
    isplitl [H7]; · iexact H7
    isplitl [H9]; · iexact H9
    isplitl [Ha]; · iexact Ha
    iexact Hbb
  iintro ⟨Hst, Hdn⟩
  ihave Hst := (show ((K (F := F)).tcSt EH d ((0 : Fin 1).val + 1) : sProp (MM F)) ⊢ iprop(owedAt (O1 (F := F)) b1 d ∗ tcRest d 1) from Entails.of_eq (tcSt_eq1 d)) $$ Hst
  icases Hst with ⟨HO, Hrest⟩
  ihave Hdn := (gather_tiles (A0 m) (A1 m) (R7 m) (R9 m) d (m (lc d main_v10_0)) (m (lc d main_v10_1))) $$ Hdn
  icases Hdn with ⟨%gu, %gg, %hg, Ha, Hbb⟩
  ihave Hheld := (rejoin m d G7 G9 gu gg) $$ [Ha Hbb Hheld]
  · isplitl [Ha]; · iexact Ha
    isplitl [Hbb]; · iexact Hbb
    iexact Hheld
  ihave HL := (SparseCore.Cfg.ctx_levAts κ) $$ Hctx
  iapply (last_step m d G7 G9 gu gg)
  isplitl [Hb]; · iexact Hb
  isplitl [Hheld]; · iexact Hheld
  isplitl [HO]; · iexact HO
  isplitl [HL]; · iexact HL
  isplitl [Hg2]; · iexact Hg2
  iintro %G25 %hG25 ⟨Hb, Hheld, HO⟩
  isplitl [HO Hrest]
  · isplitl [HO]
    · iexact HO
    · iexact Hrest
  isplitr [Hb Hts]
  · unfold FIN
    iexists (VD m d G7 G9 gu gg G25)
    isplitr
    · ipureintro; exact ⟨G7, G9, gu, gg, G25, hG7, hG9, hg.1, hg.2, hG25, rfl⟩
    isplitl [Hheld]; · iexact Hheld
    isplitl [H0']; · iexact H0'
    iexact H1'
  · unfold SparseCore.Cfg.tcEnd
    isplitl [Hb]
    · iexact Hb
    · iexact Hts

end Main

end Cert.KernelIdeal.Pf

end

end
-- ==== Proof.IRun.lean ====
/-
  The kernel's run: what the memory holds when it ends.
-/
module

public import proofs.«01_k».proof.Proof.IMid

@[expose] public section

noncomputable section

namespace Cert.KernelIdeal.Pf

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

section Run

variable (m : (ℓ : Loc nD τ sig) → Buf (Elt F) ℓ) (ρ : Dev nD → PrngReg) (d : Dev nD)

/-! ## What the final memory is, from what main leaves -/

/-- The buffers main is left with, read in memory. -/
def Fq (mem : (ℓ : Loc nD τ sig) → Buf (Elt F) ℓ) : Prop :=
  ∃ V, FinP m d V ∧ (∀ b ∈ ucB, mem (d, b) = V b) ∧ mem (lc d main_arg0) = m (lc d main_arg0) ∧ mem (lc d main_arg1) = m (lc d main_arg1)
abbrev fq (s' : Phys nD τ sig (Elt F)) : Prop := Fq m d s'.mem.mem

theorem rd_agree {ℓ : Loc nD τ sig} (f : Buf (Elt F) ℓ) (s' : Phys nD τ sig (Elt F)) : iprop(rd f ∗ SI s') ⊢ (⌜s'.mem.mem ℓ = f⌝ : sProp (MM F)) := by
  iintro ⟨⟨%q, Hx⟩, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

theorem held_agree (S : Finset (DevRef τ sig)) (V : Valuation τ sig (Elt F)) (s' : Phys nD τ sig (Elt F)) :
    iprop(StableHlo.held (T d) S V ∗ SI s') ⊢ (⌜∀ b ∈ S, s'.mem.mem (d, b) = V b⌝ : sProp (MM F)) := by
  have h : ∀ b : S, iprop(StableHlo.held (T d) S V ∗ SI s') ⊢ (⌜s'.mem.mem (d, b.1) = V b.1⌝ : sProp (MM F)) := by
    intro ⟨b, hb⟩
    rw [StableHlo.held_sub_split (T d) (Finset.singleton_subset_iff.mpr hb) V]
    have e : (StableHlo.held (T d) {b} V : sProp (MM F)) = iprop((d, b) ↦{fullShare} V b) := by
      unfold StableHlo.held; rw [bigSep_singleton]
    rw [e]
    iintro ⟨⟨Hb, -⟩, HSI⟩
    iapply (rd_agree (ℓ := (d, b)) (V b) s')
    isplitl [Hb]
    · iexists _; iexact Hb
    · iexact HSI
  exact ((forall_intro h).trans pure_forall.2).trans (Laws.pure_mono fun all b hb => all ⟨b, hb⟩)

theorem hfin (s' : Phys nD τ sig (Elt F)) : iprop(FIN m d ∗ SI s') ⊢ (⌜fq m d s'⌝ : sProp (MM F)) := by
  unfold FIN
  have key : ∀ V, FinP m d V → iprop((StableHlo.held (T d) ucB V ∗ rd (ℓ := lc d main_arg0) (A0 m d) ∗ rd (ℓ := lc d main_arg1) (A1 m d)) ∗ SI s') ⊢ (⌜fq m d s'⌝ : sProp (MM F)) := by
    intro V hV
    have h1 : iprop((StableHlo.held (T d) ucB V ∗ rd (ℓ := lc d main_arg0) (A0 m d) ∗ rd (ℓ := lc d main_arg1) (A1 m d)) ∗ SI s') ⊢ (⌜∀ b ∈ ucB, s'.mem.mem (d, b) = V b⌝ : sProp (MM F)) := by
      iintro ⟨⟨H, -, -⟩, HSI⟩
      iapply (held_agree d ucB V s')
      isplitl [H] <;> iassumption
    have h2 : iprop((StableHlo.held (T d) ucB V ∗ rd (ℓ := lc d main_arg0) (A0 m d) ∗ rd (ℓ := lc d main_arg1) (A1 m d)) ∗ SI s') ⊢ (⌜s'.mem.mem (lc d main_arg0) = m (lc d main_arg0)⌝ : sProp (MM F)) := by
      iintro ⟨⟨-, H, -⟩, HSI⟩
      iapply (rd_agree (ℓ := lc d main_arg0) (A0 m d) s')
      isplitl [H] <;> iassumption
    have h3 : iprop((StableHlo.held (T d) ucB V ∗ rd (ℓ := lc d main_arg0) (A0 m d) ∗ rd (ℓ := lc d main_arg1) (A1 m d)) ∗ SI s') ⊢ (⌜s'.mem.mem (lc d main_arg1) = m (lc d main_arg1)⌝ : sProp (MM F)) := by
      iintro ⟨⟨-, -, H⟩, HSI⟩
      iapply (rd_agree (ℓ := lc d main_arg1) (A1 m d) s')
      isplitl [H] <;> iassumption
    exact (BIClass.and_intro h1 ((BIClass.and_intro h2 h3).trans pure_and.1)).trans (pure_and.1.trans (Laws.pure_mono fun h => ⟨V, hV, h.1, h.2.1, h.2.2⟩))
  iintro ⟨⟨%V, %hV, H⟩, HSI⟩
  iapply (key V hV)
  isplitl [H]
  · iexact H
  · iexact HSI

/-! ## The launch element -/

theorem hinj : Function.Injective (Pipeline.cellOf (nD := nD) (τ := τ) (Pipeline.pin (pcfgs (F := F)) adm)) := launch0.toP.cellOf_inj adm

def u₀ : UU := (Rounds.initOf (K (F := F)).hsCells (K (F := F)).hsToks,
  (Rounds.initOf (Pipeline.cells (Pipeline.pin (pcfgs (F := F)) adm) hinj) (Pipeline.launchToks (Pipeline.pin (pcfgs (F := F)) adm) hinj), 1))

theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (Rounds.initOf (K (F := F)).hsCells (K (F := F)).hsToks)) ∗ (bigSep Finset.univ fun c : Dev nD => GG c)
        ∗ bigSep Finset.univ fun thr : Thread nD τ => bigSep Finset.univ fun q : Fin 1 => (PP m).x q thr) := by
  unfold u₀
  iintro Hu
  ihave H := (ownU_pair _ _) $$ Hu
  icases H with ⟨HH, HP⟩
  ihave HP := (show BI.own (embR (Rounds.initOf (Pipeline.cells (Pipeline.pin (pcfgs (F := F)) adm) hinj) (Pipeline.launchToks (Pipeline.pin (pcfgs (F := F)) adm) hinj), (1 : Counters)))
      ⊢ (BI.own (EP (Rounds.initOf (Pipeline.cells (Pipeline.pin (pcfgs (F := F)) adm) hinj) (Pipeline.launchToks (Pipeline.pin (pcfgs (F := F)) adm) hinj))) : sProp (MM F)) from .rfl) $$ HP
  imod (Pipeline.fund_ghost (Pipeline.pin (pcfgs (F := F)) adm) EP hinj) $$ HP with ⟨HA, HB⟩
  imodintro
  isplitl [HH]; · iexact HH
  isplitl [HA HB]
  · unfold GG
    rw [bigSep_sep']
    isplitl [HA]
    · iexact HA
    · iexact HB
  unfold PP P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The run -/

def QC : PUnit × MemSt nD τ sig (Elt F) → Prop := fun r => (∀ c : Dev nD, Fq m c r.2.mem) ∧ r.2.sem = fun _ => 0

theorem run_main [∀ e, Nonempty (Elt F e)] (hA0 : ∀ d p, (A0 m d p).toNat < 1000000) (hA1 : ∀ d p, (A1 m d p).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (A0 m) (A1 m) (R7 m) (R9 m) hA0 hA1)
    (fun q _ => match q with | 0 => SparseCore.Cfg.VecSplit.of_plain (vecSplit (A0 m) (A1 m) (R7 m) (R9 m)))
    m ρ main GG (FIN m) (u₀ (F := F)) (sep_elim_left.trans (hu₀ m)) (fun κ d => hmain m ρ d κ) (fq m) (hfin m) (QC m) (fun _ h hz => ⟨h, hz⟩)

/-! ## The arguments end unchanged -/

theorem VD_keep (G7 G9 gu gg G25) {r : Ref sig .tc} (hr : r ∉ [main_v0, main_v1, main_c, main_v2, main_v3, main_v4, main_v5, main_v6, main_v7, main_v8, main_v9, main_v10_0, main_v10_1, main_v11, main_v12, main_v13, main_v14, main_v15, main_v16, main_v17, main_v18, main_v19, main_v20, main_v21, main_v22, main_v23, main_v24, main_v25, main_v26]) :
    VD m d G7 G9 gu gg G25 (dr r) = m ((SparseCore.T d).loc r) := by
  unfold VD
  rw [keepD _ (fun h => hr (by revert h; simp +contextual)), update_keep _ _ (fun h => hr (by simp [h]))]
  unfold VC
  rw [keepC _ (fun h => hr (by revert h; simp +contextual [or_imp]))]
  unfold V5
  rw [update_keep _ _ (fun h => hr (by simp [h])), update_keep _ _ (fun h => hr (by simp [h]))]
  exact V4_keep m d (fun h => hr (by revert h; simp +contextual [or_imp])) G7 G9

theorem Fq_arg {mem : (ℓ : Loc nD τ sig) → Buf (Elt F) ℓ} (h : Fq m d mem) (r : Ref sig .tc) (hs : r.isScoped = false) (hR : r ∉ RR)
    (hr : r ∉ [main_v0, main_v1, main_c, main_v2, main_v3, main_v4, main_v5, main_v6, main_v7, main_v8, main_v9, main_v10_0, main_v10_1, main_v11, main_v12, main_v13, main_v14, main_v15, main_v16, main_v17, main_v18, main_v19, main_v20, main_v21, main_v22, main_v23, main_v24, main_v25, main_v26]) :
    mem ((SparseCore.T d).loc r) = m ((SparseCore.T d).loc r) := by
  obtain ⟨V, ⟨G7, G9, gu, gg, G25, -, -, -, -, -, rfl⟩, hb, -, -⟩ := h
  exact (hb (dr r) (mem_ucB r hs hR)).trans (VD_keep m d G7 G9 gu gg G25 hr)

theorem args {mem : (ℓ : Loc nD τ sig) → Buf (Elt F) ℓ} (h : Fq m d mem) :
    mem (lc d main_arg0) = m (lc d main_arg0) ∧ mem (lc d main_arg1) = m (lc d main_arg1) ∧ mem (lc d main_arg2) = m (lc d main_arg2) ∧ mem (lc d main_arg3) = m (lc d main_arg3) ∧ mem (lc d main_arg4) = m (lc d main_arg4) ∧ mem (lc d main_arg5) = m (lc d main_arg5) ∧ mem (lc d main_arg6) = m (lc d main_arg6) ∧ mem (lc d main_arg7) = m (lc d main_arg7) ∧ mem (lc d main_arg8) = m (lc d main_arg8) ∧ mem (lc d main_arg9) = m (lc d main_arg9) ∧ mem (lc d main_arg10) = m (lc d main_arg10) ∧ mem (lc d main_arg11) = m (lc d main_arg11) ∧ mem (lc d main_arg12) = m (lc d main_arg12) ∧ mem (lc d main_arg13) = m (lc d main_arg13) ∧ mem (lc d main_arg14) = m (lc d main_arg14) ∧ mem (lc d main_arg15) = m (lc d main_arg15) :=
  have k := fun r hs hR hr => Fq_arg m d h r hs hR hr
  ⟨h.choose_spec.2.2.1, h.choose_spec.2.2.2, k _ rfl (by decide) (by decide), k _ rfl (by decide) (by decide), k _ rfl (by decide) (by decide), k _ rfl (by decide) (by decide),
    k _ rfl (by decide) (by decide), k _ rfl (by decide) (by decide), k _ rfl (by decide) (by decide), k _ rfl (by decide) (by decide), k _ rfl (by decide) (by decide), k _ rfl (by decide) (by decide),
    k _ rfl (by decide) (by decide), k _ rfl (by decide) (by decide), k _ rfl (by decide) (by decide), k _ rfl (by decide) (by decide)⟩

end Run

end Cert.KernelIdeal.Pf

end

end
-- ==== Proof.Ranges.lean ====
/-
  What the precondition says of the two index arrays: every index is a row of its table.
-/
module

public import proofs.«01_k».proof.Pre_ids_in_range
public import proofs.«01_k».proof.Proof.Gen.Pre_ids_in_range
public import Idealize.ShloMosaic.Lib.ReduceAll
public import Idealize.ShloMosaic.Lib.Affine

@[expose] public section

noncomputable section

namespace Cert.Ranges

open Idealize.ShloMosaic Cert.Pre_ids_in_range

variable {F : FTy → Type} [FloatOps F] [Cert.Pre_ids_in_range.Facts]

theorem and_one (x y : BitVec 1) (h : IntOp.andi x y = 1#1) : x = 1#1 ∧ y = 1#1 := by
  revert x y; decide

theorem word_lt (x : BitVec 32) (n : ℕ) (hn : n < 2 ^ 31) (h0 : IntOp.cmpi .sge x 0#32 = 1#1) (h1 : IntOp.cmpi .slt x (BitVec.ofNat 32 n) = 1#1) : x.toNat < n := by
  have h0 := IntOp.cmpi_sge.1 h0
  have h1 := IntOp.cmpi_slt.1 h1
  have e : (BitVec.ofNat 32 n).toInt = n := by
    rw [BitVec.toInt_eq_toNat_of_lt (by rw [BitVec.toNat_ofNat]; omega), BitVec.toNat_ofNat]; omega
  rw [e] at h1
  have h0 : 0 ≤ x.toInt := h0
  have := BitVec.toInt_eq_toNat_cond (x := x)
  split at this <;> omega

theorem ranges {a0 a1 : IVec S16384 32} {a2 a3 a4 a5 a6 a7 a8 a9 a10 a11 a12 a13 a14 a15}
    (h : Cert.Pre_ids_in_range.fn (F := F) a0 a1 a2 a3 a4 a5 a6 a7 a8 a9 a10 a11 a12 a13 a14 a15 = fun _ => 1#1) :
    (∀ p, (a0 p).toNat < 1000000) ∧ ∀ p, (a1 p).toNat < 100000 := by
  haveI : Subsingleton S_.Idx := ⟨fun a b => funext fun i => i.elim0⟩
  have h := congrFun h (fun i : Fin 0 => i.elim0)
  dsimp only [Cert.Pre_ids_in_range.fn] at h
  obtain ⟨h, hd⟩ := and_one _ _ h
  obtain ⟨h, hc⟩ := and_one _ _ h
  obtain ⟨ha, hb⟩ := and_one _ _ h
  exact ⟨fun p => word_lt _ 1000000 (by decide) (Host.reduce_andi_all _ _ _ _ _ ha p) (Host.reduce_andi_all _ _ _ _ _ hb p),
    fun p => word_lt _ 100000 (by decide) (Host.reduce_andi_all _ _ _ _ _ hc p) (Host.reduce_andi_all _ _ _ _ _ hd p)⟩

end Cert.Ranges

end

end
-- ==== Proof.Frames.lean ====
/- The frames: the kernel at the bit-exact and at the ideal instance, and the reference at the ideal one, each
   terminate without a fault, leave their arguments what they were and every semaphore counter at zero. -/
module

public import proofs.«01_k».proof.Defs
public import proofs.«01_k».proof.Proof.KRun
public import proofs.«01_k».proof.Proof.IRun
public import proofs.«01_k».proof.Proof.Ranges
public import proofs.«01_k».proof.Proof.Gen.ReferenceIdeal.Run
public import Idealize.ShloMosaic.Init

@[expose] public section

noncomputable section

namespace Cert.Frames

open Idealize.ShloMosaic Idealize.SL.Sem

theorem ne_bits (e : EltTy) : Nonempty (Elt Bits e) := by
  cases e <;> exact ⟨0⟩

theorem ne_ideal (e : EltTy) : Nonempty (Elt Ideal e) := by
  cases e <;> exact ⟨0⟩

/-- The kernel at the bit-exact instance. -/
theorem frame_k : Cert.quiescent_Kernel := fun m g hpre =>
  haveI := ne_bits
  (θ_run _ _ _).mono (fun _ h => ⟨fun c => Cert.Kernel.Pf.args m c (h.1 c), h.2⟩)
    (Cert.Kernel.Pf.run_main m g (fun d p => (Cert.Ranges.ranges (hpre d)).1 p) (fun d p => (Cert.Ranges.ranges (hpre d)).2 p))

/-- The kernel at the ideal instance. -/
theorem frame_i : Cert.quiescent_KernelIdeal := fun m g hpre =>
  haveI := ne_ideal
  (θ_run _ _ _).mono (fun _ h => ⟨fun c => Cert.KernelIdeal.Pf.args m c (h.1 c), h.2⟩)
    (Cert.KernelIdeal.Pf.run_main m g (fun d p => (Cert.Ranges.ranges (hpre d)).1 p) (fun d p => (Cert.Ranges.ranges (hpre d)).2 p))

/-- The reference: it declares no semaphore. -/
theorem frame_r : Cert.quiescent_ReferenceIdeal := fun m g _ =>
  (θ_run _ _ _).mono (fun r h => ⟨fun c => (h c).2, sem_eq_zero_of_no_sems (by decide) r.2⟩)
    (Cert.ReferenceIdeal.Value.run m g)

/-- The reference, of arguments in range. -/
theorem frame_r_pre : Cert.quiescent_ReferenceIdeal_pre_ids_in_range := fun m g _ =>
  (θ_run _ _ _).mono (fun r h => ⟨fun c => (h c).2, sem_eq_zero_of_no_sems (by decide) r.2⟩)
    (Cert.ReferenceIdeal.Value.run m g)

end Cert.Frames

end

end
-- ==== Proof.ITab.lean ====
/- The transposed tables: at the ideal instance the product with the identity is exact, so each table that the
   TensorCore's calls leave for the lookup is its argument, row by row. -/
module

public import proofs.«01_k».proof.Proof.IRun
public import Idealize.ShloMosaic.Lib.Pipeline.ArrRel
public import Idealize.ShloMosaic.Lib.Pipeline.ValueKit.Geometry
public import Idealize.ShloMosaic.Lib.StableHlo.ReadAt
public import Idealize.ShloMosaic.Lib.Pointwise

@[expose] public section

noncomputable section

namespace Cert.KernelIdeal.Iv

open Cert.KernelIdeal Cert.KernelIdeal.Gen Cert.KernelIdeal.Pf
open Idealize.ShloMosaic Idealize.ShloMosaic.TcCoe Idealize.ShloMosaic.StableHlo

set_option maxRecDepth 16384

instance neIdeal (e : EltTy) : Nonempty (Elt Ideal e) := by
  cases e <;> exact ⟨0⟩

/-! ## The identity matrix -/

theorem sum_eye (f : Fin 64 → EReal) (c : Fin 64) : (∑ k : Fin 64, f k * (if k = c then (1 : EReal) else 0)) = f c := by
  rw [Finset.sum_eq_single c]
  · rw [if_pos rfl, mul_one]
  · intro k _ h
    rw [if_neg h, mul_zero]
  · intro h
    exact absurd (Finset.mem_univ _) h

theorem pay0_at (X : FVec Ideal S64x32768 .f32) (E : FVec Ideal S64x64 .f32) (hE : ∀ k c : Fin 64, E (ix2 k c) = if k = c then (1 : EReal) else 0) (r : Fin 32768) (c : Fin 64) :
    k0_pay1 (F := Ideal) X E (ix2 r c) = X (ix2 c r) := by
  have e : k0_pay1 (F := Ideal) X E (ix2 r c) = ∑ k : Fin 64, X (ix2 k r) * E (ix2 k c) := by
    pointwise [k0_pay1]
  rw [e]
  simp only [hE]
  exact sum_eye (fun k => X (ix2 k r)) c

theorem pay1_at' (X : FVec Ideal S64x32768 .f32) (E : FVec Ideal S64x64 .f32) (hE : ∀ k c : Fin 64, E (ix2 k c) = if k = c then (1 : EReal) else 0) (r : Fin 32768) (c : Fin 64) :
    k1_pay1 (F := Ideal) X E (ix2 r c) = X (ix2 c r) := by
  have e : k1_pay1 (F := Ideal) X E (ix2 r c) = ∑ k : Fin 64, X (ix2 k r) * E (ix2 k c) := by
    pointwise [k1_pay1]
  rw [e]
  simp only [hE]
  exact sum_eye (fun k => X (ix2 k r)) c

theorem eye_word : ∀ k c : Fin 64, IntOp.cmpi .eq (IntOp.addi (BitVec.ofNat 32 k.val) 0#32) (BitVec.ofNat 32 c.val) = BitVec.ofBool (decide (k = c)) := by
  decide +kernel

theorem eye_at (V : Valuation τ sig (Elt Ideal)) (k c : Fin 64) :
    (after opsA V (Proc.devRef .tc main_v5) : S64x64.Idx → EReal) (ix2 k c) = if k = c then (1 : EReal) else 0 := by
  unfold opsA
  after_reads_at
  rw [eye_word]
  show ((((BitVec.ofBool (decide (k = c))).toNat : ℕ) : ℝ) : EReal) = _
  by_cases h : k = c
  · simp [h]
  · simp [h]

theorem v6_at (V : Valuation τ sig (Elt Ideal)) (r : Fin 1000000) (c : Fin 64) :
    (after opsA V (Proc.devRef .tc main_v6) : S64x1000000.Idx → EReal) (ix2 c r) = (V (Proc.devRef .tc main_arg2) : S1000000x64.Idx → EReal) (ix2 r c) := by
  unfold opsA
  after_reads_at

theorem v8_at (V : Valuation τ sig (Elt Ideal)) (r : Fin 100000) (c : Fin 64) :
    (after opsB V (Proc.devRef .tc main_v8) : S64x100000.Idx → EReal) (ix2 c r) = (V (Proc.devRef .tc main_arg3) : S100000x64.Idx → EReal) (ix2 r c) := by
  unfold opsB
  after_reads_at

/-! ## What a call's array holds, from what its bodies leave -/

theorem arr_forall {p : Fin 3} {d : Dev nD} {W : Dev nD → Valuation τ sig (Elt Ideal)} {Rl : RelT Ideal} {O : Dev nD → CellTallies nD τ sig (SparseCore.Cfg.HIx 1)} {b : ℕ}
    (w : Fin (pn (F := Ideal) p).W) {G : Buf (Elt Ideal) (((pn (F := Ideal) p).win w).arr.view.loc (d.tc : Thread nD τ))}
    (hG : (rdats W Rl O b p d).ArrAt w (pn (F := Ideal) p).N G) (hw : ((pn (F := Ideal) p).win w).isOut = true)
    (P : (((pn (F := Ideal) p).win w).arr.view.loc (d.tc : Thread nD τ)).2.ty.Idx → Elt Ideal (((pn (F := Ideal) p).win w).arr.view.loc (d.tc : Thread nD τ)).2.ty.elt → Prop)
    (hcov : ((pn (F := Ideal) p).win w).Covers) (harr : ((pn (F := Ideal) p).win w).arr.IsWhole)
    (hP : ∀ (t : Fin (pn (F := Ideal) p).N) (X), Rl p w t X → ∀ y : (((pn (F := Ideal) p).win w).xblock ((pn (F := Ideal) p).grid.coords t)).Idx,
      P ((((pn (F := Ideal) p).win w).blk t).view.emb y)
        (_root_.cast (congrArg (Elt Ideal) (((pn (F := Ideal) p).win w).blk t).view.elt_eq.symm) (X (((pn (F := Ideal) p).win w).xinj ((pn (F := Ideal) p).grid.coords t) y)))) (i) :
    P i (G i) := by
  obtain ⟨X, hX, hA⟩ := hG.exists_exact
  have hA := hA (Function.update (fun _ _ _ => Classical.arbitrary _) w X) (fun u _ _ => by rw [Function.update_self])
  rw [hA]
  refine Pipeline.Dat.arrAt_forall_of_covers _ w P hcov (fun t hf y => ?_) i harr
  obtain ⟨Y, _, h⟩ := hX t t.isLt hf
  rw [after_out hw] at h
  have := hP t (X t) h y
  rw [Pipeline.RDat.withAfter_after, Function.update_self]
  exact this

theorem cov0 : win0_2.Covers := by decide +kernel
theorem cov1 : win1_2.Covers := by decide +kernel
theorem idx00 : ∀ t : Fin cfg0.N, win0_0.index t = ![0, t.val] := by decide +kernel
theorem idx02 : ∀ t : Fin cfg0.N, win0_2.index t = ![t.val, 0] := by decide +kernel
theorem idx01 : ∀ t : Fin cfg0.N, win0_1.index t = ![0, 0] := by decide +kernel
theorem idx10 : ∀ t : Fin cfg1.N, win1_0.index t = ![0, t.val] := by decide +kernel
theorem idx12 : ∀ t : Fin cfg1.N, win1_2.index t = ![t.val, 0] := by decide +kernel
theorem idx11 : ∀ t : Fin cfg1.N, win1_1.index t = ![0, 0] := by decide +kernel
theorem size0 : ∀ t : Fin cfg0.N, win0_0.xsize (grid0.coords t) 0 = 64 ∧ win0_0.xsize (grid0.coords t) 1 = win0_2.xsize (grid0.coords t) 0 := by decide +kernel
theorem size1 : ∀ t : Fin cfg1.N, win1_0.xsize (grid1.coords t) 0 = 64 ∧ win1_0.xsize (grid1.coords t) 1 = win1_2.xsize (grid1.coords t) 0 := by decide +kernel

theorem eye_blk0 (V : Valuation τ sig (Elt Ideal)) (t : Fin cfg0.N) (k c : Fin 64) :
    ((win0_1.blk t).view.read (Elt Ideal) (V (Proc.devRef .tc main_v5)) : S64x64.Idx → EReal) (ix2 k c) = (V (Proc.devRef .tc main_v5) : S64x64.Idx → EReal) (ix2 k c) := by
  blk_ext [idx01 t]

theorem arr0 {d : Dev nD} (V : Valuation τ sig (Elt Ideal)) (G : S1000000x64.Idx → EReal)
    (hE : ∀ k c : Fin 64, (V (Proc.devRef .tc main_v5) : S64x64.Idx → EReal) (ix2 k c) = if k = c then (1 : EReal) else 0)
    (hG : Arr0 (F := Ideal) d V G) (T : S1000000x64.Idx → EReal)
    (hT : ∀ (r : Fin 1000000) (c : Fin 64), (V (Proc.devRef .tc main_v6) : S64x1000000.Idx → EReal) (ix2 c r) = T (ix2 r c)) : G = T := by
  funext i
  refine arr_forall (p := 0) 2 hG rfl (fun i v => v = T i) cov0 (Memref.isWhole_whole _) (fun t X hX y => ?_) i
  obtain ⟨g, rfl⟩ := hX
  change Fin cfg0.N at t
  change (win0_2.xblock (grid0.coords t)).Idx at y
  have y0 : (y 0).val < win0_2.xsize (grid0.coords t) 0 := (y 0).isLt
  have b0 : (y 0).val < 32768 := Nat.lt_of_lt_of_le y0 (win0_2.xsize_le _ 0)
  have y1 : (y 1).val < win0_2.xsize (grid0.coords t) 1 := (y 1).isLt
  have b1 : (y 1).val < 64 := Nat.lt_of_lt_of_le y1 (win0_2.xsize_le _ 1)
  have e1 : win0_2.xinj (grid0.coords t) y = ix2 (⟨(y 0).val, b0⟩ : Fin 32768) (⟨(y 1).val, b1⟩ : Fin 64) := by
    funext a; fin_cases a <;> rfl
  show k0_pay1 (F := Ideal) (tfill0 V t g) ((win0_1.blk t).view.read (Elt Ideal) (V (Proc.devRef .tc main_v5))) (win0_2.xinj (grid0.coords t) y) = T ((win0_2.blk t).view.emb y)
  rw [e1, pay0_at _ _ (fun k c => (eye_blk0 V t k c).trans (hE k c))]
  let z : (win0_0.xblock (grid0.coords t)).Idx := fun a => match a with
    | 0 => ⟨(y 1).val, by rw [show (win0_0.xblock (grid0.coords t)).size 0 = 64 from (size0 t).1]; exact b1⟩
    | 1 => ⟨(y 0).val, by rw [show (win0_0.xblock (grid0.coords t)).size 1 = _ from (size0 t).2]; exact y0⟩
  have e2 : (ix2 (⟨(y 1).val, b1⟩ : Fin 64) (⟨(y 0).val, b0⟩ : Fin 32768)) = win0_0.xinj (grid0.coords t) z := by
    funext a; fin_cases a <;> rfl
  rw [e2]
  unfold tfill0
  rw [Pipeline.Window.fill_xinj]
  have hr : t.val * 32768 + (y 0).val < 1000000 := by
    have := ((win0_2.blk t).view.emb y 0).isLt
    blk_simp [idx02 t] at this
    simpa using this
  have e3 : (win0_2.blk t).view.emb y = ix2 (⟨t.val * 32768 + (y 0).val, hr⟩ : Fin 1000000) (⟨(y 1).val, b1⟩ : Fin 64) := by
    blk_ext [idx02 t]
  have e4 : (win0_0.blk t).view.emb z = ix2 (⟨(y 1).val, b1⟩ : Fin 64) (⟨t.val * 32768 + (y 0).val, hr⟩ : Fin 1000000) := by
    blk_ext [idx00 t] <;> rfl
  rw [e3, ← hT]
  show (V (Proc.devRef .tc main_v6) : S64x1000000.Idx → EReal) ((win0_0.blk t).view.emb z) = _
  rw [e4]

theorem eye_blk1 (V : Valuation τ sig (Elt Ideal)) (t : Fin cfg1.N) (k c : Fin 64) :
    ((win1_1.blk t).view.read (Elt Ideal) (V (Proc.devRef .tc main_v5)) : S64x64.Idx → EReal) (ix2 k c) = (V (Proc.devRef .tc main_v5) : S64x64.Idx → EReal) (ix2 k c) := by
  blk_ext [idx11 t]

theorem arr1 {d : Dev nD} (V : Valuation τ sig (Elt Ideal)) (G : S100000x64.Idx → EReal)
    (hE : ∀ k c : Fin 64, (V (Proc.devRef .tc main_v5) : S64x64.Idx → EReal) (ix2 k c) = if k = c then (1 : EReal) else 0)
    (hG : Arr1 (F := Ideal) d V G) (T : S100000x64.Idx → EReal)
    (hT : ∀ (r : Fin 100000) (c : Fin 64), (V (Proc.devRef .tc main_v8) : S64x100000.Idx → EReal) (ix2 c r) = T (ix2 r c)) : G = T := by
  funext i
  refine arr_forall (p := 1) 2 hG rfl (fun i v => v = T i) cov1 (Memref.isWhole_whole _) (fun t X hX y => ?_) i
  obtain ⟨g, rfl⟩ := hX
  change Fin cfg1.N at t
  change (win1_2.xblock (grid1.coords t)).Idx at y
  have y0 : (y 0).val < win1_2.xsize (grid1.coords t) 0 := (y 0).isLt
  have b0 : (y 0).val < 32768 := Nat.lt_of_lt_of_le y0 (win1_2.xsize_le _ 0)
  have y1 : (y 1).val < win1_2.xsize (grid1.coords t) 1 := (y 1).isLt
  have b1 : (y 1).val < 64 := Nat.lt_of_lt_of_le y1 (win1_2.xsize_le _ 1)
  have e1 : win1_2.xinj (grid1.coords t) y = ix2 (⟨(y 0).val, b0⟩ : Fin 32768) (⟨(y 1).val, b1⟩ : Fin 64) := by
    funext a; fin_cases a <;> rfl
  show k1_pay1 (F := Ideal) (tfill1 V t g) ((win1_1.blk t).view.read (Elt Ideal) (V (Proc.devRef .tc main_v5))) (win1_2.xinj (grid1.coords t) y) = T ((win1_2.blk t).view.emb y)
  rw [e1, pay1_at' _ _ (fun k c => (eye_blk1 V t k c).trans (hE k c))]
  let z : (win1_0.xblock (grid1.coords t)).Idx := fun a => match a with
    | 0 => ⟨(y 1).val, by rw [show (win1_0.xblock (grid1.coords t)).size 0 = 64 from (size1 t).1]; exact b1⟩
    | 1 => ⟨(y 0).val, by rw [show (win1_0.xblock (grid1.coords t)).size 1 = _ from (size1 t).2]; exact y0⟩
  have e2 : (ix2 (⟨(y 1).val, b1⟩ : Fin 64) (⟨(y 0).val, b0⟩ : Fin 32768)) = win1_0.xinj (grid1.coords t) z := by
    funext a; fin_cases a <;> rfl
  rw [e2]
  unfold tfill1
  rw [Pipeline.Window.fill_xinj]
  have hr : t.val * 32768 + (y 0).val < 100000 := by
    have := ((win1_2.blk t).view.emb y 0).isLt
    blk_simp [idx12 t] at this
    simpa using this
  have e3 : (win1_2.blk t).view.emb y = ix2 (⟨t.val * 32768 + (y 0).val, hr⟩ : Fin 100000) (⟨(y 1).val, b1⟩ : Fin 64) := by
    blk_ext [idx12 t]
  have e4 : (win1_0.blk t).view.emb z = ix2 (⟨(y 1).val, b1⟩ : Fin 64) (⟨t.val * 32768 + (y 0).val, hr⟩ : Fin 100000) := by
    blk_ext [idx10 t] <;> rfl
  rw [e3, ← hT]
  show (V (Proc.devRef .tc main_v8) : S64x100000.Idx → EReal) ((win1_0.blk t).view.emb z) = _
  rw [e4]

end Cert.KernelIdeal.Iv

end

end
-- ==== Proof.Net.lean ====
/- The perceptron on one row: what the kernel's blocks and the reference's whole arrays hold of a row. -/
module

public import Idealize.ShloMosaic.PureOps.Ideal

@[expose] public section

noncomputable section

namespace Cert.Net

/-- A layer: the products with the weights' rows, the bias, the larger of it and zero. -/
def layer {K N : ℕ} (x : Fin K → EReal) (w : Fin N → Fin K → EReal) (b : Fin N → EReal) : Fin N → EReal :=
  fun n => max ((∑ k, x k * w n k) + b n) 0

/-- The first layer, of a user's row and an item's: the weights' columns in two halves. -/
def first (u g : Fin 64 → EReal) (w : Fin 128 → Fin 128 → EReal) (b : Fin 128 → EReal) : Fin 128 → EReal :=
  fun n => max (((∑ k : Fin 64, u k * w n ⟨k.val, by omega⟩) + ∑ k : Fin 64, g k * w n ⟨64 + k.val, by omega⟩) + b n) 0

/-- The six layers. -/
def net (u g : Fin 64 → EReal) (w1 : Fin 128 → Fin 128 → EReal) (b1 : Fin 128 → EReal) (w2 : Fin 64 → Fin 128 → EReal) (b2 : Fin 64 → EReal) (w3 : Fin 32 → Fin 64 → EReal) (b3 : Fin 32 → EReal)
    (w4 : Fin 16 → Fin 32 → EReal) (b4 : Fin 16 → EReal) (w5 : Fin 8 → Fin 16 → EReal) (b5 : Fin 8 → EReal) (w6 : Fin 1 → Fin 8 → EReal) (b6 : Fin 1 → EReal) : EReal :=
  layer (layer (layer (layer (layer (first u g w1 b1) w2 b2) w3 b3) w4 b4) w5 b5) w6 b6 0

end Cert.Net

end

end
-- ==== Proof.INet.lean ====
/- The kernel's perceptron on a block of rows, read at one row. -/
module

public import proofs.«01_k».proof.KernelIdeal
public import Idealize.ShloMosaic.PureOps.Ideal
public import proofs.«01_k».proof.Proof.Gen.KernelIdeal
public import proofs.«01_k».proof.Proof.Gen.KernelIdeal.Skeleton
public import Idealize.ShloMosaic.Lib.Pointwise
public import proofs.«01_k».proof.Proof.Net

@[expose] public section

noncomputable section

namespace Cert.KernelIdeal.Iv

open Cert.KernelIdeal Cert.KernelIdeal.Gen Cert.Net
open Idealize.ShloMosaic

set_option maxRecDepth 16384

/-- The first three layers of a block, up to the third's bias. -/
theorem pay2_at (u g : FVec Ideal S1024x64 .f32) (x3 x4 : FVec Ideal S64x128 .f32) (x5 : FVec Ideal S1x128 .f32) (x6 : FVec Ideal S128x64 .f32) (x7 : FVec Ideal S1x64 .f32) (x8 : FVec Ideal S64x32 .f32) (x9 : FVec Ideal S1x32 .f32) (r : Fin 1024) (n : Fin 32) :
    max (α := EReal) (k3_pay2 (F := Ideal) u x3 g x4 x5 x6 x7 x8 x9 (ix2 r n)) 0 = layer (layer (fun n => max (((∑ k : Fin 64, u (ix2 r k) * x3 (ix2 k n)) + ∑ k : Fin 64, g (ix2 r k) * x4 (ix2 k n)) + x5 (ix2 0 n)) 0) (fun n k => x6 (ix2 k n)) (fun n => x7 (ix2 0 n))) (fun n k => x8 (ix2 k n)) (fun n => x9 (ix2 0 n)) n := by
  pointwise [k3_pay2, layer]

/-- The last three. -/
theorem pay1_at (y : FVec Ideal S1024x32 .f32) (x10 : FVec Ideal S32x16 .f32) (x11 : FVec Ideal S1x16 .f32) (x12 : FVec Ideal S16x8 .f32) (x13 : FVec Ideal S1x8 .f32) (x14 : FVec Ideal S8x1 .f32) (x15 : FVec Ideal S1x1 .f32) (r : Fin 1024) :
    k3_pay1 (F := Ideal) y k3_pay3 x10 x11 x12 x13 x14 x15 (ix2 r 0) = layer (layer (layer (fun k => max (y (ix2 r k)) 0) (fun n k => x10 (ix2 k n)) (fun n => x11 (ix2 0 n))) (fun n k => x12 (ix2 k n)) (fun n => x13 (ix2 0 n))) (fun n k => x14 (ix2 k n)) (fun n => x15 (ix2 0 n)) 0 := by
  pointwise [k3_pay1, k3_pay3, layer]

end Cert.KernelIdeal.Iv

end

end
-- ==== Proof.IOut.lean ====
/- The perceptron's call: the array it leaves, row by row, and the result reshaped from it. -/
module

public import proofs.«01_k».proof.Proof.ITab
public import proofs.«01_k».proof.Proof.INet

@[expose] public section

noncomputable section

namespace Cert.KernelIdeal.Iv

open Cert.KernelIdeal Cert.KernelIdeal.Gen Cert.KernelIdeal.Pf Cert.Net
open Idealize.ShloMosaic Idealize.ShloMosaic.TcCoe Idealize.ShloMosaic.StableHlo

set_option maxRecDepth 16384

/-! ## The operands the call is given -/

theorem v12_at (V : Valuation τ sig (Elt Ideal)) (k : Fin 64) (n : Fin 128) :
    (after opsC V (Proc.devRef .tc main_v12) : S64x128.Idx → EReal) (ix2 k n) = (V (Proc.devRef .tc main_arg4) : S128x128.Idx → EReal) (ix2 n (⟨k.val, by omega⟩ : Fin 128)) := by
  unfold opsC
  after_reads_at

theorem v13_at (V : Valuation τ sig (Elt Ideal)) (k : Fin 64) (n : Fin 128) :
    (after opsC V (Proc.devRef .tc main_v13) : S64x128.Idx → EReal) (ix2 k n) = (V (Proc.devRef .tc main_arg4) : S128x128.Idx → EReal) (ix2 n (⟨64 + k.val, by omega⟩ : Fin 128)) := by
  unfold opsC
  after_reads_at

theorem v14_at (V : Valuation τ sig (Elt Ideal)) (n : Fin 128) :
    (after opsC V (Proc.devRef .tc main_v14) : S1x128.Idx → EReal) (ix2 0 n) = (V (Proc.devRef .tc main_arg5) : S128.Idx → EReal) (ix1 n) := by
  unfold opsC
  after_reads_at

theorem v15_at (V : Valuation τ sig (Elt Ideal)) (k : Fin 128) (n : Fin 64) :
    (after opsC V (Proc.devRef .tc main_v15) : S128x64.Idx → EReal) (ix2 k n) = (V (Proc.devRef .tc main_arg6) : S64x128.Idx → EReal) (ix2 n k) := by
  unfold opsC
  after_reads_at

theorem v16_at (V : Valuation τ sig (Elt Ideal)) (n : Fin 64) :
    (after opsC V (Proc.devRef .tc main_v16) : S1x64.Idx → EReal) (ix2 0 n) = (V (Proc.devRef .tc main_arg7) : S64.Idx → EReal) (ix1 n) := by
  unfold opsC
  after_reads_at

theorem v17_at (V : Valuation τ sig (Elt Ideal)) (k : Fin 64) (n : Fin 32) :
    (after opsC V (Proc.devRef .tc main_v17) : S64x32.Idx → EReal) (ix2 k n) = (V (Proc.devRef .tc main_arg8) : S32x64.Idx → EReal) (ix2 n k) := by
  unfold opsC
  after_reads_at

theorem v18_at (V : Valuation τ sig (Elt Ideal)) (n : Fin 32) :
    (after opsC V (Proc.devRef .tc main_v18) : S1x32.Idx → EReal) (ix2 0 n) = (V (Proc.devRef .tc main_arg9) : S32.Idx → EReal) (ix1 n) := by
  unfold opsC
  after_reads_at

theorem v19_at (V : Valuation τ sig (Elt Ideal)) (k : Fin 32) (n : Fin 16) :
    (after opsC V (Proc.devRef .tc main_v19) : S32x16.Idx → EReal) (ix2 k n) = (V (Proc.devRef .tc main_arg10) : S16x32.Idx → EReal) (ix2 n k) := by
  unfold opsC
  after_reads_at

theorem v20_at (V : Valuation τ sig (Elt Ideal)) (n : Fin 16) :
    (after opsC V (Proc.devRef .tc main_v20) : S1x16.Idx → EReal) (ix2 0 n) = (V (Proc.devRef .tc main_arg11) : S16.Idx → EReal) (ix1 n) := by
  unfold opsC
  after_reads_at

theorem v21_at (V : Valuation τ sig (Elt Ideal)) (k : Fin 16) (n : Fin 8) :
    (after opsC V (Proc.devRef .tc main_v21) : S16x8.Idx → EReal) (ix2 k n) = (V (Proc.devRef .tc main_arg12) : S8x16.Idx → EReal) (ix2 n k) := by
  unfold opsC
  after_reads_at

theorem v22_at (V : Valuation τ sig (Elt Ideal)) (n : Fin 8) :
    (after opsC V (Proc.devRef .tc main_v22) : S1x8.Idx → EReal) (ix2 0 n) = (V (Proc.devRef .tc main_arg13) : S8.Idx → EReal) (ix1 n) := by
  unfold opsC
  after_reads_at

theorem v23_at (V : Valuation τ sig (Elt Ideal)) (k : Fin 8) (n : Fin 1) :
    (after opsC V (Proc.devRef .tc main_v23) : S8x1.Idx → EReal) (ix2 k n) = (V (Proc.devRef .tc main_arg14) : S1x8.Idx → EReal) (ix2 n k) := by
  obtain rfl : n = 0 := Subsingleton.elim _ _
  unfold opsC
  after_reads_at

theorem v24_at (V : Valuation τ sig (Elt Ideal)) (n : Fin 1) :
    (after opsC V (Proc.devRef .tc main_v24) : S1x1.Idx → EReal) (ix2 0 n) = (V (Proc.devRef .tc main_arg15) : S1.Idx → EReal) (ix1 n) := by
  obtain rfl : n = 0 := Subsingleton.elim _ _
  unfold opsC
  after_reads_at

/-! ## Its blocks -/

theorem cov2 : win3_15.Covers := by decide +kernel
theorem idx3_0 : ∀ t : Fin cfg3.N, win3_0.index t = ![t.val, 0] := by decide +kernel
theorem idx3_1 : ∀ t : Fin cfg3.N, win3_1.index t = ![t.val, 0] := by decide +kernel
theorem idx3_15 : ∀ t : Fin cfg3.N, win3_15.index t = ![t.val, 0] := by decide +kernel
theorem idx3_2 : ∀ t : Fin cfg3.N, win3_2.index t = ![0, 0] := by decide +kernel
theorem idx3_3 : ∀ t : Fin cfg3.N, win3_3.index t = ![0, 0] := by decide +kernel
theorem idx3_4 : ∀ t : Fin cfg3.N, win3_4.index t = ![0, 0] := by decide +kernel
theorem idx3_5 : ∀ t : Fin cfg3.N, win3_5.index t = ![0, 0] := by decide +kernel
theorem idx3_6 : ∀ t : Fin cfg3.N, win3_6.index t = ![0, 0] := by decide +kernel
theorem idx3_7 : ∀ t : Fin cfg3.N, win3_7.index t = ![0, 0] := by decide +kernel
theorem idx3_8 : ∀ t : Fin cfg3.N, win3_8.index t = ![0, 0] := by decide +kernel
theorem idx3_9 : ∀ t : Fin cfg3.N, win3_9.index t = ![0, 0] := by decide +kernel
theorem idx3_10 : ∀ t : Fin cfg3.N, win3_10.index t = ![0, 0] := by decide +kernel
theorem idx3_11 : ∀ t : Fin cfg3.N, win3_11.index t = ![0, 0] := by decide +kernel
theorem idx3_12 : ∀ t : Fin cfg3.N, win3_12.index t = ![0, 0] := by decide +kernel
theorem idx3_13 : ∀ t : Fin cfg3.N, win3_13.index t = ![0, 0] := by decide +kernel
theorem idx3_14 : ∀ t : Fin cfg3.N, win3_14.index t = ![0, 0] := by decide +kernel

theorem row_lt (t : Fin cfg3.N) (r : Fin 1024) : t.val * 1024 + r.val < 16384 := by
  have h1 : t.val < 16 := t.isLt
  have h2 := r.isLt
  omega

theorem blk3_0 (V : Valuation τ sig (Elt Ideal)) (t : Fin cfg3.N) (r : Fin 1024) (k : Fin 64) :
    ((win3_0.blk t).view.read (Elt Ideal) (V (Proc.devRef .tc main_v10_0)) : S1024x64.Idx → EReal) (ix2 r k) = (V (Proc.devRef .tc main_v10_0) : S16384x64.Idx → EReal) (ix2 (⟨t.val * 1024 + r.val, row_lt t r⟩ : Fin 16384) k) := by
  blk_ext [idx3_0 t]

theorem blk3_1 (V : Valuation τ sig (Elt Ideal)) (t : Fin cfg3.N) (r : Fin 1024) (k : Fin 64) :
    ((win3_1.blk t).view.read (Elt Ideal) (V (Proc.devRef .tc main_v10_1)) : S1024x64.Idx → EReal) (ix2 r k) = (V (Proc.devRef .tc main_v10_1) : S16384x64.Idx → EReal) (ix2 (⟨t.val * 1024 + r.val, row_lt t r⟩ : Fin 16384) k) := by
  blk_ext [idx3_1 t]

theorem blk3_2 (V : Valuation τ sig (Elt Ideal)) (t : Fin cfg3.N) (k : Fin 64) (n : Fin 128) :
    ((win3_2.blk t).view.read (Elt Ideal) (V (Proc.devRef .tc main_v12)) : S64x128.Idx → EReal) (ix2 k n) = (V (Proc.devRef .tc main_v12) : S64x128.Idx → EReal) (ix2 k n) := by
  blk_ext [idx3_2 t]

theorem blk3_3 (V : Valuation τ sig (Elt Ideal)) (t : Fin cfg3.N) (k : Fin 64) (n : Fin 128) :
    ((win3_3.blk t).view.read (Elt Ideal) (V (Proc.devRef .tc main_v13)) : S64x128.Idx → EReal) (ix2 k n) = (V (Proc.devRef .tc main_v13) : S64x128.Idx → EReal) (ix2 k n) := by
  blk_ext [idx3_3 t]

theorem blk3_4 (V : Valuation τ sig (Elt Ideal)) (t : Fin cfg3.N) (k : Fin 1) (n : Fin 128) :
    ((win3_4.blk t).view.read (Elt Ideal) (V (Proc.devRef .tc main_v14)) : S1x128.Idx → EReal) (ix2 k n) = (V (Proc.devRef .tc main_v14) : S1x128.Idx → EReal) (ix2 k n) := by
  blk_ext [idx3_4 t]

theorem blk3_5 (V : Valuation τ sig (Elt Ideal)) (t : Fin cfg3.N) (k : Fin 128) (n : Fin 64) :
    ((win3_5.blk t).view.read (Elt Ideal) (V (Proc.devRef .tc main_v15)) : S128x64.Idx → EReal) (ix2 k n) = (V (Proc.devRef .tc main_v15) : S128x64.Idx → EReal) (ix2 k n) := by
  blk_ext [idx3_5 t]

theorem blk3_6 (V : Valuation τ sig (Elt Ideal)) (t : Fin cfg3.N) (k : Fin 1) (n : Fin 64) :
    ((win3_6.blk t).view.read (Elt Ideal) (V (Proc.devRef .tc main_v16)) : S1x64.Idx → EReal) (ix2 k n) = (V (Proc.devRef .tc main_v16) : S1x64.Idx → EReal) (ix2 k n) := by
  blk_ext [idx3_6 t]

theorem blk3_7 (V : Valuation τ sig (Elt Ideal)) (t : Fin cfg3.N) (k : Fin 64) (n : Fin 32) :
    ((win3_7.blk t).view.read (Elt Ideal) (V (Proc.devRef .tc main_v17)) : S64x32.Idx → EReal) (ix2 k n) = (V (Proc.devRef .tc main_v17) : S64x32.Idx → EReal) (ix2 k n) := by
  blk_ext [idx3_7 t]

theorem blk3_8 (V : Valuation τ sig (Elt Ideal)) (t : Fin cfg3.N) (k : Fin 1) (n : Fin 32) :
    ((win3_8.blk t).view.read (Elt Ideal) (V (Proc.devRef .tc main_v18)) : S1x32.Idx → EReal) (ix2 k n) = (V (Proc.devRef .tc main_v18) : S1x32.Idx → EReal) (ix2 k n) := by
  blk_ext [idx3_8 t]

theorem blk3_9 (V : Valuation τ sig (Elt Ideal)) (t : Fin cfg3.N) (k : Fin 32) (n : Fin 16) :
    ((win3_9.blk t).view.read (Elt Ideal) (V (Proc.devRef .tc main_v19)) : S32x16.Idx → EReal) (ix2 k n) = (V (Proc.devRef .tc main_v19) : S32x16.Idx → EReal) (ix2 k n) := by
  blk_ext [idx3_9 t]

theorem blk3_10 (V : Valuation τ sig (Elt Ideal)) (t : Fin cfg3.N) (k : Fin 1) (n : Fin 16) :
    ((win3_10.blk t).view.read (Elt Ideal) (V (Proc.devRef .tc main_v20)) : S1x16.Idx → EReal) (ix2 k n) = (V (Proc.devRef .tc main_v20) : S1x16.Idx → EReal) (ix2 k n) := by
  blk_ext [idx3_10 t]

theorem blk3_11 (V : Valuation τ sig (Elt Ideal)) (t : Fin cfg3.N) (k : Fin 16) (n : Fin 8) :
    ((win3_11.blk t).view.read (Elt Ideal) (V (Proc.devRef .tc main_v21)) : S16x8.Idx → EReal) (ix2 k n) = (V (Proc.devRef .tc main_v21) : S16x8.Idx → EReal) (ix2 k n) := by
  blk_ext [idx3_11 t]

theorem blk3_12 (V : Valuation τ sig (Elt Ideal)) (t : Fin cfg3.N) (k : Fin 1) (n : Fin 8) :
    ((win3_12.blk t).view.read (Elt Ideal) (V (Proc.devRef .tc main_v22)) : S1x8.Idx → EReal) (ix2 k n) = (V (Proc.devRef .tc main_v22) : S1x8.Idx → EReal) (ix2 k n) := by
  blk_ext [idx3_12 t]

theorem blk3_13 (V : Valuation τ sig (Elt Ideal)) (t : Fin cfg3.N) (k : Fin 8) (n : Fin 1) :
    ((win3_13.blk t).view.read (Elt Ideal) (V (Proc.devRef .tc main_v23)) : S8x1.Idx → EReal) (ix2 k n) = (V (Proc.devRef .tc main_v23) : S8x1.Idx → EReal) (ix2 k n) := by
  blk_ext [idx3_13 t]

theorem blk3_14 (V : Valuation τ sig (Elt Ideal)) (t : Fin cfg3.N) (k : Fin 1) (n : Fin 1) :
    ((win3_14.blk t).view.read (Elt Ideal) (V (Proc.devRef .tc main_v24)) : S1x1.Idx → EReal) (ix2 k n) = (V (Proc.devRef .tc main_v24) : S1x1.Idx → EReal) (ix2 k n) := by
  blk_ext [idx3_14 t]

/-- One row of the perceptron on a block, its operands' entries being named. -/
theorem mlpV_at (X1 X2 : FVec Ideal S1024x64 .f32) (X3 X4 : FVec Ideal S64x128 .f32) (X5 : FVec Ideal S1x128 .f32) (X6 : FVec Ideal S128x64 .f32) (X7 : FVec Ideal S1x64 .f32) (X8 : FVec Ideal S64x32 .f32) (X9 : FVec Ideal S1x32 .f32) (X10 : FVec Ideal S32x16 .f32) (X11 : FVec Ideal S1x16 .f32) (X12 : FVec Ideal S16x8 .f32) (X13 : FVec Ideal S1x8 .f32) (X14 : FVec Ideal S8x1 .f32) (X15 : FVec Ideal S1x1 .f32)
    (r : Fin 1024) (u g : Fin 64 → EReal) (w1 : Fin 128 → Fin 128 → EReal) (b1 : Fin 128 → EReal) (w2 : Fin 64 → Fin 128 → EReal) (b2 : Fin 64 → EReal) (w3 : Fin 32 → Fin 64 → EReal) (b3 : Fin 32 → EReal) (w4 : Fin 16 → Fin 32 → EReal) (b4 : Fin 16 → EReal) (w5 : Fin 8 → Fin 16 → EReal) (b5 : Fin 8 → EReal) (w6 : Fin 1 → Fin 8 → EReal) (b6 : Fin 1 → EReal)
    (h1 : ∀ k, X1 (ix2 r k) = u k) (h2 : ∀ k, X2 (ix2 r k) = g k) (h3 : ∀ (k : Fin 64) n, X3 (ix2 k n) = w1 n ⟨k.val, by omega⟩) (h4 : ∀ (k : Fin 64) n, X4 (ix2 k n) = w1 n ⟨64 + k.val, by omega⟩) (h5 : ∀ n, X5 (ix2 0 n) = b1 n) (h6 : ∀ k n, X6 (ix2 k n) = w2 n k) (h7 : ∀ n, X7 (ix2 0 n) = b2 n) (h8 : ∀ k n, X8 (ix2 k n) = w3 n k) (h9 : ∀ n, X9 (ix2 0 n) = b3 n) (h10 : ∀ k n, X10 (ix2 k n) = w4 n k) (h11 : ∀ n, X11 (ix2 0 n) = b4 n) (h12 : ∀ k n, X12 (ix2 k n) = w5 n k) (h13 : ∀ n, X13 (ix2 0 n) = b5 n) (h14 : ∀ k n, X14 (ix2 k n) = w6 n k) (h15 : ∀ n, X15 (ix2 0 n) = b6 n) :
    mlpV (F := Ideal) X1 X2 X3 X4 X5 X6 X7 X8 X9 X10 X11 X12 X13 X14 X15 (ix2 r 0) = net u g w1 b1 w2 b2 w3 b3 w4 b4 w5 b5 w6 b6 := by
  unfold mlpV
  rw [pay1_at]
  simp only [pay2_at]
  simp only [h1, h2, h3, h4, h5, h6, h7, h8, h9, h10, h11, h12, h13, h14, h15]
  rfl

/-- One row of the perceptron's block, in terms of the rows looked up and of the arguments. -/
theorem mlp_at (V : Valuation τ sig (Elt Ideal)) (t : Fin cfg3.N) (r : Fin 1024) :
    mlpBlk (F := Ideal) (after opsC V) t (ix2 r 0)
      = net (fun k => (V (Proc.devRef .tc main_v10_0) : S16384x64.Idx → EReal) (ix2 (⟨t.val * 1024 + r.val, row_lt t r⟩ : Fin 16384) k)) (fun k => (V (Proc.devRef .tc main_v10_1) : S16384x64.Idx → EReal) (ix2 (⟨t.val * 1024 + r.val, row_lt t r⟩ : Fin 16384) k))
          (fun n k => (V (Proc.devRef .tc main_arg4) : S128x128.Idx → EReal) (ix2 n k)) (fun n => (V (Proc.devRef .tc main_arg5) : S128.Idx → EReal) (ix1 n)) (fun n k => (V (Proc.devRef .tc main_arg6) : S64x128.Idx → EReal) (ix2 n k)) (fun n => (V (Proc.devRef .tc main_arg7) : S64.Idx → EReal) (ix1 n)) (fun n k => (V (Proc.devRef .tc main_arg8) : S32x64.Idx → EReal) (ix2 n k)) (fun n => (V (Proc.devRef .tc main_arg9) : S32.Idx → EReal) (ix1 n)) (fun n k => (V (Proc.devRef .tc main_arg10) : S16x32.Idx → EReal) (ix2 n k)) (fun n => (V (Proc.devRef .tc main_arg11) : S16.Idx → EReal) (ix1 n)) (fun n k => (V (Proc.devRef .tc main_arg12) : S8x16.Idx → EReal) (ix2 n k)) (fun n => (V (Proc.devRef .tc main_arg13) : S8.Idx → EReal) (ix1 n)) (fun n k => (V (Proc.devRef .tc main_arg14) : S1x8.Idx → EReal) (ix2 n k)) (fun n => (V (Proc.devRef .tc main_arg15) : S1.Idx → EReal) (ix1 n)) := by
  exact mlpV_at _ _ _ _ _ _ _ _ _ _ _ _ _ _ _ r _ _ _ _ _ _ _ _ _ _ _ _ _ _
    (fun k => (blk3_0 _ t r k).trans (congrFun (keepC V (r := main_v10_0) (by decide)) _))
    (fun k => (blk3_1 _ t r k).trans (congrFun (keepC V (r := main_v10_1) (by decide)) _))
    (fun k n => (blk3_2 _ t k n).trans (v12_at V k n))
    (fun k n => (blk3_3 _ t k n).trans (v13_at V k n))
    (fun n => (blk3_4 _ t 0 n).trans (v14_at V n))
    (fun k n => (blk3_5 _ t k n).trans (v15_at V k n))
    (fun n => (blk3_6 _ t 0 n).trans (v16_at V n))
    (fun k n => (blk3_7 _ t k n).trans (v17_at V k n))
    (fun n => (blk3_8 _ t 0 n).trans (v18_at V n))
    (fun k n => (blk3_9 _ t k n).trans (v19_at V k n))
    (fun n => (blk3_10 _ t 0 n).trans (v20_at V n))
    (fun k n => (blk3_11 _ t k n).trans (v21_at V k n))
    (fun n => (blk3_12 _ t 0 n).trans (v22_at V n))
    (fun k n => (blk3_13 _ t k n).trans (v23_at V k n))
    (fun n => (blk3_14 _ t 0 n).trans (v24_at V n))

/-! ## The array and the result -/

theorem arr2 {d : Dev nD} (V : Valuation τ sig (Elt Ideal)) (G : S16384x1.Idx → EReal) (hG : Arr2 (F := Ideal) d (after opsC V) G) (R : Fin 16384) :
    G (ix2 R 0) = net (fun k => (V (Proc.devRef .tc main_v10_0) : S16384x64.Idx → EReal) (ix2 R k)) (fun k => (V (Proc.devRef .tc main_v10_1) : S16384x64.Idx → EReal) (ix2 R k))
          (fun n k => (V (Proc.devRef .tc main_arg4) : S128x128.Idx → EReal) (ix2 n k)) (fun n => (V (Proc.devRef .tc main_arg5) : S128.Idx → EReal) (ix1 n)) (fun n k => (V (Proc.devRef .tc main_arg6) : S64x128.Idx → EReal) (ix2 n k)) (fun n => (V (Proc.devRef .tc main_arg7) : S64.Idx → EReal) (ix1 n)) (fun n k => (V (Proc.devRef .tc main_arg8) : S32x64.Idx → EReal) (ix2 n k)) (fun n => (V (Proc.devRef .tc main_arg9) : S32.Idx → EReal) (ix1 n)) (fun n k => (V (Proc.devRef .tc main_arg10) : S16x32.Idx → EReal) (ix2 n k)) (fun n => (V (Proc.devRef .tc main_arg11) : S16.Idx → EReal) (ix1 n)) (fun n k => (V (Proc.devRef .tc main_arg12) : S8x16.Idx → EReal) (ix2 n k)) (fun n => (V (Proc.devRef .tc main_arg13) : S8.Idx → EReal) (ix1 n)) (fun n k => (V (Proc.devRef .tc main_arg14) : S1x8.Idx → EReal) (ix2 n k)) (fun n => (V (Proc.devRef .tc main_arg15) : S1.Idx → EReal) (ix1 n)) := by
  let T : S16384x1.Idx → EReal := fun i => net (fun k => (V (Proc.devRef .tc main_v10_0) : S16384x64.Idx → EReal) (ix2 (i 0 : Fin 16384) k)) (fun k => (V (Proc.devRef .tc main_v10_1) : S16384x64.Idx → EReal) (ix2 (i 0 : Fin 16384) k))
          (fun n k => (V (Proc.devRef .tc main_arg4) : S128x128.Idx → EReal) (ix2 n k)) (fun n => (V (Proc.devRef .tc main_arg5) : S128.Idx → EReal) (ix1 n)) (fun n k => (V (Proc.devRef .tc main_arg6) : S64x128.Idx → EReal) (ix2 n k)) (fun n => (V (Proc.devRef .tc main_arg7) : S64.Idx → EReal) (ix1 n)) (fun n k => (V (Proc.devRef .tc main_arg8) : S32x64.Idx → EReal) (ix2 n k)) (fun n => (V (Proc.devRef .tc main_arg9) : S32.Idx → EReal) (ix1 n)) (fun n k => (V (Proc.devRef .tc main_arg10) : S16x32.Idx → EReal) (ix2 n k)) (fun n => (V (Proc.devRef .tc main_arg11) : S16.Idx → EReal) (ix1 n)) (fun n k => (V (Proc.devRef .tc main_arg12) : S8x16.Idx → EReal) (ix2 n k)) (fun n => (V (Proc.devRef .tc main_arg13) : S8.Idx → EReal) (ix1 n)) (fun n k => (V (Proc.devRef .tc main_arg14) : S1x8.Idx → EReal) (ix2 n k)) (fun n => (V (Proc.devRef .tc main_arg15) : S1.Idx → EReal) (ix1 n))
  have key : ∀ i, G i = T i := by
    intro i
    refine arr_forall (p := 2) 15 hG rfl (fun i v => v = T i) cov2 (Memref.isWhole_whole _) (fun t X hX y => ?_) i
    change X = mlpBlk (after opsC V) t at hX
    subst hX
    change Fin cfg3.N at t
    change (win3_15.xblock (grid3.coords t)).Idx at y
    have y0 : (y 0).val < win3_15.xsize (grid3.coords t) 0 := (y 0).isLt
    have b0 : (y 0).val < 1024 := Nat.lt_of_lt_of_le y0 (win3_15.xsize_le _ 0)
    have y1 : (y 1).val < win3_15.xsize (grid3.coords t) 1 := (y 1).isLt
    have b1 : (y 1).val < 1 := Nat.lt_of_lt_of_le y1 (win3_15.xsize_le _ 1)
    have e1 : win3_15.xinj (grid3.coords t) y = ix2 (⟨(y 0).val, b0⟩ : Fin 1024) (0 : Fin 1) := by
      funext a; fin_cases a
      · rfl
      · exact Fin.ext (Nat.lt_one_iff.mp b1)
    have e3 : (win3_15.blk t).view.emb y = ix2 (⟨t.val * 1024 + (y 0).val, row_lt t ⟨(y 0).val, b0⟩⟩ : Fin 16384) (0 : Fin 1) := by
      blk_ext [idx3_15 t]
    show mlpBlk (F := Ideal) (after opsC V) t (win3_15.xinj (grid3.coords t) y) = T ((win3_15.blk t).view.emb y)
    rw [e1, e3, mlp_at]
    rfl
  exact key _

theorem v26_at (V : Valuation τ sig (Elt Ideal)) (R : Fin 16384) :
    (after opsD V (Proc.devRef .tc main_v26) : S16384.Idx → EReal) (ix1 R) = (V (Proc.devRef .tc main_v25) : S16384x1.Idx → EReal) (ix2 R 0) := by
  unfold opsD
  after_reads_at

end Cert.KernelIdeal.Iv

end

end
-- ==== Proof.IVal.lean ====
/- The kernel's result at the ideal instance, row by row: the perceptron of the two rows that the indices name. -/
module

public import proofs.«01_k».proof.Proof.IOut

@[expose] public section

noncomputable section

namespace Cert.KernelIdeal.Iv

open Cert.KernelIdeal Cert.KernelIdeal.Gen Cert.KernelIdeal.Pf Cert.Net
open Idealize.ShloMosaic Idealize.ShloMosaic.TcCoe Idealize.ShloMosaic.StableHlo

set_option maxRecDepth 16384

variable (m : (ℓ : Loc nD τ sig) → Buf (Elt Ideal) ℓ) (d : Dev nD)

/-! ## The tables' copies are the tables -/

theorem table0 (G : S1000000x64.Idx → EReal) (h : Arr0 (F := Ideal) d (VA m d) G) : G = m (lc d main_arg2) :=
  arr0 (VA m d) G (fun k c => eye_at (V0 m d) k c) h _ (fun r c => v6_at (V0 m d) r c)

theorem table1 (G7 : S1000000x64.Idx → EReal) (G : S100000x64.Idx → EReal) (h : Arr1 (F := Ideal) d (VB m d G7) G) : G = m (lc d main_arg3) := by
  refine arr1 (VB m d G7) G (fun k c => ?_) h _ (fun r c => ?_)
  · unfold VB
    rw [keepB _ (r := main_v5) (by decide), update_keep _ _ (by decide)]
    exact eye_at (V0 m d) k c
  · unfold VB
    rw [v8_at, update_keep _ _ (by decide)]
    unfold VA
    rw [keepA _ (r := main_arg3) (by decide)]
    rfl

theorem row0 (h : ∀ p, (A0 m d p).toNat < 1000000) (R : Fin 16384) (k : Fin 64) (x : EReal) (hx : RU (F := Ideal) (A0 m d) (R7 m d) (ix2 R k) x) :
    x = (m (lc d main_arg2) : S1000000x64.Idx → EReal) (ix2 (⟨(A0 m d (ix1 R)).toNat, h _⟩ : Fin 1000000) k) := by
  obtain ⟨q, h0, h1, G, hG, rfl⟩ := hx
  rw [table0 m d G hG]
  congr 1
  funext a; fin_cases a
  · exact Fin.ext h0
  · exact Fin.ext h1

theorem row1 (h : ∀ p, (A1 m d p).toNat < 100000) (R : Fin 16384) (k : Fin 64) (x : EReal) (hx : RG (F := Ideal) (A1 m d) (R9 m d) (ix2 R k) x) :
    x = (m (lc d main_arg3) : S100000x64.Idx → EReal) (ix2 (⟨(A1 m d (ix1 R)).toNat, h _⟩ : Fin 100000) k) := by
  obtain ⟨q, h0, h1, G7, G, hG, rfl⟩ := hx
  rw [table1 m d G7 G hG]
  congr 1
  funext a; fin_cases a
  · exact Fin.ext h0
  · exact Fin.ext h1

/-! ## The result -/

theorem V5_u (G7 G9 gu gg) : V5 (F := Ideal) m d G7 G9 gu gg (Proc.devRef .tc main_v10_0) = gu := by
  unfold V5
  rw [update_keep _ _ (by decide), Function.update_self]

theorem V5_g (G7 G9 gu gg) : V5 (F := Ideal) m d G7 G9 gu gg (Proc.devRef .tc main_v10_1) = gg := by
  unfold V5
  rw [Function.update_self]

theorem V5_arg (G7 G9 gu gg) {r : Ref sig .tc} (hr : r ∉ [main_v0, main_v1, main_c, main_v2, main_v3, main_v4, main_v5, main_v6, main_v7, main_v8, main_v9]) (h0 : r ≠ main_v10_0) (h1 : r ≠ main_v10_1) :
    V5 (F := Ideal) m d G7 G9 gu gg (Proc.devRef .tc r) = m (lc d r) := by
  unfold V5
  rw [update_keep _ _ h1, update_keep _ _ h0]
  exact V4_keep m d hr G7 G9

theorem result (h0 : ∀ p, (A0 m d p).toNat < 1000000) (h1 : ∀ p, (A1 m d p).toNat < 100000) {mem : (ℓ : Loc nD τ sig) → Buf (Elt Ideal) ℓ} (hm : Fq m d mem) (R : Fin 16384) :
    (mem (lc d main_v26) : S16384.Idx → EReal) (ix1 R)
      = net (fun k => (m (lc d main_arg2) : S1000000x64.Idx → EReal) (ix2 (⟨(A0 m d (ix1 R)).toNat, h0 _⟩ : Fin 1000000) k))
          (fun k => (m (lc d main_arg3) : S100000x64.Idx → EReal) (ix2 (⟨(A1 m d (ix1 R)).toNat, h1 _⟩ : Fin 100000) k))
          (fun n k => (m (lc d main_arg4) : S128x128.Idx → EReal) (ix2 n k)) (fun n => (m (lc d main_arg5) : S128.Idx → EReal) (ix1 n)) (fun n k => (m (lc d main_arg6) : S64x128.Idx → EReal) (ix2 n k)) (fun n => (m (lc d main_arg7) : S64.Idx → EReal) (ix1 n)) (fun n k => (m (lc d main_arg8) : S32x64.Idx → EReal) (ix2 n k)) (fun n => (m (lc d main_arg9) : S32.Idx → EReal) (ix1 n))
          (fun n k => (m (lc d main_arg10) : S16x32.Idx → EReal) (ix2 n k)) (fun n => (m (lc d main_arg11) : S16.Idx → EReal) (ix1 n)) (fun n k => (m (lc d main_arg12) : S8x16.Idx → EReal) (ix2 n k)) (fun n => (m (lc d main_arg13) : S8.Idx → EReal) (ix1 n)) (fun n k => (m (lc d main_arg14) : S1x8.Idx → EReal) (ix2 n k)) (fun n => (m (lc d main_arg15) : S1.Idx → EReal) (ix1 n)) := by
  obtain ⟨V, ⟨G7, G9, gu, gg, G25, -, -, hu, hg, hG, rfl⟩, hb, -, -⟩ := hm
  have e : mem (lc d main_v26) = VD m d G7 G9 gu gg G25 (Proc.devRef .tc main_v26) := hb _ (mem_ucB main_v26 rfl (by decide))
  rw [e]
  unfold VD
  rw [v26_at, Function.update_self]
  refine (arr2 (V5 m d G7 G9 gu gg) G25 hG R).trans ?_
  rw [V5_u, V5_g]
  rw [V5_arg m d G7 G9 gu gg (r := main_arg4) (by decide) (by decide) (by decide)]
  rw [V5_arg m d G7 G9 gu gg (r := main_arg5) (by decide) (by decide) (by decide)]
  rw [V5_arg m d G7 G9 gu gg (r := main_arg6) (by decide) (by decide) (by decide)]
  rw [V5_arg m d G7 G9 gu gg (r := main_arg7) (by decide) (by decide) (by decide)]
  rw [V5_arg m d G7 G9 gu gg (r := main_arg8) (by decide) (by decide) (by decide)]
  rw [V5_arg m d G7 G9 gu gg (r := main_arg9) (by decide) (by decide) (by decide)]
  rw [V5_arg m d G7 G9 gu gg (r := main_arg10) (by decide) (by decide) (by decide)]
  rw [V5_arg m d G7 G9 gu gg (r := main_arg11) (by decide) (by decide) (by decide)]
  rw [V5_arg m d G7 G9 gu gg (r := main_arg12) (by decide) (by decide) (by decide)]
  rw [V5_arg m d G7 G9 gu gg (r := main_arg13) (by decide) (by decide) (by decide)]
  rw [V5_arg m d G7 G9 gu gg (r := main_arg14) (by decide) (by decide) (by decide)]
  rw [V5_arg m d G7 G9 gu gg (r := main_arg15) (by decide) (by decide) (by decide)]
  have eu : (fun k : Fin 64 => gu (ix2 R k)) = _ := funext fun k => row0 m d h0 R k _ (hu (ix2 R k))
  have eg : (fun k : Fin 64 => gg (ix2 R k)) = _ := funext fun k => row1 m d h1 R k _ (hg (ix2 R k))
  rw [eu, eg]

end Cert.KernelIdeal.Iv

end

end
-- ==== Proof.RTake.lean ====
/- The reference's row lookup: an index in range is taken as it stands, and the row that it names is read. -/
module

public import proofs.«01_k».proof.ReferenceIdeal
public import Idealize.ShloMosaic.PureOps.Ideal
public import proofs.«01_k».proof.Proof.Gen.ReferenceIdeal
public import Idealize.ShloMosaic.Lib.ReduceAll
public import Idealize.ShloMosaic.Lib.Routing.Ops

@[expose] public section

noncomputable section

namespace Cert.ReferenceIdeal.Rv

open Cert.ReferenceIdeal Cert.ReferenceIdeal.Gen
open Idealize.ShloMosaic Idealize.ShloMosaic.ValueIdx

variable {F : FTy → Type} [FloatOps F]

/-- The index words, a negative one moved up by `n`, as a column. -/
def wrap (n : BitVec 32) (a : IVec S16384 32) : IVec S16384x1 32 :=
  broadcastInDim S16384x1 ![0] bcast_S16384_S16384x1_0 (select (cmpi .slt a (broadcastInDim S16384 ![] bcast_S_S16384 (constantI S_ 32 0#32))) (addi a (broadcastInDim S16384 ![] bcast_S_S16384 (constantI S_ 32 n))) a)

/-- Which of a column's words lie between zero and `n`. -/
def inside (n : BitVec 32) (i : IVec S16384x1 32) : IVec S16384 1 :=
  Host.reduce IntOp.andi (andi (cmpi .sge i (broadcastInDim S16384x1 ![] bcast_S_S16384x1 (constantI S_ 32 0#32))) (cmpi .sle i (broadcastInDim S16384x1 ![0, 1] bcast_S1x1_S16384x1_0_1 (broadcastInDim S1x1 ![1] bcast_S1_S1x1_1 (constantI S1 32 n))))) (constantI S_ 1 1#1) reducesTo_S16384x1_S16384_d1 h_S_

def take0 (a : IVec S16384 32) (T : FVec F S1000000x64 .f32) : FVec F S16384x64 .f32 :=
  select (broadcastInDim S16384x64 ![0] bcast_S16384_S16384x64_0 (inside 999999#32 (wrap 1000000#32 a))) (Host.gather gather_S1000000x64_S16384x1_S16384x64_1_0_n_n_0_1_164 T (wrap 1000000#32 a)) (broadcastInDim S16384x64 ![] bcast_S_S16384x64 (constant S_ .f32 0x7FC00000#32))

def take1 (a : IVec S16384 32) (T : FVec F S100000x64 .f32) : FVec F S16384x64 .f32 :=
  select (broadcastInDim S16384x64 ![0] bcast_S16384_S16384x64_0 (inside 99999#32 (wrap 100000#32 a))) (Host.gather gather_S100000x64_S16384x1_S16384x64_1_0_n_n_0_1_164 T (wrap 100000#32 a)) (broadcastInDim S16384x64 ![] bcast_S_S16384x64 (constant S_ .f32 0x7FC00000#32))

theorem toInt_small (x : BitVec 32) (h : x.toNat < 2 ^ 31) : x.toInt = x.toNat :=
  BitVec.toInt_eq_toNat_of_lt (by omega)

theorem wrap_at (n : BitVec 32) (a : IVec S16384 32) (h : ∀ p, (a p).toNat < 2 ^ 31) (r : Fin 16384) (z : Fin 1) :
    wrap n a (ix2 r z) = a (ix1 r) := by
  have e : wrap n a (ix2 r z) = Scalar.select (IntOp.cmpi .slt (a (ix1 r)) 0#32) (IntOp.addi (a (ix1 r)) n) (a (ix1 r)) := by
    unfold wrap
    refine (congrArg (select _ _ a) (?_ : _ = ix1 r)).trans rfl
    funext i
    match i with
    | 0 => rfl
  rw [e]
  have hs : IntOp.cmpi .slt (a (ix1 r)) 0#32 ≠ 1#1 := fun hc => by
    have := IntOp.cmpi_slt.1 hc
    rw [toInt_small _ (h _)] at this
    have h0 : (0#32 : BitVec 32).toInt = 0 := by decide
    omega
  exact if_neg hs

theorem inside_one (n : BitVec 32) (i : IVec S16384x1 32) (hn : n.toNat < 2 ^ 31) (h : ∀ p, (i p).toNat ≤ n.toNat) (r : S16384.Idx) :
    inside n i r = 1#1 := by
  refine Host.reduce_andi_one _ _ _ _ _ rfl fun p => ?_
  have h1 : IntOp.cmpi .sge (i p) 0#32 = 1#1 := IntOp.cmpi_sge.2 (by
    rw [toInt_small _ (lt_of_le_of_lt (h p) hn)]
    have h0 : (0#32 : BitVec 32).toInt = 0 := by decide
    omega)
  have h2 : IntOp.cmpi .sle (i p) n = 1#1 := IntOp.cmpi_sle.2 (by
    rw [toInt_small _ (lt_of_le_of_lt (h p) hn), toInt_small _ hn]
    exact_mod_cast h p)
  show IntOp.andi (IntOp.cmpi .sge (i p) 0#32) (IntOp.cmpi .sle (i p) n) = 1#1
  rw [h1, h2]
  decide

theorem wrap_le (n k : BitVec 32) (hk : k.toNat < 2 ^ 31) (a : IVec S16384 32) (h : ∀ p, (a p).toNat ≤ k.toNat) (p : S16384x1.Idx) : (wrap n a p).toNat ≤ k.toNat := by
  have e : wrap n a p = a (ix1 (p 0)) := (congrArg (wrap n a) (eq_ix2 p)).trans (wrap_at n a (fun q => lt_of_le_of_lt (h q) hk) (p 0) (p 1))
  rw [e]
  exact h _

theorem column {α : Type} (v : S16384.Idx → α) (r : Fin 16384) (x : Fin 64) : broadcastInDim S16384x64 ![0] bcast_S16384_S16384x64_0 v (ix2 r x) = v (ix1 r) := by
  refine congrArg v ?_
  funext i
  match i with
  | 0 => rfl

theorem select_one {α : Type} (M : IVec S16384x64 1) (G N : S16384x64.Idx → α) (p : S16384x64.Idx) (h : M p = 1#1) : select M G N p = G p :=
  if_pos h

theorem take0_at (a : IVec S16384 32) (T : FVec F S1000000x64 .f32) (h : ∀ p, (a p).toNat < 1000000) (r : Fin 16384) (x : Fin 64) :
    take0 a T (ix2 r x) = T (ix2 (⟨(a (ix1 r)).toNat, h _⟩ : Fin 1000000) x) := by
  unfold take0
  refine (select_one _ _ _ _ ((column _ r x).trans (inside_one _ _ (by decide) (wrap_le _ _ (by decide) a fun p => ?_) _))).trans ?_
  · have := h p
    show (a p).toNat ≤ 999999
    omega
  refine Routing.gather_row _ rfl rfl rfl rfl rfl T _ r x (⟨(a (ix1 r)).toNat, h _⟩ : Fin 1000000) ?_ (by decide)
  exact (wrap_at _ a (fun q => lt_trans (h q) (by decide)) r 0).trans (BitVec.ofNat_toNat 32 _ ▸ by simp)

theorem take1_at (a : IVec S16384 32) (T : FVec F S100000x64 .f32) (h : ∀ p, (a p).toNat < 100000) (r : Fin 16384) (x : Fin 64) :
    take1 a T (ix2 r x) = T (ix2 (⟨(a (ix1 r)).toNat, h _⟩ : Fin 100000) x) := by
  unfold take1
  refine (select_one _ _ _ _ ((column _ r x).trans (inside_one _ _ (by decide) (wrap_le _ _ (by decide) a fun p => ?_) _))).trans ?_
  · have := h p
    show (a p).toNat ≤ 99999
    omega
  refine Routing.gather_row _ rfl rfl rfl rfl rfl T _ r x (⟨(a (ix1 r)).toNat, h _⟩ : Fin 100000) ?_ (by decide)
  exact (wrap_at _ a (fun q => lt_trans (h q) (by decide)) r 0).trans (BitVec.ofNat_toNat 32 _ ▸ by simp)

end Cert.ReferenceIdeal.Rv

end

end
-- ==== Proof.RNet.lean ====
/- The reference's perceptron, read at one row. -/
module

public import proofs.«01_k».proof.ReferenceIdeal
public import Idealize.ShloMosaic.PureOps.Ideal
public import proofs.«01_k».proof.Proof.Gen.ReferenceIdeal
public import Idealize.ShloMosaic.Lib.Pointwise
public import proofs.«01_k».proof.Proof.Net

@[expose] public section

noncomputable section

namespace Cert.ReferenceIdeal.Rv

open Cert.ReferenceIdeal Cert.ReferenceIdeal.Gen Cert.Net
open Idealize.ShloMosaic

def h1 (u g : FVec Ideal S16384x64 .f32) (w : FVec Ideal S128x128 .f32) (b : FVec Ideal S128 .f32) : FVec Ideal S16384x128 .f32 :=
  maximumf (addf (Host.dotGeneral dot_S16384x128_S128x128_S16384x128_1_0_0_1_n_n none (concatenate S16384x128 1 [⟨S16384x64, u⟩, ⟨S16384x64, g⟩] concatenates_S16384x64_S16384x64_S16384x128_d1) (transpose S128x128 [1, 0] w transposes_S128x128_S128x128_1_0)) (broadcastInDim S16384x128 ![0, 1] bcast_S1x128_S16384x128_0_1 (broadcastInDim S1x128 ![1] bcast_S128_S1x128_1 b))) (broadcastInDim S16384x128 ![] bcast_S_S16384x128 (constant S_ .f32 0x00000000#32))

def h2 (x : FVec Ideal S16384x128 .f32) (w : FVec Ideal S64x128 .f32) (b : FVec Ideal S64 .f32) : FVec Ideal S16384x64 .f32 :=
  maximumf (addf (Host.dotGeneral dot_S16384x128_S128x64_S16384x64_1_0_0_1_n_n none x (transpose S128x64 [1, 0] w transposes_S64x128_S128x64_1_0)) (broadcastInDim S16384x64 ![0, 1] bcast_S1x64_S16384x64_0_1 (broadcastInDim S1x64 ![1] bcast_S64_S1x64_1 b))) (broadcastInDim S16384x64 ![] bcast_S_S16384x64 (constant S_ .f32 0x00000000#32))

def h3 (x : FVec Ideal S16384x64 .f32) (w : FVec Ideal S32x64 .f32) (b : FVec Ideal S32 .f32) : FVec Ideal S16384x32 .f32 :=
  maximumf (addf (Host.dotGeneral dot_S16384x64_S64x32_S16384x32_1_0_0_1_n_n none x (transpose S64x32 [1, 0] w transposes_S32x64_S64x32_1_0)) (broadcastInDim S16384x32 ![0, 1] bcast_S1x32_S16384x32_0_1 (broadcastInDim S1x32 ![1] bcast_S32_S1x32_1 b))) (broadcastInDim S16384x32 ![] bcast_S_S16384x32 (constant S_ .f32 0x00000000#32))

def h4 (x : FVec Ideal S16384x32 .f32) (w : FVec Ideal S16x32 .f32) (b : FVec Ideal S16 .f32) : FVec Ideal S16384x16 .f32 :=
  maximumf (addf (Host.dotGeneral dot_S16384x32_S32x16_S16384x16_1_0_0_1_n_n none x (transpose S32x16 [1, 0] w transposes_S16x32_S32x16_1_0)) (broadcastInDim S16384x16 ![0, 1] bcast_S1x16_S16384x16_0_1 (broadcastInDim S1x16 ![1] bcast_S16_S1x16_1 b))) (broadcastInDim S16384x16 ![] bcast_S_S16384x16 (constant S_ .f32 0x00000000#32))

def h5 (x : FVec Ideal S16384x16 .f32) (w : FVec Ideal S8x16 .f32) (b : FVec Ideal S8 .f32) : FVec Ideal S16384x8 .f32 :=
  maximumf (addf (Host.dotGeneral dot_S16384x16_S16x8_S16384x8_1_0_0_1_n_n none x (transpose S16x8 [1, 0] w transposes_S8x16_S16x8_1_0)) (broadcastInDim S16384x8 ![0, 1] bcast_S1x8_S16384x8_0_1 (broadcastInDim S1x8 ![1] bcast_S8_S1x8_1 b))) (broadcastInDim S16384x8 ![] bcast_S_S16384x8 (constant S_ .f32 0x00000000#32))

def h6 (x : FVec Ideal S16384x8 .f32) (w : FVec Ideal S1x8 .f32) (b : FVec Ideal S1 .f32) : FVec Ideal S16384x1 .f32 :=
  maximumf (addf (Host.dotGeneral dot_S16384x8_S8x1_S16384x1_1_0_0_1_n_n none x (transpose S8x1 [1, 0] w transposes_S1x8_S8x1_1_0)) (broadcastInDim S16384x1 ![0, 1] bcast_S1x1_S16384x1_0_1 (broadcastInDim S1x1 ![1] bcast_S1_S1x1_1 b))) (broadcastInDim S16384x1 ![] bcast_S_S16384x1 (constant S_ .f32 0x00000000#32))

set_option maxRecDepth 16384

theorem h1_at (u g w b) (r : Fin 16384) (n : Fin 128) :
    h1 u g w b (ix2 r n) = first (fun k => u (ix2 r k)) (fun k => g (ix2 r k)) (fun n k => w (ix2 n k)) (fun n => b (ix1 n)) n := by
  pointwise [h1, first]

theorem h2_at (x w b) (r : Fin 16384) (n : Fin 64) :
    h2 x w b (ix2 r n) = layer (fun k => x (ix2 r k)) (fun n k => w (ix2 n k)) (fun n => b (ix1 n)) n := by
  pointwise [h2, layer]

theorem h3_at (x w b) (r : Fin 16384) (n : Fin 32) :
    h3 x w b (ix2 r n) = layer (fun k => x (ix2 r k)) (fun n k => w (ix2 n k)) (fun n => b (ix1 n)) n := by
  pointwise [h3, layer]

theorem h4_at (x w b) (r : Fin 16384) (n : Fin 16) :
    h4 x w b (ix2 r n) = layer (fun k => x (ix2 r k)) (fun n k => w (ix2 n k)) (fun n => b (ix1 n)) n := by
  pointwise [h4, layer]

theorem h5_at (x w b) (r : Fin 16384) (n : Fin 8) :
    h5 x w b (ix2 r n) = layer (fun k => x (ix2 r k)) (fun n k => w (ix2 n k)) (fun n => b (ix1 n)) n := by
  pointwise [h5, layer]

theorem h6_at (x w b) (r : Fin 16384) (n : Fin 1) :
    h6 x w b (ix2 r n) = layer (fun k => x (ix2 r k)) (fun n k => w (ix2 n k)) (fun n => b (ix1 n)) n := by
  obtain rfl : n = 0 := Subsingleton.elim _ _
  pointwise [h6, layer]

/-- The reference's result from the rows looked up, the weights and the biases. -/
def out (u g : FVec Ideal S16384x64 .f32) (a4 : FVec Ideal S128x128 .f32) (a5 : FVec Ideal S128 .f32) (a6 : FVec Ideal S64x128 .f32) (a7 : FVec Ideal S64 .f32) (a8 : FVec Ideal S32x64 .f32) (a9 : FVec Ideal S32 .f32)
    (a10 : FVec Ideal S16x32 .f32) (a11 : FVec Ideal S16 .f32) (a12 : FVec Ideal S8x16 .f32) (a13 : FVec Ideal S8 .f32) (a14 : FVec Ideal S1x8 .f32) (a15 : FVec Ideal S1 .f32) : FVec Ideal S16384 .f32 :=
  shapeCast S16384 (h6 (h5 (h4 (h3 (h2 (h1 u g a4 a5) a6 a7) a8 a9) a10 a11) a12 a13) a14 a15) shapeCasts_S16384x1_S16384

theorem out_at (u g a4 a5 a6 a7 a8 a9 a10 a11 a12 a13 a14 a15) (r : Fin 16384) :
    out u g a4 a5 a6 a7 a8 a9 a10 a11 a12 a13 a14 a15 (ix1 r) = net (fun k => u (ix2 r k)) (fun k => g (ix2 r k)) (fun n k => a4 (ix2 n k)) (fun n => a5 (ix1 n)) (fun n k => a6 (ix2 n k)) (fun n => a7 (ix1 n))
      (fun n k => a8 (ix2 n k)) (fun n => a9 (ix1 n)) (fun n k => a10 (ix2 n k)) (fun n => a11 (ix1 n)) (fun n k => a12 (ix2 n k)) (fun n => a13 (ix1 n)) (fun n k => a14 (ix2 n k)) (fun n => a15 (ix1 n)) := by
  have e : out u g a4 a5 a6 a7 a8 a9 a10 a11 a12 a13 a14 a15 (ix1 r) = h6 (h5 (h4 (h3 (h2 (h1 u g a4 a5) a6 a7) a8 a9) a10 a11) a12 a13) a14 a15 (ix2 r 0) := by
    pointwise [out]
  rw [e, h6_at]
  simp only [h5_at, h4_at, h3_at, h2_at, h1_at]
  rfl

end Cert.ReferenceIdeal.Rv

end

end
-- ==== Proof.RVal.lean ====
/- The reference's result, row by row: the perceptron of the two rows that the indices name. -/
module

public import proofs.«01_k».proof.Proof.Gen.ReferenceIdeal.Run
public import proofs.«01_k».proof.Proof.RTake
public import proofs.«01_k».proof.Proof.RNet

@[expose] public section

noncomputable section

namespace Cert.ReferenceIdeal.Rv

open Cert.ReferenceIdeal Cert.ReferenceIdeal.Gen Cert.Net
open Idealize.ShloMosaic Idealize.ShloMosaic.TcCoe

set_option maxRecDepth 16384

variable (m : (ℓ : Loc nD τ sig) → Buf (Elt Ideal) ℓ) (c : Dev nD)

theorem res_eq : Value.res_main_v45 (F := Ideal) m c = out (take0 (m ((c.tc : Thread nD τ).loc main_arg0)) (m ((c.tc : Thread nD τ).loc main_arg2))) (take1 (m ((c.tc : Thread nD τ).loc main_arg1)) (m ((c.tc : Thread nD τ).loc main_arg3)))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := rfl

theorem result (h0 : ∀ p, ((m ((c.tc : Thread nD τ).loc main_arg0) : IVec S16384 32) p).toNat < 1000000) (h1 : ∀ p, ((m ((c.tc : Thread nD τ).loc main_arg1) : IVec S16384 32) p).toNat < 100000) (R : Fin 16384) :
    (Value.res_main_v45 (F := Ideal) m c : S16384.Idx → EReal) (ix1 R)
      = net (fun k => (m ((c.tc : Thread nD τ).loc main_arg2) : S1000000x64.Idx → EReal) (ix2 (⟨((m ((c.tc : Thread nD τ).loc main_arg0) : IVec S16384 32) (ix1 R)).toNat, h0 _⟩ : Fin 1000000) k))
          (fun k => (m ((c.tc : Thread nD τ).loc main_arg3) : S100000x64.Idx → EReal) (ix2 (⟨((m ((c.tc : Thread nD τ).loc main_arg1) : IVec S16384 32) (ix1 R)).toNat, h1 _⟩ : Fin 100000) k))
          (fun n k => (m ((c.tc : Thread nD τ).loc main_arg4) : S128x128.Idx → EReal) (ix2 n k)) (fun n => (m ((c.tc : Thread nD τ).loc main_arg5) : S128.Idx → EReal) (ix1 n)) (fun n k => (m ((c.tc : Thread nD τ).loc main_arg6) : S64x128.Idx → EReal) (ix2 n k)) (fun n => (m ((c.tc : Thread nD τ).loc main_arg7) : S64.Idx → EReal) (ix1 n)) (fun n k => (m ((c.tc : Thread nD τ).loc main_arg8) : S32x64.Idx → EReal) (ix2 n k)) (fun n => (m ((c.tc : Thread nD τ).loc main_arg9) : S32.Idx → EReal) (ix1 n))
          (fun n k => (m ((c.tc : Thread nD τ).loc main_arg10) : S16x32.Idx → EReal) (ix2 n k)) (fun n => (m ((c.tc : Thread nD τ).loc main_arg11) : S16.Idx → EReal) (ix1 n)) (fun n k => (m ((c.tc : Thread nD τ).loc main_arg12) : S8x16.Idx → EReal) (ix2 n k)) (fun n => (m ((c.tc : Thread nD τ).loc main_arg13) : S8.Idx → EReal) (ix1 n)) (fun n k => (m ((c.tc : Thread nD τ).loc main_arg14) : S1x8.Idx → EReal) (ix2 n k)) (fun n => (m ((c.tc : Thread nD τ).loc main_arg15) : S1.Idx → EReal) (ix1 n)) := by
  rw [res_eq]
  refine (out_at _ _ _ _ _ _ _ _ _ _ _ _ _ _ R).trans ?_
  have e0 := funext fun k : Fin 64 => take0_at (F := Ideal) (m ((c.tc : Thread nD τ).loc main_arg0)) (m ((c.tc : Thread nD τ).loc main_arg2)) h0 R k
  have e1 := funext fun k : Fin 64 => take1_at (F := Ideal) (m ((c.tc : Thread nD τ).loc main_arg1)) (m ((c.tc : Thread nD τ).loc main_arg3)) h1 R k
  exact congrArg₂ (fun u g => net u g (fun n k => (m ((c.tc : Thread nD τ).loc main_arg4) : S128x128.Idx → EReal) (ix2 n k)) (fun n => (m ((c.tc : Thread nD τ).loc main_arg5) : S128.Idx → EReal) (ix1 n)) (fun n k => (m ((c.tc : Thread nD τ).loc main_arg6) : S64x128.Idx → EReal) (ix2 n k)) (fun n => (m ((c.tc : Thread nD τ).loc main_arg7) : S64.Idx → EReal) (ix1 n)) (fun n k => (m ((c.tc : Thread nD τ).loc main_arg8) : S32x64.Idx → EReal) (ix2 n k)) (fun n => (m ((c.tc : Thread nD τ).loc main_arg9) : S32.Idx → EReal) (ix1 n))
          (fun n k => (m ((c.tc : Thread nD τ).loc main_arg10) : S16x32.Idx → EReal) (ix2 n k)) (fun n => (m ((c.tc : Thread nD τ).loc main_arg11) : S16.Idx → EReal) (ix1 n)) (fun n k => (m ((c.tc : Thread nD τ).loc main_arg12) : S8x16.Idx → EReal) (ix2 n k)) (fun n => (m ((c.tc : Thread nD τ).loc main_arg13) : S8.Idx → EReal) (ix1 n)) (fun n k => (m ((c.tc : Thread nD τ).loc main_arg14) : S1x8.Idx → EReal) (ix2 n k)) (fun n => (m ((c.tc : Thread nD τ).loc main_arg15) : S1.Idx → EReal) (ix1 n))) e0 e1

end Cert.ReferenceIdeal.Rv

end

end
-- ==== Proof.Algebraic.lean ====
/- The value claim: of the same arguments, the indices in range, the kernel at the ideal instance and the reference
   end with the same result. -/
module

public import proofs.«01_k».proof.Defs
public import proofs.«01_k».proof.Proof.IVal
public import proofs.«01_k».proof.Proof.RVal
public import proofs.«01_k».proof.Proof.Ranges

@[expose] public section

noncomputable section

namespace Cert.Algebraic

open Idealize.ShloMosaic Idealize.SL.Sem

/-- Every index of the result is a row. -/
theorem row_of (i : Cert.KernelIdeal.S16384.Idx) : ∃ R : Fin 16384, i = ix1 R :=
  ⟨i 0, by funext a; fin_cases a; rfl⟩

theorem algebraic : Cert.algebraic_KernelIdeal_ReferenceIdeal := by
  intro m g m' g' hpre hag
  haveI := Cert.KernelIdeal.Iv.neIdeal
  have r0 := fun d p => (Cert.Ranges.ranges (hpre d)).1 p
  have r1 := fun d p => (Cert.Ranges.ranges (hpre d)).2 p
  refine ⟨fun c => Cert.ReferenceIdeal.Value.res_main_v45 m' c, ?_, ?_⟩
  · refine (θ_run _ _ _).mono (fun r h => fun c => ⟨?_, Cert.KernelIdeal.Pf.args m c (h.1 c)⟩) (Cert.KernelIdeal.Pf.run_main m g r0 r1)
    obtain ⟨a0, a1, a2, a3, a4, a5, a6, a7, a8, a9, a10, a11, a12, a13, a14, a15⟩ := hag c
    funext i
    obtain ⟨R, rfl⟩ := row_of i
    refine (Cert.KernelIdeal.Iv.result m c (r0 c) (r1 c) (h.1 c) R).trans ?_
    refine Eq.trans ?_ (Cert.ReferenceIdeal.Rv.result m' c (by rw [a0]; exact r0 c) (by rw [a1]; exact r1 c) R).symm
    simp only [a0, a1, a2, a3, a4, a5, a6, a7, a8, a9, a10, a11, a12, a13, a14, a15]
  · exact (θ_run _ _ _).mono (fun r h => fun c => ⟨(h c).1, (h c).2⟩) (Cert.ReferenceIdeal.Value.run m' g')

end Cert.Algebraic

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_ids_in_range.Gen.facts,
    Cert.Frames.frame_k, Cert.Frames.frame_i, Cert.Frames.frame_r, Cert.Frames.frame_r_pre, trivial, Cert.Algebraic.algebraic⟩

end Cert.Proof

end
